-- ==== Defs.lean ====
def Pre_Kernel [hPre_rows_fit : Cert.Pre_rows_fit.Facts] (m : (ℓ : Loc Cert.Kernel.nD Cert.Kernel.τ Cert.Kernel.sig) → Buf (Elt Bits) ℓ) : Prop :=
  ∀ c : Dev Cert.Kernel.nD,
    (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_fit : Cert.Pre_rows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_fit [hPre_rows_fit : Cert.Pre_rows_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_norms_nonzero [hPre_norms_nonzero : Cert.Pre_norms_nonzero.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_norms_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_norms_nonzero [hPre_norms_nonzero : Cert.Pre_norms_nonzero.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_norms_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_rows_fit : Cert.Pre_rows_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_fit [hReferenceIdeal : Cert.ReferenceIdeal.Facts] [hPre_rows_fit : Cert.Pre_rows_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Kernel2Ideal_pre_norms_nonzero [hKernel2Ideal : Cert.Kernel2Ideal.Facts] [hPre_norms_nonzero : Cert.Pre_norms_nonzero.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_norms_nonzero m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_norms_nonzero [hReference2Ideal : Cert.Reference2Ideal.Facts] [hPre_norms_nonzero : Cert.Pre_norms_nonzero.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_norms_nonzero m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_on_tokens_pre_norms_nonzero [hKernel2Ideal : Cert.Kernel2Ideal.Facts] [hReference2Ideal : Cert.Reference2Ideal.Facts] [hPre_norms_nonzero : Cert.Pre_norms_nonzero.Facts] [hOn_tokens : Cert.On_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_norms_nonzero m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![32768, 1024]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).1 i = 1#1 → r.2.mem ((c.tc : Thread Cert.Kernel2Ideal.nD Cert.Kernel2Ideal.τ).loc Cert.Kernel2Ideal.main_v13_0) i = v0 c i)
          ∧ (∀ i : (⟨3, ![64, 8, 512]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.1 i = 1#1 → r.2.mem ((c.tc : Thread Cert.Kernel2Ideal.nD Cert.Kernel2Ideal.τ).loc Cert.Kernel2Ideal.main_v13_1) i = v1 c i)
          ∧ (∀ i : (⟨3, ![64, 8, 512]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.1 i = 1#1 → r.2.mem ((c.tc : Thread Cert.Kernel2Ideal.nD Cert.Kernel2Ideal.τ).loc Cert.Kernel2Ideal.main_v13_2) i = v2 c i)
          ∧ (∀ i : (⟨3, ![64, 32, 1]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2 i = 1#1 → r.2.mem ((c.tc : Thread Cert.Kernel2Ideal.nD Cert.Kernel2Ideal.τ).loc Cert.Kernel2Ideal.main_v13_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![32768, 1024]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).1 i = 1#1 → r.2.mem ((c.tc : Thread Cert.Reference2Ideal.nD Cert.Reference2Ideal.τ).loc Cert.Reference2Ideal.main_v84) i = v0 c i)
          ∧ (∀ i : (⟨3, ![64, 8, 512]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.1 i = 1#1 → r.2.mem ((c.tc : Thread Cert.Reference2Ideal.nD Cert.Reference2Ideal.τ).loc Cert.Reference2Ideal.main_v85) i = v1 c i)
          ∧ (∀ i : (⟨3, ![64, 8, 512]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.1 i = 1#1 → r.2.mem ((c.tc : Thread Cert.Reference2Ideal.nD Cert.Reference2Ideal.τ).loc Cert.Reference2Ideal.main_v86) i = v2 c i)
          ∧ (∀ i : (⟨3, ![64, 32, 1]⟩ : Shape).Idx, (Cert.On_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2 i = 1#1 → r.2.mem ((c.tc : Thread Cert.Reference2Ideal.nD Cert.Reference2Ideal.τ).loc Cert.Reference2Ideal.main_v87) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  IdealRules.bf16_pair.PackStatement Cert.Kernel3Ideal.S256x512
  ∧ IdealRules.bf16_pair.Statement Cert.Kernel3Ideal.S1x512x512 Cert.Kernel3Ideal.S1x256x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_rows_fit : Cert.Pre_rows_fit.Facts) (hPre_norms_nonzero : Cert.Pre_norms_nonzero.Facts) (hOn_tokens : Cert.On_tokens.Facts),
    quiescent_Kernel (hKernel := hKernel) (hPre_rows_fit := hPre_rows_fit)
    ∧ quiescent_KernelIdeal (hKernelIdeal := hKernelIdeal) (hPre_rows_fit := hPre_rows_fit)
    ∧ quiescent_ReferenceIdeal (hReferenceIdeal := hReferenceIdeal)
    ∧ quiescent_ReferenceIdeal_pre_rows_fit (hReferenceIdeal := hReferenceIdeal) (hPre_rows_fit := hPre_rows_fit)
    ∧ quiescent_Kernel2 (hKernel2 := hKernel2)
    ∧ quiescent_Kernel2Ideal (hKernel2Ideal := hKernel2Ideal)
    ∧ quiescent_Kernel2Ideal_pre_norms_nonzero (hKernel2Ideal := hKernel2Ideal) (hPre_norms_nonzero := hPre_norms_nonzero)
    ∧ quiescent_Reference2Ideal (hReference2Ideal := hReference2Ideal)
    ∧ quiescent_Reference2Ideal_pre_norms_nonzero (hReference2Ideal := hReference2Ideal) (hPre_norms_nonzero := hPre_norms_nonzero)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_rows_fit := hPre_rows_fit)
    ∧ preserves_Kernel2_Kernel2Ideal
    ∧ algebraic_Kernel2Ideal_Reference2Ideal_on_tokens_pre_norms_nonzero (hKernel2Ideal := hKernel2Ideal) (hReference2Ideal := hReference2Ideal) (hPre_norms_nonzero := hPre_norms_nonzero) (hOn_tokens := hOn_tokens)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_tokens.lean ====
abbrev S32768x512 : Shape := ⟨2, ![32768, 512]⟩
abbrev S1x512 : Shape := ⟨2, ![1, 512]⟩
abbrev S32768x1024 : Shape := ⟨2, ![32768, 1024]⟩
abbrev S1024 : Shape := ⟨1, ![1024]⟩
abbrev S512 : Shape := ⟨1, ![512]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S64x8x512 : Shape := ⟨3, ![64, 8, 512]⟩
abbrev S64x32x1 : Shape := ⟨3, ![64, 32, 1]⟩

class Facts : Prop where
  bcast_S_S32768x1024 : S_.BroadcastsInDim S32768x1024 (![] : Fin 0 → Fin S32768x1024.rank)
  bcast_S_S64x8x512 : S_.BroadcastsInDim S64x8x512 (![] : Fin 0 → Fin S64x8x512.rank)
  bcast_S_S64x32x1 : S_.BroadcastsInDim S64x32x1 (![] : Fin 0 → Fin S64x32x1.rank)

variable [Facts]

def fn {F : FTy → Type} [FloatOps F] (main_arg0 : FVec F S32768x512 .f32) (main_arg1 : FVec F S32768x512 .f32) (main_arg2 : FVec F S1x512 .f32) (main_arg3 : FVec F S32768x512 .f32) (main_arg4 : FVec F S32768x512 .f32) (main_arg5 : FVec F S32768x1024 .f32) (main_arg6 : FVec F S1024 .f32) (main_arg7 : FVec F S1024 .f32) (main_arg8 : FVec F S512 .f32) (main_arg9 : FVec F S512 .f32) (main_arg10 : FVec F S512 .f32) (main_arg11 : FVec F S1024x1024 .f32) (main_arg12 : FVec F S1024 .f32) (main_arg13 : FVec F S1024 .f32) (main_arg14 : FVec F S1024 .f32) (main_arg15 : FVec F S1024x32 .f32) (main_arg16 : FVec F S32 .f32) : IVec S32768x1024 1 × IVec S64x8x512 1 × IVec S64x8x512 1 × IVec S64x32x1 1 :=
  let main_c : IVec S_ 1 := constantI S_ 1 1#1
  let main_v0 : IVec S32768x1024 1 := broadcastInDim S32768x1024 ![] bcast_S_S32768x1024 main_c
  let main_c_0 : IVec S_ 1 := constantI S_ 1 0#1
  let main_v1 : IVec S64x8x512 1 := broadcastInDim S64x8x512 ![] bcast_S_S64x8x512 main_c_0
  let main_c_1 : IVec S_ 1 := constantI S_ 1 0#1
  let main_v2 : IVec S64x8x512 1 := broadcastInDim S64x8x512 ![] bcast_S_S64x8x512 main_c_1
  let main_c_2 : IVec S_ 1 := constantI S_ 1 0#1
  let main_v3 : IVec S64x32x1 1 := broadcastInDim S64x32x1 ![] bcast_S_S64x32x1 main_c_2
  (main_v0, main_v1, main_v2, main_v3)
-- ==== Pre_norms_nonzero.lean ====
abbrev S32768x512 : Shape := ⟨2, ![32768, 512]⟩
abbrev S1x512 : Shape := ⟨2, ![1, 512]⟩
abbrev S32768x1024 : Shape := ⟨2, ![32768, 1024]⟩
abbrev S1024 : Shape := ⟨1, ![1024]⟩
abbrev S512 : Shape := ⟨1, ![512]⟩
abbrev S1024x1024 : Shape := ⟨2, ![1024, 1024]⟩
abbrev S1024x32 : Shape := ⟨2, ![1024, 32]⟩
abbrev S32 : Shape := ⟨1, ![32]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel

variable [Facts]

def fn {F : FTy → Type} [FloatOps F] (main_arg0 : FVec F S32768x512 .f32) (main_arg1 : FVec F S32768x512 .f32) (main_arg2 : FVec F S1x512 .f32) (main_arg3 : FVec F S32768x512 .f32) (main_arg4 : FVec F S32768x512 .f32) (main_arg5 : FVec F S32768x1024 .f32) (main_arg6 : FVec F S1024 .f32) (main_arg7 : FVec F S1024 .f32) (main_arg8 : FVec F S512 .f32) (main_arg9 : FVec F S512 .f32) (main_arg10 : FVec F S512 .f32) (main_arg11 : FVec F S1024x1024 .f32) (main_arg12 : FVec F S1024 .f32) (main_arg13 : FVec F S1024 .f32) (main_arg14 : FVec F S1024 .f32) (main_arg15 : FVec F S1024x32 .f32) (main_arg16 : FVec F S32 .f32) : IVec S_ 1 :=
  let main_cst : FVec F S_ .f32 := constant S_ .f32 0x00000000#32
  let main_v0 : FVec F S1x512 .f32 := broadcastInDim S1x512 ![] bcast_S_S1x512 main_cst
  let main_v1 : IVec S1x512 1 := cmpf .une main_arg2 main_v0
  let main_c : IVec S_ 1 := constantI S_ 1 1#1
  let main_v2 : IVec S_ 1 := (fun x v => Host.reduce IntOp.andi x v reducesTo_S1x512_S_d0_1 h_S_) main_v1 main_c
  main_v2
-- ==== Pre_rows_fit.lean ====
abbrev S32 : Shape := ⟨1, ![32]⟩
abbrev S259072x1024 : Shape := ⟨2, ![259072, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn_part1 {F : FTy → Type} [FloatOps F] (main_arg0 : IVec S32 32) (main_v12 : IVec S_ 1) (main_v14 : IVec S_ 1) : IVec S_ 1 :=
  let main_v15 : IVec S_ 1 := andi main_v12 main_v14
  let main_c_8 : IVec S_ 32 := constantI S_ 32 0#32
  let main_v16 : IVec S_ 32 := (fun x v => Host.reduce IntOp.addi x v reducesTo_S32_S_d0 h_S_) main_arg0 main_c_8
  let main_c_9 : IVec S_ 32 := constantI S_ 32 1#32
  let main_v17 : IVec S_ 1 := cmpi .sge main_v16 main_c_9
  let main_v18 : IVec S_ 1 := andi main_v15 main_v17
  main_v18

def fn {F : FTy → Type} [FloatOps F] (main_arg0 : IVec S32 32) (main_arg1 : FVec F S259072x1024 .bf16) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 511#32
  let main_v0 : IVec S32 32 := broadcastInDim S32 ![] bcast_S_S32 main_c
  let main_v1 : IVec S32 32 := addi main_arg0 main_v0
  let main_c_0 : IVec S_ 32 := constantI S_ 32 512#32
  let main_v2 : IVec S32 32 := broadcastInDim S32 ![] bcast_S_S32 main_c_0
  let main_v3 : IVec S32 32 := Host.divsi main_v1 main_v2
  let main_c_1 : IVec S_ 32 := constantI S_ 32 512#32
  let main_v4 : IVec S32 32 := broadcastInDim S32 ![] bcast_S_S32 main_c_1
  let main_v5 : IVec S32 32 := muli main_v3 main_v4
  let main_c_2 : IVec S_ 32 := constantI S_ 32 0#32
  let main_v6 : IVec S32 32 := broadcastInDim S32 ![] bcast_S_S32 main_c_2
  let main_v7 : IVec S32 1 := cmpi .sge main_arg0 main_v6
  let main_c_3 : IVec S_ 1 := constantI S_ 1 1#1
  let main_v8 : IVec S_ 1 := (fun x v => Host.reduce IntOp.andi x v reducesTo_S32_S_d0 h_S_) main_v7 main_c_3
  let main_c_4 : IVec S_ 32 := constantI S_ 32 259072#32
  let main_v9 : IVec S32 32 := broadcastInDim S32 ![] bcast_S_S32 main_c_4
  let main_v10 : IVec S32 1 := cmpi .sle main_arg0 main_v9
  let main_c_5 : IVec S_ 1 := constantI S_ 1 1#1
  let main_v11 : IVec S_ 1 := (fun x v => Host.reduce IntOp.andi x v reducesTo_S32_S_d0 h_S_) main_v10 main_c_5
  let main_v12 : IVec S_ 1 := andi main_v8 main_v11
  let main_c_6 : IVec S_ 32 := constantI S_ 32 0#32
  let main_v13 : IVec S_ 32 := (fun x v => Host.reduce IntOp.addi x v reducesTo_S32_S_d0 h_S_) main_v5 main_c_6
  let main_c_7 : IVec S_ 32 := constantI S_ 32 259072#32
  let main_v14 : IVec S_ 1 := cmpi .sle main_v13 main_c_7
  fn_part1 (F := F) main_arg0 main_v12 main_v14
-- ==== Kernel.lean ====
abbrev S32 : Shape := ⟨1, ![32]⟩
abbrev S259072x1024 : Shape := ⟨2, ![259072, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S506 : Shape := ⟨1, ![506]⟩
abbrev S506x1 : Shape := ⟨2, ![506, 1]⟩
abbrev S1x32 : Shape := ⟨2, ![1, 32]⟩
abbrev S506x32 : Shape := ⟨2, ![506, 32]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 73
  | .vmem => 14
  | .smem => 2
  | _ => 0

abbrev bufTy : (tb : Table) → Fin (tcTables nBuf tb) → BufTy
  | .hbm, ⟨0, _⟩ => ⟨S32, .i32⟩
  | .hbm, ⟨1, _⟩ => ⟨S259072x1024, .bf16⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S32, .i32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i1⟩
  | .hbm, ⟨49, _⟩ => ⟨S32, .i1⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S506, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S506, .i32⟩
  | .hbm, ⟨59, _⟩ => ⟨S506, .i32⟩
  | .hbm, ⟨60, _⟩ => ⟨S506x1, .i32⟩
  | .hbm, ⟨61, _⟩ => ⟨S1x32, .i32⟩
  | .hbm, ⟨62, _⟩ => ⟨S506x32, .i32⟩
  | .hbm, ⟨63, _⟩ => ⟨S506x32, .i32⟩
  | .hbm, ⟨64, _⟩ => ⟨S506x32, .i1⟩
  | .hbm, ⟨65, _⟩ => ⟨S506x32, .i32⟩
  | .hbm, ⟨66, _⟩ => ⟨S_, .i32⟩
  | .hbm, ⟨67, _⟩ => ⟨S506, .i32⟩
  | .hbm, ⟨68, _⟩ => ⟨S_, .i32⟩
  | .hbm, ⟨69, _⟩ => ⟨S506, .i32⟩
  | .hbm, ⟨70, _⟩ => ⟨S32x1x2048, .f32⟩
  | .hbm, ⟨71, _⟩ => ⟨S32x1x1024, .f32⟩
  | .hbm, ⟨72, _⟩ => ⟨S259072x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S506, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v8 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_5 : Ref sig .tc := ⟨.hbm, 66, rfl⟩
abbrev main_v21 : Ref sig .tc := ⟨.hbm, 67, rfl⟩
abbrev main_c_6 : Ref sig .tc := ⟨.hbm, 68, rfl⟩
abbrev main_v22 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v23 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![506], ![false]⟩

abbrev pre0 : Pipeline.Prefetch sig := ⟨2, ![main_v23.idx, main_v9.idx], fun | 0 => main_v23.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S506.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S506) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S506.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S506) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S506.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S506) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S506.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S506) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32 : Shape := ⟨1, ![32]⟩
abbrev S259072x1024 : Shape := ⟨2, ![259072, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S506 : Shape := ⟨1, ![506]⟩
abbrev S1x32 : Shape := ⟨2, ![1, 32]⟩
abbrev S506x1 : Shape := ⟨2, ![506, 1]⟩
abbrev S506x32 : Shape := ⟨2, ![506, 32]⟩
abbrev S506x512x1024 : Shape := ⟨3, ![506, 512, 1024]⟩
abbrev S506x1024x2048 : Shape := ⟨3, ![506, 1024, 2048]⟩
abbrev S506x512x2048 : Shape := ⟨3, ![506, 512, 2048]⟩
abbrev S506x2048 : Shape := ⟨2, ![506, 2048]⟩
abbrev S506x1x2048 : Shape := ⟨3, ![506, 1, 2048]⟩
abbrev S506x1024x1024 : Shape := ⟨3, ![506, 1024, 1024]⟩
abbrev S506x1024 : Shape := ⟨2, ![506, 1024]⟩
abbrev S506x1x1024 : Shape := ⟨3, ![506, 1, 1024]⟩
abbrev S1 : Shape := ⟨1, ![1]⟩
abbrev S506x1x1 : Shape := ⟨3, ![506, 1, 1]⟩

abbrev nBuf : Space → Nat
  | .hbm => 138
  | .vmem => 0
  | .smem => 0
  | _ => 0

abbrev hbmTy0_0 (i : Nat) : BufTy := match i % 128 with
  | 0 => ⟨S32, .i32⟩
  | 1 => ⟨S259072x1024, .bf16⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S506, .i32⟩
  | 37 => ⟨S_, .i32⟩
  | 38 => ⟨S506, .i32⟩
  | 39 => ⟨S506, .i32⟩
  | 40 => ⟨S1x32, .i32⟩
  | 41 => ⟨S506x1, .i32⟩
  | 42 => ⟨S506x32, .i32⟩
  | 43 => ⟨S506x32, .i32⟩
  | 44 => ⟨S506x32, .i1⟩
  | 45 => ⟨S506x32, .i32⟩
  | 46 => ⟨S_, .i32⟩
  | 47 => ⟨S506, .i32⟩
  | 48 => ⟨S_, .i32⟩
  | 49 => ⟨S506, .i32⟩
  | 50 => ⟨S506, .i32⟩
  | 51 => ⟨S259072x1024, .f32⟩
  | 52 => ⟨S506x512x1024, .f32⟩
  | 53 => ⟨S_, .i32⟩
  | 54 => ⟨S506, .i32⟩
  | 55 => ⟨S506, .i1⟩
  | 56 => ⟨S_, .i32⟩
  | 57 => ⟨S506, .i32⟩
  | 58 => ⟨S506, .i32⟩
  | 59 => ⟨S506, .i32⟩
  | 60 => ⟨S506x1, .i32⟩
  | 61 => ⟨S506x1024x2048, .f32⟩
  | 62 => ⟨S506x512x2048, .f32⟩
  | 63 => ⟨S_, .i32⟩
  | 64 => ⟨S506, .i32⟩
  | 65 => ⟨S506, .i1⟩
  | 66 => ⟨S_, .i32⟩
  | 67 => ⟨S506, .i32⟩
  | 68 => ⟨S506, .i32⟩
  | 69 => ⟨S506, .i32⟩
  | 70 => ⟨S506x1, .i32⟩
  | 71 => ⟨S506x2048, .f32⟩
  | 72 => ⟨S506x1x2048, .f32⟩
  | 73 => ⟨S506x512x2048, .f32⟩
  | 74 => ⟨S506x512x2048, .f32⟩
  | 75 => ⟨S506x512x1024, .f32⟩
  | 76 => ⟨S_, .f32⟩
  | 77 => ⟨S506x512x1024, .f32⟩
  | 78 => ⟨S506x512x1024, .f32⟩
  | 79 => ⟨S506x512x1024, .f32⟩
  | 80 => ⟨S_, .f32⟩
  | 81 => ⟨S_, .f32⟩
  | 82 => ⟨S_, .f32⟩
  | 83 => ⟨S506x512x1024, .f32⟩
  | 84 => ⟨S506x512x1024, .f32⟩
  | 85 => ⟨S_, .f32⟩
  | 86 => ⟨S506x512x1024, .f32⟩
  | 87 => ⟨S506x512x1024, .f32⟩
  | 88 => ⟨S_, .f32⟩
  | 89 => ⟨S506x512x1024, .f32⟩
  | 90 => ⟨S506x512x1024, .f32⟩
  | 91 => ⟨S_, .f32⟩
  | 92 => ⟨S506x512x1024, .f32⟩
  | 93 => ⟨S506x512x1024, .f32⟩
  | 94 => ⟨S506x512x1024, .f32⟩
  | 95 => ⟨S506x512x1024, .f32⟩
  | 96 => ⟨S_, .f32⟩
  | 97 => ⟨S506x512x1024, .f32⟩
  | 98 => ⟨S506x512x1024, .f32⟩
  | 99 => ⟨S_, .f32⟩
  | 100 => ⟨S506x512x1024, .f32⟩
  | 101 => ⟨S506x512x1024, .f32⟩
  | 102 => ⟨S506x512x1024, .f32⟩
  | 103 => ⟨S506x512x1024, .f32⟩
  | 104 => ⟨S_, .i32⟩
  | 105 => ⟨S506, .i32⟩
  | 106 => ⟨S506, .i1⟩
  | 107 => ⟨S_, .i32⟩
  | 108 => ⟨S506, .i32⟩
  | 109 => ⟨S506, .i32⟩
  | 110 => ⟨S506, .i32⟩
  | 111 => ⟨S506x1, .i32⟩
  | 112 => ⟨S506x1024x1024, .f32⟩
  | 113 => ⟨S506x512x1024, .f32⟩
  | 114 => ⟨S_, .i32⟩
  | 115 => ⟨S506, .i32⟩
  | 116 => ⟨S506, .i1⟩
  | 117 => ⟨S_, .i32⟩
  | 118 => ⟨S506, .i32⟩
  | 119 => ⟨S506, .i32⟩
  | 120 => ⟨S506, .i32⟩
  | 121 => ⟨S506x1, .i32⟩
  | 122 => ⟨S506x1024, .f32⟩
  | 123 => ⟨S506x1x1024, .f32⟩
  | 124 => ⟨S506x512x1024, .f32⟩
  | 125 => ⟨S506x512x1024, .f32⟩
  | 126 => ⟨S1, .i32⟩
  | 127 => ⟨S_, .i32⟩
  | _ => ⟨S32, .i32⟩

abbrev hbmTy0_1 (i : Nat) : BufTy := match i % 128 with
  | 0 => ⟨S506, .i32⟩
  | 1 => ⟨S506, .i1⟩
  | 2 => ⟨S506x1x1, .i1⟩
  | 3 => ⟨S_, .f32⟩
  | 4 => ⟨S_, .f32⟩
  | 5 => ⟨S506x512x1024, .i1⟩
  | 6 => ⟨S506x512x1024, .f32⟩
  | 7 => ⟨S506x512x1024, .f32⟩
  | 8 => ⟨S259072x1024, .f32⟩
  | 9 => ⟨S259072x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_10 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v44 : Ref sig .tc := ⟨.hbm, 87, rfl⟩
abbrev main_cst_12 : Ref sig .tc := ⟨.hbm, 88, rfl⟩
abbrev main_v45 : Ref sig .tc := ⟨.hbm, 89, rfl⟩
abbrev main_v46 : Ref sig .tc := ⟨.hbm, 90, rfl⟩
abbrev main_cst_13 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_14 : Ref sig .tc := ⟨.hbm, 96, rfl⟩
abbrev main_v51 : Ref sig .tc := ⟨.hbm, 97, rfl⟩
abbrev main_v52 : Ref sig .tc := ⟨.hbm, 98, rfl⟩
abbrev main_cst_15 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_16 : Ref sig .tc := ⟨.hbm, 104, rfl⟩
abbrev main_v57 : Ref sig .tc := ⟨.hbm, 105, rfl⟩
abbrev main_v58 : Ref sig .tc := ⟨.hbm, 106, rfl⟩
abbrev main_c_17 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_18 : Ref sig .tc := ⟨.hbm, 114, rfl⟩
abbrev main_v65 : Ref sig .tc := ⟨.hbm, 115, rfl⟩
abbrev main_v66 : Ref sig .tc := ⟨.hbm, 116, rfl⟩
abbrev main_c_19 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_20 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]
-- ==== Kernel2.lean ====
abbrev S32768x512 : Shape := ⟨2, ![32768, 512]⟩
abbrev S1x512 : Shape := ⟨2, ![1, 512]⟩
abbrev S32768x1024 : Shape := ⟨2, ![32768, 1024]⟩
abbrev S1024 : Shape := ⟨1, ![1024]⟩
abbrev S512 : Shape := ⟨1, ![512]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1x1024 : Shape := ⟨2, ![1, 1024]⟩
abbrev S32x1024 : Shape := ⟨2, ![32, 1024]⟩
abbrev S32x1 : Shape := ⟨2, ![32, 1]⟩
abbrev S64x8x512 : Shape := ⟨3, ![64, 8, 512]⟩
abbrev S64x32x1 : Shape := ⟨3, ![64, 32, 1]⟩
abbrev S512x512 : Shape := ⟨2, ![512, 512]⟩
abbrev S512x1024 : Shape := ⟨2, ![512, 1024]⟩
abbrev S1x8x512 : Shape := ⟨3, ![1, 8, 512]⟩
abbrev S1x32x1 : Shape := ⟨3, ![1, 32, 1]⟩
abbrev S512x1 : Shape := ⟨2, ![512, 1]⟩
abbrev S32x512 : Shape := ⟨2, ![32, 512]⟩
abbrev S8x512 : Shape := ⟨2, ![8, 512]⟩
abbrev S4x512 : Shape := ⟨2, ![4, 512]⟩

abbrev nBuf : Space → Nat
  | .hbm => 35
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1x512, .f32⟩
  | .hbm, ⟨3, _⟩ => ⟨S32768x512, .f32⟩
  | .hbm, ⟨4, _⟩ => ⟨S32768x512, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x32, .f32⟩
  | .hbm, ⟨16, _⟩ => ⟨S32, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S32x1024, .f32⟩
  | .hbm, ⟨30, _⟩ => ⟨S32x1, .f32⟩
  | .hbm, ⟨31, _⟩ => ⟨S32768x1024, .f32⟩
  | .hbm, ⟨32, _⟩ => ⟨S64x8x512, .i32⟩
  | .hbm, ⟨33, _⟩ => ⟨S64x8x512, .f32⟩
  | .hbm, ⟨34, _⟩ => ⟨S64x32x1, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S32x1024, .f32⟩
  | .local _ .vmem, ⟨21, _⟩ => ⟨S32x1, .f32⟩
  | .local _ .vmem, ⟨22, _⟩ => ⟨S512x1024, .f32⟩
  | .local _ .vmem, ⟨23, _⟩ => ⟨S512x1024, .f32⟩
  | .local _ .vmem, ⟨24, _⟩ => ⟨S1x8x512, .i32⟩
  | .local _ .vmem, ⟨25, _⟩ => ⟨S1x8x512, .i32⟩
  | .local _ .vmem, ⟨26, _⟩ => ⟨S1x8x512, .f32⟩
  | .local _ .vmem, ⟨27, _⟩ => ⟨S1x8x512, .f32⟩
  | .local _ .vmem, ⟨28, _⟩ => ⟨S1x32x1, .i32⟩
  | .local _ .vmem, ⟨29, _⟩ => ⟨S1x32x1, .i32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x1 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S32768x512 : Shape := ⟨2, ![32768, 512]⟩
abbrev S1x512 : Shape := ⟨2, ![1, 512]⟩
abbrev S32768x1024 : Shape := ⟨2, ![32768, 1024]⟩
abbrev S1024 : Shape := ⟨1, ![1024]⟩
abbrev S512 : Shape := ⟨1, ![512]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S64x8x512 : Shape := ⟨3, ![64, 8, 512]⟩
abbrev S64x32x1 : Shape := ⟨3, ![64, 32, 1]⟩

abbrev nBuf : Space → Nat
  | .hbm => 125
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1x512, .f32⟩
  | .hbm, ⟨3, _⟩ => ⟨S32768x512, .f32⟩
  | .hbm, ⟨4, _⟩ => ⟨S32768x512, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x32, .f32⟩
  | .hbm, ⟨16, _⟩ => ⟨S32, .f32⟩
  | .hbm, ⟨17, _⟩ => ⟨S32768x512, .f32⟩
  | .hbm, ⟨18, _⟩ => ⟨S32768x512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x512, .f32⟩
  | .hbm, ⟨36, _⟩ => ⟨S32768x512, .f32⟩
  | .hbm, ⟨37, _⟩ => ⟨S1x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x512, .f32⟩
  | .hbm, ⟨52, _⟩ => ⟨S32768x512, .f32⟩
  | .hbm, ⟨53, _⟩ => ⟨S1x512, .f32⟩
  | .hbm, ⟨54, _⟩ => ⟨S32768x512, .f32⟩
  | .hbm, ⟨55, _⟩ => ⟨S32768x512, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S1x1024, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S32768x1024, .f32⟩
  | .hbm, ⟨101, _⟩ => ⟨S_, .f32⟩
  | .hbm, ⟨102, _⟩ => ⟨S32768, .f32⟩
  | .hbm, ⟨103, _⟩ => ⟨S32768x1, .f32⟩
  | .hbm, ⟨104, _⟩ => ⟨S_, .f32⟩
  | .hbm, ⟨105, _⟩ => ⟨S32768x1, .f32⟩
  | .hbm, ⟨106, _⟩ => ⟨S32768x1, .f32⟩
  | .hbm, ⟨107, _⟩ => ⟨S_, .f32⟩
  | .hbm, ⟨108, _⟩ => ⟨S32768x1, .f32⟩
  | .hbm, ⟨109, _⟩ => ⟨S32768x1, .f32⟩
  | .hbm, ⟨110, _⟩ => ⟨S32768x1, .f32⟩
  | .hbm, ⟨111, _⟩ => ⟨S32768x1024, .f32⟩
  | .hbm, ⟨112, _⟩ => ⟨S32768x1024, .f32⟩
  | .hbm, ⟨113, _⟩ => ⟨S1x1024, .f32⟩
  | .hbm, ⟨114, _⟩ => ⟨S32768x1024, .f32⟩
  | .hbm, ⟨115, _⟩ => ⟨S32768x1024, .f32⟩
  | .hbm, ⟨116, _⟩ => ⟨S1x1024, .f32⟩
  | .hbm, ⟨117, _⟩ => ⟨S32768x1024, .f32⟩
  | .hbm, ⟨118, _⟩ => ⟨S32768x1024, .f32⟩
  | .hbm, ⟨119, _⟩ => ⟨S_, .i32⟩
  | .hbm, ⟨120, _⟩ => ⟨S64x8x512, .i32⟩
  | .hbm, ⟨121, _⟩ => ⟨S_, .f32⟩
  | .hbm, ⟨122, _⟩ => ⟨S64x8x512, .f32⟩
  | .hbm, ⟨123, _⟩ => ⟨S_, .i32⟩
  | .hbm, ⟨124, _⟩ => ⟨S64x32x1, .i32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== Kernel3.lean ====
abbrev S2x16384x1024 : Shape := ⟨3, ![2, 16384, 1024]⟩
abbrev S128x256 : Shape := ⟨2, ![128, 256]⟩
abbrev S1024 : Shape := ⟨1, ![1024]⟩
abbrev S1024x2048 : Shape := ⟨2, ![1024, 2048]⟩
abbrev S2048 : Shape := ⟨1, ![2048]⟩
abbrev S3x1536 : Shape := ⟨2, ![3, 1536]⟩
abbrev S1536 : Shape := ⟨1, ![1536]⟩
abbrev S32768x1024 : Shape := ⟨2, ![32768, 1024]⟩
abbrev S1x1024 : Shape := ⟨2, ![1, 1024]⟩
abbrev S1x2048 : Shape := ⟨2, ![1, 2048]⟩
abbrev S1x1536 : Shape := ⟨2, ![1, 1536]⟩
abbrev S2x32768x512 : Shape := ⟨3, ![2, 32768, 512]⟩
abbrev S32768x512 : Shape := ⟨2, ![32768, 512]⟩
abbrev S1024x1024 : Shape := ⟨2, ![1024, 1024]⟩
abbrev S8x1024 : Shape := ⟨2, ![8, 1024]⟩
abbrev S1x2048x512 : Shape := ⟨3, ![1, 2048, 512]⟩
abbrev S1024x512 : Shape := ⟨2, ![1024, 512]⟩
abbrev S16x1024 : Shape := ⟨2, ![16, 1024]⟩
abbrev S16 : Shape := ⟨1, ![16]⟩
abbrev S16x1 : Shape := ⟨2, ![16, 1]⟩
abbrev S1024x1536 : Shape := ⟨2, ![1024, 1536]⟩
abbrev S16x1536 : Shape := ⟨2, ![16, 1536]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x128 : Shape := ⟨2, ![256, 128]⟩
abbrev S256x256 : Shape := ⟨2, ![256, 256]⟩
abbrev S1x1024x512 : Shape := ⟨3, ![1, 1024, 512]⟩
abbrev S1x256x512 : Shape := ⟨3, ![1, 256, 512]⟩
abbrev S1x512x512 : Shape := ⟨3, ![1, 512, 512]⟩
abbrev S256x1536 : Shape := ⟨2, ![256, 1536]⟩

abbrev nBuf : Space → Nat
  | .hbm => 17
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S128x256, .bf16⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S3x1536, .f32⟩
  | .hbm, ⟨7, _⟩ => ⟨S1536, .f32⟩
  | .hbm, ⟨8, _⟩ => ⟨S32768x1024, .f32⟩
  | .hbm, ⟨9, _⟩ => ⟨S1x1024, .f32⟩
  | .hbm, ⟨10, _⟩ => ⟨S1x1024, .f32⟩
  | .hbm, ⟨11, _⟩ => ⟨S1024x2048, .bf16⟩
  | .hbm, ⟨12, _⟩ => ⟨S1x2048, .f32⟩
  | .hbm, ⟨13, _⟩ => ⟨S1x1536, .f32⟩
  | .hbm, ⟨14, _⟩ => ⟨S2x32768x512, .bf16⟩
  | .hbm, ⟨15, _⟩ => ⟨S32768x512, .f32⟩
  | .hbm, ⟨16, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1x2048, .f32⟩
  | .local _ .vmem, ⟨10, _⟩ => ⟨S128x256, .bf16⟩
  | .local _ .vmem, ⟨11, _⟩ => ⟨S3x1536, .f32⟩
  | .local _ .vmem, ⟨12, _⟩ => ⟨S1x1536, .f32⟩
  | .local _ .vmem, ⟨13, _⟩ => ⟨S1x2048x512, .bf16⟩
  | .local _ .vmem, ⟨14, _⟩ => ⟨S1x2048x512, .bf16⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
variable {F : FTy → Type} [FloatOps F]
-- ==== Reference3Ideal.lean ====
abbrev S2x16384x1024 : Shape := ⟨3, ![2, 16384, 1024]⟩
abbrev S128x256 : Shape := ⟨2, ![128, 256]⟩
abbrev S1024 : Shape := ⟨1, ![1024]⟩
abbrev S1024x2048 : Shape := ⟨2, ![1024, 2048]⟩
abbrev S2048 : Shape := ⟨1, ![2048]⟩
abbrev S3x1536 : Shape := ⟨2, ![3, 1536]⟩
abbrev S1536 : Shape := ⟨1, ![1536]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S1x1x2048 : Shape := ⟨3, ![1, 1, 2048]⟩
abbrev S2x16384x512 : Shape := ⟨3, ![2, 16384, 512]⟩
abbrev S2x16384x4x128 : Shape := ⟨4, ![2, 16384, 4, 128]⟩
abbrev S128x128 : Shape := ⟨2, ![128, 128]⟩
abbrev S2x16384x1x512 : Shape := ⟨4, ![2, 16384, 1, 512]⟩
abbrev S2x16384x2x512 : Shape := ⟨4, ![2, 16384, 2, 512]⟩
abbrev S2x32768x512 : Shape := ⟨3, ![2, 32768, 512]⟩
abbrev S2x16384x1536 : Shape := ⟨3, ![2, 16384, 1536]⟩
abbrev S2x16386x1536 : Shape := ⟨3, ![2, 16386, 1536]⟩
abbrev S1x1536 : Shape := ⟨2, ![1, 1536]⟩
abbrev S1x1x1536 : Shape := ⟨3, ![1, 1, 1536]⟩
abbrev S32768x512 : Shape := ⟨2, ![32768, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S128x256, .bf16⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S3x1536, .f32⟩
  | .hbm, ⟨7, _⟩ => ⟨S1536, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S2x16384x1, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S2x16384x2048, .f32⟩
  | .hbm, ⟨36, _⟩ => ⟨S1x1x2048, .f32⟩
  | .hbm, ⟨37, _⟩ => ⟨S2x16384x2048, .f32⟩
  | .hbm, ⟨38, _⟩ => ⟨S2x16384x2048, .f32⟩
  | .hbm, ⟨39, _⟩ => ⟨S2x16384x512, .f32⟩
  | .hbm, ⟨40, _⟩ => ⟨S2x16384x4x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S2x16384x4x128, .f32⟩
  | .hbm, ⟨46, _⟩ => ⟨S2x16384x512, .f32⟩
  | .hbm, ⟨47, _⟩ => ⟨S2x16384x4x128, .f32⟩
  | .hbm, ⟨48, _⟩ => ⟨S2x16384x512, .f32⟩
  | .hbm, ⟨49, _⟩ => ⟨S2x16384x1x512, .f32⟩
  | .hbm, ⟨50, _⟩ => ⟨S2x16384x1x512, .f32⟩
  | .hbm, ⟨51, _⟩ => ⟨S2x16384x2x512, .f32⟩
  | .hbm, ⟨52, _⟩ => ⟨S2x32768x512, .f32⟩
  | .hbm, ⟨53, _⟩ => ⟨S2x32768x512, .bf16⟩
  | .hbm, ⟨54, _⟩ => ⟨S2x16384x1536, .f32⟩
  | .hbm, ⟨55, _⟩ => ⟨S_, .i32⟩
  | .hbm, ⟨56, _⟩ => ⟨S_, .f32⟩
  | .hbm, ⟨57, _⟩ => ⟨S2x16386x1536, .f32⟩
  | .hbm, ⟨58, _⟩ => ⟨S2x16384x1536, .f32⟩
  | .hbm, ⟨59, _⟩ => ⟨S1x1536, .f32⟩
  | .hbm, ⟨60, _⟩ => ⟨S1536, .f32⟩
  | .hbm, ⟨61, _⟩ => ⟨S1x1x1536, .f32⟩
  | .hbm, ⟨62, _⟩ => ⟨S2x16384x1536, .f32⟩
  | .hbm, ⟨63, _⟩ => ⟨S2x16384x1536, .f32⟩
  | .hbm, ⟨64, _⟩ => ⟨S2x16384x1536, .f32⟩
  | .hbm, ⟨65, _⟩ => ⟨S1x1536, .f32⟩
  | .hbm, ⟨66, _⟩ => ⟨S1536, .f32⟩
  | .hbm, ⟨67, _⟩ => ⟨S1x1x1536, .f32⟩
  | .hbm, ⟨68, _⟩ => ⟨S2x16384x1536, .f32⟩
  | .hbm, ⟨69, _⟩ => ⟨S2x16384x1536, .f32⟩
  | .hbm, ⟨70, _⟩ => ⟨S2x16384x1536, .f32⟩
  | .hbm, ⟨71, _⟩ => ⟨S2x16384x1536, .f32⟩
  | .hbm, ⟨72, _⟩ => ⟨S1x1536, .f32⟩
  | .hbm, ⟨73, _⟩ => ⟨S1536, .f32⟩
  | .hbm, ⟨74, _⟩ => ⟨S1x1x1536, .f32⟩
  | .hbm, ⟨75, _⟩ => ⟨S2x16384x1536, .f32⟩
  | .hbm, ⟨76, _⟩ => ⟨S2x16384x1536, .f32⟩
  | .hbm, ⟨77, _⟩ => ⟨S2x16384x1536, .f32⟩
  | .hbm, ⟨78, _⟩ => ⟨S1x1x1536, .f32⟩
  | .hbm, ⟨79, _⟩ => ⟨S2x16384x1536, .f32⟩
  | .hbm, ⟨80, _⟩ => ⟨S2x16384x1536, .f32⟩
  | .hbm, ⟨81, _⟩ => ⟨S2x16384x512, .f32⟩
  | .hbm, ⟨82, _⟩ => ⟨S2x16384x512, .f32⟩
  | .hbm, ⟨83, _⟩ => ⟨S2x16384x512, .f32⟩
  | .hbm, ⟨84, _⟩ => ⟨S32768x512, .f32⟩
  | .hbm, ⟨85, _⟩ => ⟨S2x16384x512, .f32⟩
  | .hbm, ⟨86, _⟩ => ⟨S32768x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== Kernel4.lean ====
abbrev S2x128x128x512 : Shape := ⟨4, ![2, 128, 128, 512]⟩
abbrev S128x256 : Shape := ⟨2, ![128, 256]⟩
abbrev S2x8x128 : Shape := ⟨3, ![2, 8, 128]⟩
abbrev S2x16x128 : Shape := ⟨3, ![2, 16, 128]⟩
abbrev S2x8x128x1 : Shape := ⟨4, ![2, 8, 128, 1]⟩
abbrev S2x8x128x128 : Shape := ⟨4, ![2, 8, 128, 128]⟩
abbrev S2x16x128x1 : Shape := ⟨4, ![2, 16, 128, 1]⟩
abbrev S2x16x128x128 : Shape := ⟨4, ![2, 16, 128, 128]⟩
abbrev S1x16x128x512 : Shape := ⟨4, ![1, 16, 128, 512]⟩
abbrev S2x1x128x128 : Shape := ⟨4, ![2, 1, 128, 128]⟩
abbrev S1x128x16x512 : Shape := ⟨4, ![1, 128, 16, 512]⟩
abbrev S1x1x128x128 : Shape := ⟨4, ![1, 1, 128, 128]⟩
abbrev S128x128 : Shape := ⟨2, ![128, 128]⟩
abbrev S128x512 : Shape := ⟨2, ![128, 512]⟩
abbrev S1x1x128x512 : Shape := ⟨4, ![1, 1, 128, 512]⟩
abbrev S256x512 : Shape := ⟨2, ![256, 512]⟩
abbrev S1x128x1x512 : Shape := ⟨4, ![1, 128, 1, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x128x128x512, .i32⟩
  | .hbm, ⟨1, _⟩ => ⟨S128x256, .f32⟩
  | .hbm, ⟨2, _⟩ => ⟨S2x8x128, .f32⟩
  | .hbm, ⟨3, _⟩ => ⟨S2x16x128, .f32⟩
  | .hbm, ⟨4, _⟩ => ⟨S128x256, .bf16⟩
  | .hbm, ⟨5, _⟩ => ⟨S2x8x128x1, .f32⟩
  | .hbm, ⟨6, _⟩ => ⟨S2x8x128x128, .f32⟩
  | .hbm, ⟨7, _⟩ => ⟨S2x16x128x1, .f32⟩
  | .hbm, ⟨8, _⟩ => ⟨S2x16x128x128, .f32⟩
  | .hbm, ⟨9, _⟩ => ⟨S2x128x128x512, .f32⟩
  | .local _ .vmem, ⟨0, _⟩ => ⟨S1x16x128x512, .i32⟩
  | .local _ .vmem, ⟨1, _⟩ => ⟨S1x16x128x512, .i32⟩
  | .local _ .vmem, ⟨2, _⟩ => ⟨S2x1x128x128, .f32⟩
  | .local _ .vmem, ⟨3, _⟩ => ⟨S2x1x128x128, .f32⟩
  | .local _ .vmem, ⟨4, _⟩ => ⟨S2x16x128x128, .f32⟩
  | .local _ .vmem, ⟨5, _⟩ => ⟨S128x256, .bf16⟩
  | .local _ .vmem, ⟨6, _⟩ => ⟨S1x128x16x512, .f32⟩
  | .local _ .vmem, ⟨7, _⟩ => ⟨S1x128x16x512, .f32⟩
  | _, _ => ⟨S2x128x128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x16x128x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x128x128x512 : Shape := ⟨4, ![2, 128, 128, 512]⟩
abbrev S2x8x128 : Shape := ⟨3, ![2, 8, 128]⟩
abbrev S2x16x128 : Shape := ⟨3, ![2, 16, 128]⟩
abbrev S128x256 : Shape := ⟨2, ![128, 256]⟩
abbrev S_ : Shape := ⟨0, ![]⟩
abbrev S1x8x128 : Shape := ⟨3, ![1, 8, 128]⟩
abbrev S8x128 : Shape := ⟨2, ![8, 128]⟩
abbrev S8x1x128 : Shape := ⟨3, ![8, 1, 128]⟩
abbrev S1x16x128 : Shape := ⟨3, ![1, 16, 128]⟩
abbrev S16x128 : Shape := ⟨2, ![16, 128]⟩
abbrev S8x16x128 : Shape := ⟨3, ![8, 16, 128]⟩
abbrev S1x128x128x1 : Shape := ⟨4, ![1, 128, 128, 1]⟩
abbrev S2x128x256x512 : Shape := ⟨4, ![2, 128, 256, 512]⟩
abbrev S2x128x512x128 : Shape := ⟨4, ![2, 128, 512, 128]⟩

abbrev nBuf : Space → Nat
  | .hbm => 53
  | .vmem => 0
  | .smem => 0
  | _ => 0

abbrev bufTy : (tb : Table) → Fin (tcTables nBuf tb) → BufTy
  | .hbm, ⟨0, _⟩ => ⟨S2x128x128x512, .i32⟩
  | .hbm, ⟨1, _⟩ => ⟨S2x8x128, .f32⟩
  | .hbm, ⟨2, _⟩ => ⟨S2x16x128, .f32⟩
  | .hbm, ⟨3, _⟩ => ⟨S128x256, .f32⟩
  | .hbm, ⟨4, _⟩ => ⟨S_, .i32⟩
  | .hbm, ⟨5, _⟩ => ⟨S2x128x128x512, .i32⟩
  | .hbm, ⟨6, _⟩ => ⟨S2x128x128x512, .i32⟩
  | .hbm, ⟨7, _⟩ => ⟨S2x128x128x512, .f32⟩
  | .hbm, ⟨8, _⟩ => ⟨S_, .i32⟩
  | .hbm, ⟨9, _⟩ => ⟨S2x128x128x512, .i32⟩
  | .hbm, ⟨10, _⟩ => ⟨S2x128x128x512, .i32⟩
  | .hbm, ⟨11, _⟩ => ⟨S2x128x128x512, .f32⟩
  | .hbm, ⟨12, _⟩ => ⟨S1x8x128, .f32⟩
  | .hbm, ⟨13, _⟩ => ⟨S8x128, .f32⟩
  | .hbm, ⟨14, _⟩ => ⟨S8x1x128, .f32⟩
  | .hbm, ⟨15, _⟩ => ⟨S1x8x128, .f32⟩
  | .hbm, ⟨16, _⟩ => ⟨S8x128, .f32⟩
  | .hbm, ⟨17, _⟩ => ⟨S8x1x128, .f32⟩
  | .hbm, ⟨18, _⟩ => ⟨S1x16x128, .f32⟩
  | .hbm, ⟨19, _⟩ => ⟨S16x128, .f32⟩
  | .hbm, ⟨20, _⟩ => ⟨S1x16x128, .f32⟩
  | .hbm, ⟨21, _⟩ => ⟨S1x16x128, .f32⟩
  | .hbm, ⟨22, _⟩ => ⟨S16x128, .f32⟩
  | .hbm, ⟨23, _⟩ => ⟨S1x16x128, .f32⟩
  | .hbm, ⟨24, _⟩ => ⟨S8x16x128, .f32⟩
  | .hbm, ⟨25, _⟩ => ⟨S8x16x128, .f32⟩
  | .hbm, ⟨26, _⟩ => ⟨S8x16x128, .f32⟩
  | .hbm, ⟨27, _⟩ => ⟨S8x16x128, .f32⟩
  | .hbm, ⟨28, _⟩ => ⟨S8x16x128, .f32⟩
  | .hbm, ⟨29, _⟩ => ⟨S8x16x128, .f32⟩
  | .hbm, ⟨30, _⟩ => ⟨S8x16x128, .f32⟩
  | .hbm, ⟨31, _⟩ => ⟨S1x128x128x1, .f32⟩
  | .hbm, ⟨32, _⟩ => ⟨S8x16x128, .f32⟩
  | .hbm, ⟨33, _⟩ => ⟨S8x16x128, .f32⟩
  | .hbm, ⟨34, _⟩ => ⟨S8x16x128, .f32⟩
  | .hbm, ⟨35, _⟩ => ⟨S8x16x128, .f32⟩
  | .hbm, ⟨36, _⟩ => ⟨S8x16x128, .f32⟩
  | .hbm, ⟨37, _⟩ => ⟨S8x16x128, .f32⟩
  | .hbm, ⟨38, _⟩ => ⟨S8x16x128, .f32⟩
  | .hbm, ⟨39, _⟩ => ⟨S1x128x128x1, .f32⟩
  | .hbm, ⟨40, _⟩ => ⟨S2x128x128x512, .f32⟩
  | .hbm, ⟨41, _⟩ => ⟨S2x128x128x512, .f32⟩
  | .hbm, ⟨42, _⟩ => ⟨S2x128x128x512, .f32⟩
  | .hbm, ⟨43, _⟩ => ⟨S2x128x128x512, .f32⟩
  | .hbm, ⟨44, _⟩ => ⟨S2x128x128x512, .f32⟩
  | .hbm, ⟨45, _⟩ => ⟨S2x128x128x512, .f32⟩
  | .hbm, ⟨46, _⟩ => ⟨S2x128x128x512, .f32⟩
  | .hbm, ⟨47, _⟩ => ⟨S2x128x128x512, .f32⟩
  | .hbm, ⟨48, _⟩ => ⟨S2x128x128x512, .f32⟩
  | .hbm, ⟨49, _⟩ => ⟨S2x128x128x512, .f32⟩
  | .hbm, ⟨50, _⟩ => ⟨S2x128x256x512, .f32⟩
  | .hbm, ⟨51, _⟩ => ⟨S2x128x512x128, .f32⟩
  | .hbm, ⟨52, _⟩ => ⟨S2x128x128x512, .f32⟩
  | _, _ => ⟨S2x128x128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Proof.Kern.Body.lean ====
/- Hand-written: the kernel's body at one grid point, run once. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two prefetched tables as the body is handed them: the experts of the blocks, and the number of blocks in use. -/
abbrev beM : Memref sig .tc .smem S506 .i32 := Memref.whole main_v23
abbrev hbeM : beM.IsWhole := Memref.isWhole_whole _
abbrev nbM : Memref sig .tc .smem S1 .i32 := Memref.whole main_v9
abbrev hnbM : nbM.IsWhole := Memref.isWhole_whole _

/-- A table's contents, and the half of it the body reads. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the second table: how many blocks are in use. -/
def nbW {c : Dev nD} (xt1 : TbBuf (F := F) c nbM) : BitVec 32 :=
  xt1 ((Rect.unit (s := S1) ![0] S1.size inb_S1_S1_0).point numel1_S1)
/-- The expert of the point's block, and of the block before it (the point's own at the first point). -/
def beW {c : Dev nD} (i : grid0.Coords) (xt0 : TbBuf (F := F) c beM) : BitVec 32 :=
  xt0 ((Rect.unit (s := S506) (k0_off1 i) S1.size (k0_off1_inb i)).point numel1_S1)
def beW' {c : Dev nD} (i : grid0.Coords) (xt0 : TbBuf (F := F) c beM) : BitVec 32 :=
  xt0 ((Rect.unit (s := S506) (k0_off2 i) S1.size (k0_off2_inb i)).point numel1_S1)

/-- The condition under which the body casts the weights into its scratch: the block is in use, and it is the first
    or its expert is not the one before's. -/
def freshC (i : grid0.Coords) (w0 w4 w8 : BitVec 32) : BitVec 1 :=
  Scalar.cmpi .ne (Scalar.extui (Scalar.andi (Scalar.cmpi .slt (BitVec.ofNat 32 (i 0).val) w0)
    (Scalar.ori (Scalar.cmpi .eq (BitVec.ofNat 32 (i 0).val) 0#32) (Scalar.cmpi .ne w4 w8))) : BitVec 32) 0#32

/-- The second branch's condition fails exactly when the third's holds: a block is in use or it is not. -/
theorem cond3_iff (i : grid0.Coords) (w : BitVec 32) : k0_cond3 i w = 1#1 ↔ ¬ k0_cond2 i w = 1#1 := by
  unfold k0_cond3 k0_cond2
  dsimp only
  generalize Scalar.cmpi .slt (BitVec.ofNat 32 (i 0).val) w = b
  revert b; decide

/-- What the point leaves in the first scratch (the gate and up weights), the second (the down weights), and the
    output block, from what it reads. -/
def wguOf {c : Dev nD} (i : grid0.Coords) (xt0 : TbBuf (F := F) c beM) (xt1 : TbBuf (F := F) c nbM)
    (x1 : Vec F S1x1024x2048 .f32) (s0 : Vec F S1024x2048 .bf16) : Vec F S1024x2048 .bf16 :=
  if freshC i (nbW xt1) (beW i xt0) (beW' i xt0) = 1#1 then k0_pay1 x1 else s0
def wdOf {c : Dev nD} (i : grid0.Coords) (xt0 : TbBuf (F := F) c beM) (xt1 : TbBuf (F := F) c nbM)
    (x3 : Vec F S1x1024x1024 .f32) (s1 : Vec F S1024x1024 .bf16) : Vec F S1024x1024 .bf16 :=
  if freshC i (nbW xt1) (beW i xt0) (beW' i xt0) = 1#1 then k0_pay2 x3 else s1
def ysOf {c : Dev nD} (i : grid0.Coords) (xt1 : TbBuf (F := F) c nbM) (x0 : Vec F S512x1024 .bf16) (x2 : Vec F S1x1x2048 .f32)
    (x4 : Vec F S1x1x1024 .f32) (s0 : Vec F S1024x2048 .bf16) (s1 : Vec F S1024x1024 .bf16) : Vec F S512x1024 .bf16 :=
  if k0_cond2 i (nbW xt1) = 1#1 then k0_pay3 x0 s0 x2 s1 x4 else k0_pay4

set_option maxHeartbeats 1000000 in
/-- The body's triple: on whole buffers, the inputs at `x0` … `x4`, the scratch at `s0`, `s1`, the tables at `xt0`, `xt1`
    and the output's at anything, the body ends with the inputs and tables as they were, the scratch at `wguOf`, `wdOf`
    and the output at `ysOf` of them. -/
theorem body_run (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (x0 : Vec F S512x1024 .bf16) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (xt0 : TbBuf (F := F) c beM) (xt1 : TbBuf (F := F) c nbM) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt c beM xt0 ∗ tbPt c nbM xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (ysOf i xt1 x0 x2 x4 (wguOf i xt0 xt1 x1 s0) (wdOf i xt0 xt1 x3 s1))
                ∗ owns (c : Thread nD τ) arg9 fullShare (wguOf i xt0 xt1 x1 s0) ∗ owns (c : Thread nD τ) arg10 fullShare (wdOf i xt0 xt1 x3 s1) ∗ tbPt c beM xt0 ∗ tbPt c nbM xt1) -∗ K ⟨⟩))
          ⊢ wp frame (wpE (defs₀ (F := F)) Variants.none c none) E (cc0_moe_experts i beM hbeM nbM hnbM arg3 harg3 arg4 harg4 arg5 harg5 arg6 harg6 arg7 harg7 arg8 harg8 arg9 harg9 arg10 harg10) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    -- what the scratch reads after the first branch
    have e13 : body_run.sl.v13 c i xt0 xt1 = freshC i (nbW xt1) (beW i xt0) (beW' i xt0) := rfl
    have er : body_run.sl.r c xt1 = nbW xt1 := rfl
    have hg : arg9.view.read (Elt F) (if hc : body_run.sl.v13 c i xt0 xt1 = 1#1 then
        arg9.view.writes (Elt F) fs0 [⟨Rect.unit ![0, 0] S1024x2048.size inb_S1024x2048_S1024x2048_0_0,
            k0_pay1 (View.readAt (Elt F) arg4.view (Rect.unit ![0, 0, 0] S1x1024x2048.size inb_S1x1024x2048_S1x1024x2048_0_0_0).toLoadRect (harg4.unread x1))⟩]
        else fs0) = wguOf i xt0 xt1 x1 s0 := by
      unfold wguOf; rw [e13]
      split
      · rw [View.read_writes_full, View.readAt_full, hf1]
      · exact hs0
    have hd : arg10.view.read (Elt F) (if hc : body_run.sl.v13 c i xt0 xt1 = 1#1 then
        arg10.view.writes (Elt F) fs1 [⟨Rect.unit ![0, 0] S1024x1024.size inb_S1024x1024_S1024x1024_0_0,
            k0_pay2 (View.readAt (Elt F) arg6.view (Rect.unit ![0, 0, 0] S1x1024x1024.size inb_S1x1024x1024_S1x1024x1024_0_0_0).toLoadRect (harg6.unread x3))⟩]
        else fs1) = wdOf i xt0 xt1 x3 s1 := by
      unfold wdOf; rw [e13]
      split
      · rw [View.read_writes_full, View.readAt_full, hf3]
      · exact hs1
    have hg' : body_run.sl.v20 c i arg4 harg4 arg9 x1 xt0 xt1 fs0 = wguOf i xt0 xt1 x1 s0 := by
      rw [← hg]; unfold body_run.sl.v20; rw [View.readAt_full]
    have hd' : body_run.sl.v42 c i arg6 harg6 arg10 x3 xt0 xt1 fs1 = wdOf i xt0 xt1 x3 s1 := by
      rw [← hd]; unfold body_run.sl.v42; rw [View.readAt_full]
    rw [hg', hd', er]
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      unfold ysOf
      by_cases hc : k0_cond2 i (nbW xt1) = 1#1
      · rw [dif_neg (fun h => (cond3_iff i _).1 h hc), dif_pos hc, if_pos hc, View.read_writes_full]
        rw [View.readAt_full, View.readAt_full, View.readAt_full, hf0, hf2, hf4]
      · rw [dif_pos ((cond3_iff i _).2 hc), if_neg hc, View.read_writes_full]
    isplitl [HS0]
    · iexists _; isplitr; swap; · iexact HS0
      ipureintro; exact hg
    isplitl [HS1]
    · iexists _; isplitr; swap; · iexact HS1
      ipureintro; exact hd
    isplitl [HT0]; · iexact HT0
    iexact HT1

end Cert.KernelIdeal.Kern

end
-- ==== Proof.Kern.Run.lean ====
/- Hand-written: the run of @main. What the host operations leave before the region, the proof data of the pipeline (each
   input's buffer at its block, the output's at the block's feed-forward rows), the invariant carried from point to point
   (the scratch holds the weights of the block before, cast), and the launch. -/
module

public import proofs.«01_k».proof.Proof.Kern.Body
public import Idealize.ShloMosaic.Lib.Claim
public import Idealize.ShloMosaic.Lib.Pipeline.Value
public import Idealize.ShloMosaic.Lib.StableHlo.RunRead

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev opss : List (List (HloOp τ sig (Elt F))) :=
  [hostOps0, hostOps0_1, hostOps0_2, hostOps0_3, hostOps0_4, hostOps0_5, hostOps0_6]

/-- Core `c`'s buffers when the region is entered: as the host operations leave them. -/
def V (c : Dev nD) (b : Ref sig .tc) : Buf (Elt F) ((c : Thread nD τ).loc b) :=
  StableHlo.after (opss (F := F)).flatten (fun b => m (c, b)) b

/-- @main up to the region: the seven stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub⟩
    (by simp only [List.Forall]; repeat' constructor)
    (fun c => main_chain c)

/-- The buffers the host operations write. -/
def written : List (Ref sig .tc) := [main_c, main_v0, main_v1, main_c_0, main_v2, main_v3, main_c_1,
  main_call0_v0, main_call0_v1, main_call0_v2, main_call0_v3, main_call0_v4, main_call0_v5, main_call0_v6, main_call0_v7, main_call0_v8,
  main_call0_c, main_call0_v9, main_call0_v10, main_call0_v11, main_call0_c_0, main_call0_v12, main_call0_v13, main_v4,
  main_c_2, main_v5, main_v6, main_call1_call0_c, main_call1_call0_v0, main_v7, main_c_3,
  main_call2_v0, main_call2_v1, main_call2_v2, main_call2_v3, main_call2_v4, main_call2_v5, main_call2_v6, main_call2_v7, main_call2_v8,
  main_call2_c, main_call2_v9, main_call2_v10, main_call2_v11, main_call2_c_0, main_call2_v12, main_call2_v13, main_v8,
  main_v9, main_v10, main_v11, main_c_4, main_v12, main_v13, main_v14, main_v15, main_v16, main_v17, main_v18, main_v19, main_v20, main_c_5,
  main_v21, main_c_6, main_v22, main_v23, main_v24, main_v25]

theorem V_of_not_written (c : Dev nD) {r : Ref sig .tc} (h : r ∉ written) : V m c r = m ((c : Thread nD τ).loc r) :=
  StableHlo.after_of_writes_sub (W := written) (r := r) _ _ (StableHlo.forall_writes_sub_of_map rfl) h

attribute [irreducible] V

/-! ## The prefetched tables, read off the launch memory -/

/-- The tables' contents when the region is entered (the program runs on one device: device 0's). -/
def tbl : pre0.Contents (Elt F) := fun j => V m (0 : Dev nD) (pre0.ref j)
/-- On every device the tables hold those contents: there is one device. -/
theorem V_pre (c : Dev nD) (j : Fin 2) : V m c (pre0.ref j) = tbl m j := by
  obtain rfl : c = 0 := Subsingleton.elim _ _; rfl
/-- The pipeline's side condition of the tables: every window has its block inside its array at every point. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables' halves the region hands the body, table by table. -/
theorem PhiT_eq (c : Dev nD) : (Pipeline.ΦT pre0 (tbl m) c : sProp 𝕄) = iprop(tbPt c beM (tbl m 0) ∗ tbPt c nbM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The five inputs' blocks, at the shapes the body reads. -/
abbrev xB (hO : Ok m) (c : Dev nD) (t : Fin grid0.N) : Vec F S512x1024 .bf16 := iblk m hO c 0 t
abbrev wguB (hO : Ok m) (c : Dev nD) (t : Fin grid0.N) : Vec F S1x1024x2048 .f32 := iblk m hO c 1 t
abbrev bguB (hO : Ok m) (c : Dev nD) (t : Fin grid0.N) : Vec F S1x1x2048 .f32 := iblk m hO c 2 t
abbrev wdB (hO : Ok m) (c : Dev nD) (t : Fin grid0.N) : Vec F S1x1024x1024 .f32 := iblk m hO c 3 t
abbrev bdB (hO : Ok m) (c : Dev nD) (t : Fin grid0.N) : Vec F S1x1x1024 .f32 := iblk m hO c 4 t

/-- The expert of point `t`'s block and of the one before it, and whether the block is in use. -/
abbrev beAt (t : Fin grid0.N) : BitVec 32 := beW (F := F) (c := (0 : Dev nD)) (grid0.coords t) (tbl m 0)
abbrev nbAt : BitVec 32 := nbW (F := F) (c := (0 : Dev nD)) (tbl m 1)

/-- The block indices, at any tables: the weights' and biases' block is the point's expert's. -/
theorem index_1 (a : (pcfg0 (F := F)).Adm) (t : Fin grid0.N) : ((cfg0 a).win 1).index t = ![(beW (c := (0 : Dev nD)) (grid0.coords t) (a.1 0)).toNat, 0, 0] := rfl
theorem index_2 (a : (pcfg0 (F := F)).Adm) (t : Fin grid0.N) : ((cfg0 a).win 2).index t = ![(beW (c := (0 : Dev nD)) (grid0.coords t) (a.1 0)).toNat, 0, 0] := rfl
theorem index_3 (a : (pcfg0 (F := F)).Adm) (t : Fin grid0.N) : ((cfg0 a).win 3).index t = ![(beW (c := (0 : Dev nD)) (grid0.coords t) (a.1 0)).toNat, 0, 0] := rfl
theorem index_4 (a : (pcfg0 (F := F)).Adm) (t : Fin grid0.N) : ((cfg0 a).win 4).index t = ![(beW (c := (0 : Dev nD)) (grid0.coords t) (a.1 0)).toNat, 0, 0] := rfl
/-- The rows' block is the point's, or past the blocks in use the last of those. -/
theorem index_0 (a : (pcfg0 (F := F)).Adm) (t : Fin grid0.N) : ((cfg0 a).win 0).index t
    = ![(Scalar.minsi (BitVec.ofNat 32 (grid0.coords t 0).val) (Scalar.subi (nbW (F := F) (c := (0 : Dev nD)) (a.1 1)) 1#32)).toNat, 0] := rfl

/-- Two points with one block index read one block. -/
theorem iblk_congr_1 (hO : Ok m) (c : Dev nD) {t t' : Fin grid0.N} (h : beAt m t = beAt m t') : wguB m hO c t = wguB m hO c t' := by
  have h' : ((cfgM m hO).win 1).index t = ((cfgM m hO).win 1).index t' := by
    rw [index_1, index_1]; exact congrArg (fun b : BitVec 32 => ![b.toNat, 0, 0]) h
  funext y
  refine congrArg (V m c main_arg2) (funext fun a => Fin.ext ?_)
  exact (Window.rect_emb_val ((cfgM m hO).win 1) t y a).trans (by rw [h']; exact (Window.rect_emb_val ((cfgM m hO).win 1) t' y a).symm)
theorem iblk_congr_3 (hO : Ok m) (c : Dev nD) {t t' : Fin grid0.N} (h : beAt m t = beAt m t') : wdB m hO c t = wdB m hO c t' := by
  have h' : ((cfgM m hO).win 3).index t = ((cfgM m hO).win 3).index t' := by
    rw [index_3, index_3]; exact congrArg (fun b : BitVec 32 => ![b.toNat, 0, 0]) h
  funext y
  refine congrArg (V m c main_arg4) (funext fun a => Fin.ext ?_)
  exact (Window.rect_emb_val ((cfgM m hO).win 3) t y a).trans (by rw [h']; exact (Window.rect_emb_val ((cfgM m hO).win 3) t' y a).symm)

/-! ## The points and the words the body's branches read -/

/-- Point `t` has coordinate `t`. -/
theorem coords_val : ∀ t : Fin grid0.N, (grid0.coords t 0).val = t.val := by decide +kernel
/-- The table entry of the block before is read where the point before reads its own. -/
theorem off2_eq : ∀ t s : Fin grid0.N, s.val + 1 = t.val → k0_off2 (grid0.coords t) = k0_off1 (grid0.coords s) := by
  have h : ∀ s : Fin 505, k0_off2 (grid0.coords (⟨s.val + 1, by have := s.isLt; omega⟩ : Fin 506)) = k0_off1 (grid0.coords (⟨s.val, by have := s.isLt; omega⟩ : Fin 506)) := by
    decide +kernel
  intro t s hs
  have ht : t.val < 506 := t.isLt
  have := h ⟨s.val, by omega⟩
  have e : t = (⟨s.val + 1, by omega⟩ : Fin 506) := Fin.ext hs.symm
  rw [e]; exact this

end Cert.KernelIdeal.Kern

end
-- ==== Proof.Plan.lean ====
/- Hand-written: the plan of the rows, in naturals. Each expert's rows take a whole number of 512-row blocks; where an
   expert's blocks end is the sum of the block counts up to it, and a block's expert is the number of experts whose blocks
   end at or before it. Here are those naturals, the arrays of words that hold them as both programs compute them (whatever
   the side conditions' proofs), and what the precondition says of them. -/
module

public import Idealize.ShloMosaic.Lib.Routing.Words
public import Idealize.ShloMosaic.Lib.PlanTiles.Rows
public import Idealize.ShloMosaic.Lib.ReduceAll
public import Idealize.ShloMosaic.Lib.Tactic.WordOmega
public import proofs.«01_k».proof.Pre_rows_fit

@[expose] public section

noncomputable section

namespace Cert.Plan

open Idealize.ShloMosaic Idealize.ShloMosaic.ValueIdx Idealize.ShloMosaic.Routing Idealize.ShloMosaic.WordCmp

/-! ## The plan in naturals -/

/-- How many rows expert `e` takes, as a natural. -/
def rows (x : IVec (shape1 32) 32) (e : Nat) : Nat := if h : e < 32 then (x (ix1 ⟨e, h⟩)).toNat else 0
/-- How many 512-row blocks expert `e` takes. -/
def blocks (x : IVec (shape1 32) 32) (e : Nat) : Nat := (rows x e + 511) / 512
/-- The block at which expert `e`'s blocks end. -/
def ends (x : IVec (shape1 32) 32) (e : Nat) : Nat := ((List.range (e + 1)).map (blocks x)).sum
/-- The number of blocks in use. -/
def used (x : IVec (shape1 32) 32) : Nat := ends x 31
/-- The expert of block `b`. -/
def expert (x : IVec (shape1 32) 32) (b : Nat) : Nat := min (Nat.count (fun e => ends x e ≤ b) 32) 31

/-- What the precondition says: no expert takes more than 259072 rows, and of the 506 blocks at least one is in use. -/
structure Fits (x : IVec (shape1 32) 32) : Prop where
  rows_le : ∀ e, rows x e ≤ 259072
  used_le : used x ≤ 506
  used_pos : 1 ≤ used x

theorem expert_lt (x : IVec (shape1 32) 32) (b : Nat) : expert x b < 32 := by unfold expert; omega

variable {x : IVec (shape1 32) 32}

theorem word_rows (x : IVec (shape1 32) 32) (i : Fin 32) : x (ix1 i) = BitVec.ofNat 32 (rows x i.val) := by
  unfold rows
  rw [dif_pos i.isLt]
  exact (BitVec.ofNat_toNat 32 (x (ix1 i))).symm ▸ (by simp)

theorem ends_mono (x : IVec (shape1 32) 32) {a b : Nat} (h : a ≤ b) : ends x a ≤ ends x b := by
  obtain ⟨d, rfl⟩ : ∃ d, b = a + d := ⟨b - a, by omega⟩
  unfold ends
  rw [show a + d + 1 = (a + 1) + d from by omega, List.range_add (n := a + 1), List.map_append, List.sum_append]
  exact Nat.le_add_right _ _

theorem Fits.ends_le (h : Fits x) {e : Nat} (he : e < 32) : ends x e ≤ 506 :=
  (ends_mono x (by omega : e ≤ 31)).trans h.used_le

/-- The rows up to the end of expert `e`'s blocks are 512 times the blocks. -/
theorem sum_rows (x : IVec (shape1 32) 32) (n : Nat) :
    ((List.range n).map fun e => blocks x e * 512).sum = ((List.range n).map (blocks x)).sum * 512 := by
  rw [List.sum_map_mul_right]

/-! ## The words -/

section Words

variable (hb : shape0.BroadcastsInDim (shape1 32) (![] : Fin 0 → Fin (shape1 32).rank))
  (hb0 : shape0.BroadcastsInDim shape0 (![] : Fin 0 → Fin shape0.rank))
  (hw : (shape1 32).ReduceWindows (![32] : Fin 1 → Nat) ![1] ![31] ![0] (shape1 32)) (hu : 0 < shape0.numel)

/-- The rows each expert's blocks hold, as `(counts + 512 - 1) // 512 * 512` prints. -/
def padsW (x : IVec (shape1 32) 32) : IVec (shape1 32) 32 :=
  muli (pyDiv hb (subi (addi x (broadcastInDim (shape1 32) ![] hb (constantI shape0 32 512#32))) (broadcastInDim (shape1 32) ![] hb (constantI shape0 32 1#32))) (id (constantI shape0 32 512#32)))
    (broadcastInDim (shape1 32) ![] hb (constantI shape0 32 512#32))
/-- The row at which each expert's blocks end: `jnp.cumsum` of those. -/
def endsW (x : IVec (shape1 32) 32) : IVec (shape1 32) 32 :=
  Host.reduceWindow IntOp.addi ![32] ![1] ![31] ![0] (padsW hb x) (broadcastInDim shape0 ![] hb0 (constantI shape0 32 0#32)) hw hu

theorem padsW_apply (h : Fits x) (i : Fin 32) : padsW hb x (ix1 i) = BitVec.ofNat 32 (blocks x i.val * 512) := by
  have hr := h.rows_le i.val
  have e1 : subi (addi x (broadcastInDim (shape1 32) ![] hb (constantI shape0 32 512#32))) (broadcastInDim (shape1 32) ![] hb (constantI shape0 32 1#32)) (ix1 i)
      = BitVec.ofNat 32 (rows x i.val + 511) := by
    rw [subi_ap, addi_ap, bc0, bc0, constantI_at, constantI_at, word_rows x i,
      show (512#32 : BitVec 32) = BitVec.ofNat 32 512 from rfl, BitVec.ofNat_add_ofNat,
      show (1#32 : BitVec 32) = BitVec.ofNat 32 1 from rfl, ofNat32_sub (by omega)]
    exact congrArg (BitVec.ofNat 32) (by omega)
  unfold padsW
  rw [muli_ap, pyDiv_ap hb _ _ _ e1 (b := 512) rfl (by omega) (by omega) (by omega), bc0, constantI_at,
    show (512#32 : BitVec 32) = BitVec.ofNat 32 512 from rfl, ← BitVec.ofNat_mul]
  rfl

theorem endsW_apply (h : Fits x) (j : Fin 32) : endsW hb hb0 hw hu x (ix1 j) = BitVec.ofNat 32 (ends x j.val * 512) := by
  unfold endsW
  rw [cumsum1 (by omega) _ (fun e => blocks x e * 512) (fun i => padsW_apply hb h i) _ (by rw [bc0]; rfl) hw hu j, sum_rows]
  rfl

end Words

section Table

variable (hc : (shape1 506).BroadcastsInDim (shape2 506 1) (![0] : Fin 1 → Fin (shape2 506 1).rank))
  (hr : (shape1 32).BroadcastsInDim (shape2 1 32) (![1] : Fin 1 → Fin (shape2 1 32).rank))
  (hcc : (shape2 506 1).BroadcastsInDim (shape2 506 32) (![0, 1] : Fin 2 → Fin (shape2 506 32).rank))
  (hrr : (shape2 1 32).BroadcastsInDim (shape2 506 32) (![0, 1] : Fin 2 → Fin (shape2 506 32).rank))
  (hs : (shape2 506 32).ReducesTo [1] (shape1 506)) (hu : 0 < shape0.numel) (hl : 1 < 32)
  (hb5 : shape0.BroadcastsInDim (shape1 506) (![] : Fin 0 → Fin (shape1 506).rank))

/-- How many of 32 words are at or below each of 506 words, held at 31: the comparison either way round. -/
def countGe (b : IVec (shape1 506) 32) (e : IVec (shape1 32) 32) : IVec (shape1 506) 32 :=
  minsi (Host.reduce IntOp.addi (extui 32 (cmpi .sge (broadcastInDim (shape2 506 32) ![0, 1] hcc (broadcastInDim (shape2 506 1) ![0] hc b))
      (broadcastInDim (shape2 506 32) ![0, 1] hrr (broadcastInDim (shape2 1 32) ![1] hr e))) hl) (constantI shape0 32 0#32) hs hu)
    (broadcastInDim (shape1 506) ![] hb5 (constantI shape0 32 31#32))
def countLe (b : IVec (shape1 506) 32) (e : IVec (shape1 32) 32) : IVec (shape1 506) 32 :=
  minsi (Host.reduce IntOp.addi (extui 32 (cmpi .sle (broadcastInDim (shape2 506 32) ![0, 1] hrr (broadcastInDim (shape2 1 32) ![1] hr e))
      (broadcastInDim (shape2 506 32) ![0, 1] hcc (broadcastInDim (shape2 506 1) ![0] hc b))) hl) (constantI shape0 32 0#32) hs hu)
    (broadcastInDim (shape1 506) ![] hb5 (constantI shape0 32 31#32))

theorem min_word {n : Nat} (hn : n ≤ 32) : IntOp.minsi (BitVec.ofNat 32 n) 31#32 = BitVec.ofNat 32 (min n 31) := by
  rw [show (31#32 : BitVec 32) = BitVec.ofNat 32 31 from rfl, PlanTiles.minsi_word (by omega) (by omega), Nat.min_comm]

theorem countGe_apply (b : IVec (shape1 506) 32) (e : IVec (shape1 32) 32) (B : Nat) (E : Nat → Nat) (i : Fin 506)
    (hB : b (ix1 i) = BitVec.ofNat 32 B) (hE : ∀ q : Fin 32, e (ix1 q) = BitVec.ofNat 32 (E q.val))
    (lB : B < 2 ^ 31) (lE : ∀ q < 32, E q < 2 ^ 31) :
    countGe hc hr hcc hrr hs hu hl hb5 b e (ix1 i) = BitVec.ofNat 32 (min (Nat.count (fun q => E q ≤ B) 32) 31) := by
  unfold countGe
  rw [minsi_apply, bc0, constantI_at, reduce_count (by decide) _ hl hs hu i (fun q => E q ≤ B) fun q => ?_]
  · exact min_word (Nat.count_le _)
  · rw [cmpi_at, bcRows, bcCols, hB, hE, cmpi_sge_ofNat_eq_one_iff (w := 32) lB (lE _ q.isLt)]

theorem countLe_apply (b : IVec (shape1 506) 32) (e : IVec (shape1 32) 32) (B : Nat) (E : Nat → Nat) (i : Fin 506)
    (hB : b (ix1 i) = BitVec.ofNat 32 B) (hE : ∀ q : Fin 32, e (ix1 q) = BitVec.ofNat 32 (E q.val))
    (lB : B < 2 ^ 31) (lE : ∀ q < 32, E q < 2 ^ 31) :
    countLe hc hr hcc hrr hs hu hl hb5 b e (ix1 i) = BitVec.ofNat 32 (min (Nat.count (fun q => E q ≤ B) 32) 31) := by
  unfold countLe
  rw [minsi_apply, bc0, constantI_at, reduce_count (by decide) _ hl hs hu i (fun q => E q ≤ B) fun q => ?_]
  · exact min_word (Nat.count_le _)
  · rw [cmpi_at, bcRows, bcCols, hB, hE, cmpi_sle_ofNat_eq_one_iff (w := 32) (lE _ q.isLt) lB]

end Table

/-! ## The precondition -/

/-- The precondition on the counts gives `Fits`. -/
theorem fits_of_pre {F : FTy → Type} [FloatOps F] [Cert.Pre_rows_fit.Facts] (x : IVec (shape1 32) 32)
    (a1 : FVec F Pre_rows_fit.S259072x1024 .bf16) (a2 : FVec F Pre_rows_fit.S32x1024x2048 .f32) (a3 : FVec F Pre_rows_fit.S32x2048 .f32)
    (a4 : FVec F Pre_rows_fit.S32x1024x1024 .f32) (a5 : FVec F Pre_rows_fit.S32x1024 .f32)
    (h : Cert.Pre_rows_fit.fn x a1 a2 a3 a4 a5 = fun _ => 1#1) : Fits x := by
  have h0 := congrFun h ix0
  unfold Cert.Pre_rows_fit.fn Cert.Pre_rows_fit.fn_part1 at h0
  dsimp only at h0
  simp only [andi_at, IntOp.andi_eq_one, cmpi_at, constantI_at] at h0
  obtain ⟨⟨⟨hge, hle⟩, hsum⟩, hpos⟩ := h0
  haveI : Subsingleton Pre_rows_fit.S_.Idx := ⟨fun a b => (eq_ix0 a).trans (eq_ix0 b).symm⟩
  have hr : ∀ e, rows x e ≤ 259072 := by
    intro e
    by_cases he : e < 32
    · have g := Host.reduce_andi_all _ _ _ _ _ hge (ix1 ⟨e, he⟩)
      have l := Host.reduce_andi_all _ _ _ _ _ hle (ix1 ⟨e, he⟩)
      rw [cmpi_at, bc0, constantI_at] at g l
      unfold rows
      rw [dif_pos he]
      word_omega
    · unfold rows; rw [dif_neg he]; omega
  have hB : ∀ e, blocks x e ≤ 507 := fun e => by have := hr e; unfold blocks; omega
  have hS : ∀ (g : Nat → Nat) (k : Nat), (∀ e, g e ≤ k) → ∀ n, ((List.range n).map g).sum ≤ n * k := fun g k hg n => by
    induction n with
    | zero => simp
    | succ n ih => rw [List.range_succ, List.map_append, List.sum_append]; have := hg n; simp only [List.map_cons, List.map_nil, List.sum_cons, List.sum_nil]; rw [Nat.succ_mul]; omega
  have hp : ∀ i : Fin 32, muli (Host.divsi (addi x (broadcastInDim Pre_rows_fit.S32 ![] Pre_rows_fit.Facts.bcast_S_S32 (constantI Pre_rows_fit.S_ 32 511#32)))
      (broadcastInDim Pre_rows_fit.S32 ![] Pre_rows_fit.Facts.bcast_S_S32 (constantI Pre_rows_fit.S_ 32 512#32)))
      (broadcastInDim Pre_rows_fit.S32 ![] Pre_rows_fit.Facts.bcast_S_S32 (constantI Pre_rows_fit.S_ 32 512#32)) (ix1 i) = BitVec.ofNat 32 (blocks x i.val * 512) := fun i => by
    have := hr i.val
    rw [muli_ap, Host.divsi_apply, addi_ap, bc0, bc0, constantI_at, constantI_at, word_rows x i,
      show (511#32 : BitVec 32) = BitVec.ofNat 32 511 from rfl, BitVec.ofNat_add_ofNat,
      show (512#32 : BitVec 32) = BitVec.ofNat 32 512 from rfl, divsi_word .host (by omega) (by omega) (by omega), ← BitVec.ofNat_mul]
    rfl
  rw [reduce_sum (N := 32) _ (fun e => blocks x e * 512) hp, sum_rows, show (259072#32 : BitVec 32) = BitVec.ofNat 32 259072 from rfl,
    cmpi_sle_ofNat_eq_one_iff (w := 32) (by have := hS (blocks x) 507 hB 32; omega) (by omega)] at hsum
  rw [reduce_sum (N := 32) _ (rows x) (word_rows x), show (1#32 : BitVec 32) = BitVec.ofNat 32 1 from rfl,
    cmpi_sge_ofNat_eq_one_iff (w := 32) (by have := hS (rows x) 259072 hr 32; omega) (by omega)] at hpos
  refine ⟨hr, ?_, ?_⟩
  · show ((List.range 32).map (blocks x)).sum ≤ 506
    omega
  · show 1 ≤ ((List.range 32).map (blocks x)).sum
    by_contra hz
    have hz' : ((List.range 32).map (blocks x)).sum = 0 := by omega
    have hall := List.sum_eq_zero_iff.1 hz'
    have : ((List.range 32).map (rows x)).sum = 0 := List.sum_eq_zero_iff.2 fun n hn => by
      obtain ⟨e, he, rfl⟩ := List.mem_map.1 hn
      have := hall (blocks x e) (List.mem_map.2 ⟨e, he, rfl⟩)
      unfold blocks at this
      omega
    omega

end Cert.Plan

end
-- ==== Proof.Kern.Host.lean ====
/- Hand-written: what the host operations leave in the two tables and in the reshaped biases. -/
module

public import proofs.«01_k».proof.Proof.Kern.Run
public import proofs.«01_k».proof.Proof.Plan

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.ShloMosaic.ValueIdx Idealize.ShloMosaic.Routing Idealize.ShloMosaic.WordCmp Cert.Plan

variable {F : FTy → Type} [FloatOps F]
variable (m : (ℓ : Loc nD τ sig) → Buf (Elt F) ℓ)

/-- The row counts, as the launch memory holds them. -/
abbrev counts (c : Dev nD) : IVec (shape1 32) 32 := m ((c : Thread nD τ).loc main_arg0)

/-- The block at which each expert's blocks end, as the host computes it. -/
def endBlocksW (x : IVec (shape1 32) 32) : IVec (shape1 32) 32 :=
  pyDiv bcast_S_S32 (endsW bcast_S_S32 bcast_S_S_ reduceWindows_S32_S32_w32s1p31_0 h_S_ x) (id (constantI shape0 32 512#32))
/-- The number of blocks in use, and each block held below it. -/
def usedW (x : IVec (shape1 32) 32) : IVec (shape1 1) 32 := extractStridedSlice S1 ![31] (endBlocksW x) slices_S32_S1_31
def heldW (x : IVec (shape1 32) 32) : IVec (shape1 506) 32 :=
  minsi (iotaInDim (shape1 506) 32 0) (broadcastInDim S506 ![] bcast_S_S506 (subi (shapeCast S_ (usedW x) shapeCasts_S1_S_) (constantI S_ 32 1#32)))

set_option maxHeartbeats 4000000 in
theorem V_v9 (c : Dev nD) : V m c main_v9 = usedW (counts m c) := by
  unfold V; after_reads_simp
  simp -implicitDefEqProofs only [StableHlo.TRef.toBuf, StableHlo.TRef.ofBuf, cast_cast, cast_eq]
  rfl

set_option maxHeartbeats 4000000 in
theorem V_v23 (c : Dev nD) : V m c main_v23
    = countGe bcast_S506_S506x1_0 bcast_S32_S1x32_1 bcast_S506x1_S506x32_0_1 bcast_S1x32_S506x32_0_1 reducesTo_S506x32_S506_d1 h_S_ natLt_1_32 bcast_S_S506
        (heldW (counts m c)) (endBlocksW (counts m c)) := by
  unfold V; after_reads_simp
  simp -implicitDefEqProofs only [StableHlo.TRef.toBuf, StableHlo.TRef.ofBuf, cast_cast, cast_eq]
  rfl

theorem V_v24 (c : Dev nD) : V m c main_v24 = shapeCast S32x1x2048 (m ((c : Thread nD τ).loc main_arg3) : FVec F S32x2048 .f32) shapeCasts_S32x2048_S32x1x2048 := by
  unfold V; after_reads_simp; rfl
theorem V_v25 (c : Dev nD) : V m c main_v25 = shapeCast S32x1x1024 (m ((c : Thread nD τ).loc main_arg5) : FVec F S32x1024 .f32) shapeCasts_S32x1024_S32x1x1024 := by
  unfold V; after_reads_simp; rfl

theorem endBlocksW_apply {x : IVec (shape1 32) 32} (h : Fits x) (j : Fin 32) : endBlocksW x (ix1 j) = BitVec.ofNat 32 (ends x j.val) := by
  have := h.ends_le j.isLt
  unfold endBlocksW
  rw [pyDiv_ap _ _ _ _ (endsW_apply _ _ _ _ h j) (b := 512) rfl (by omega) (by omega) (by omega), Nat.mul_div_cancel _ (by omega)]

theorem usedW_apply {x : IVec (shape1 32) 32} (h : Fits x) : usedW x (ix1 (0 : Fin 1)) = BitVec.ofNat 32 (used x) := by
  unfold usedW
  exact (slice1 31 (endBlocksW x) _ (0 : Fin 1) (by decide)).trans (endBlocksW_apply h 31)

theorem heldW_apply {x : IVec (shape1 32) 32} (h : Fits x) (b : Fin 506) : heldW x (ix1 b) = BitVec.ofNat 32 (min b.val (used x - 1)) := by
  have h1 := h.used_pos
  have h2 := h.used_le
  have hb := b.isLt
  unfold heldW
  have hc : shapeCast S_ (usedW x) shapeCasts_S1_S_ ValueIdx.ix0 = usedW x (ix1 (0 : Fin 1)) := shapeCast_apply _ _ _ _ (by decide)
  rw [minsi_apply, bc0, subi_ap, constantI_at, hc, usedW_apply h, iota1_ap, show (1#32 : BitVec 32) = BitVec.ofNat 32 1 from rfl, ofNat32_sub h1,
    PlanTiles.minsi_word (by omega) (by omega), Nat.min_comm]

/-- The tables' entries: the number of blocks in use, and for block `b` the expert of block `b`, or past the blocks in use
    the last block's. -/
theorem v9_apply (c : Dev nD) (h : Fits (counts m c)) (j : S1.Idx) : V m c main_v9 j = BitVec.ofNat 32 (used (counts m c)) := by
  rw [V_v9]
  have : j = ix1 (0 : Fin 1) := by funext a; exact Fin.ext (by have := (j a).isLt; match a with | ⟨0, _⟩ => exact Nat.lt_one_iff.1 this)
  rw [this]; exact usedW_apply h
theorem v23_apply (c : Dev nD) (h : Fits (counts m c)) (b : Fin 506) :
    V m c main_v23 (ix1 b) = BitVec.ofNat 32 (expert (counts m c) (min b.val (used (counts m c) - 1))) := by
  rw [V_v23]
  have hb := b.isLt
  exact countGe_apply _ _ _ _ _ _ _ _ _ _ _ (ends (counts m c)) b (heldW_apply h b) (endBlocksW_apply h) (by omega)
    fun q hq => by have := h.ends_le hq; omega

end Cert.KernelIdeal.Kern

end
-- ==== Proof.Kern.Step.lean ====
/- Hand-written: what the body leaves at each point, the invariant carried between points (the scratch holds the cast weights
   of the block before), and the conditions the body's branches test. -/
module

public import proofs.«01_k».proof.Proof.Kern.Run
public import Idealize.ShloMosaic.Lib.WordCmp

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body's branches decide -/

/-- A block is in use at point `i` when its number is below the number of blocks in use. -/
theorem cond2_iff (i : grid0.Coords) (w : BitVec 32) : k0_cond2 i w = 1#1 ↔ (BitVec.ofNat 32 (i 0).val).toInt < w.toInt := by
  have h : ∀ b : Bool, Scalar.cmpi .ne (Scalar.extui (BitVec.ofBool b) : BitVec 32) 0#32 = 1#1 ↔ b = true := by decide
  exact (h _).trans decide_eq_true_iff

/-- At a block in use whose weights are not cast anew, the point is not the first and the expert is the one before's. -/
theorem stale_of (i : grid0.Coords) (w a b : BitVec 32) (h : k0_cond2 i w = 1#1) (hf : ¬ freshC i w a b = 1#1) :
    BitVec.ofNat 32 (i 0).val ≠ 0#32 ∧ a = b := by
  have hb : ∀ p q r : Bool, Scalar.cmpi .ne (Scalar.extui (BitVec.ofBool p) : BitVec 32) 0#32 = 1#1 →
      ¬ Scalar.cmpi .ne (Scalar.extui (Scalar.andi (BitVec.ofBool p) (Scalar.ori (BitVec.ofBool q) (BitVec.ofBool r))) : BitVec 32) 0#32 = 1#1 →
      q = false ∧ r = false := by decide
  obtain ⟨h1, h2⟩ := hb _ _ _ h hf
  exact ⟨by simpa using h1, by simpa using h2⟩

/-- The output block is stored at every point, so its window is idle at none. -/
theorem not_idle (a : (pcfg0 (F := F)).Adm) (i : grid0.Coords) : (cfg0 a).idle 5 i = false := by
  have h : ∀ w : BitVec 32, (!(k0_cond2 i w == 1#1) && !(k0_cond3 i w == 1#1)) = false := fun w => by
    have := cond3_iff i w
    by_cases h2 : k0_cond2 i w = 1#1 <;> simp_all
  exact h _

/-! ## The invariant: the scratch holds the weights of the block before, cast -/

/-- The block of point `t` is in use. -/
def Active (t : Fin grid0.N) : Prop := k0_cond2 (grid0.coords t) (nbAt m) = 1#1

/-- The block before one in use is in use. -/
theorem active_pred {t s : Fin grid0.N} (hs : s.val + 1 = t.val) (h : Active m t) : Active m s := by
  have ht : t.val < 506 := t.isLt
  unfold Active at h ⊢
  rw [cond2_iff, coords_val, WordCmp.toInt_ofNat_of_lt (by omega)] at h ⊢
  omega

/-- Before point `t`, the two scratch buffers hold `d0` and `d1`: the cast weights of the point before, if its block is in use. -/
def Held (hO : Ok m) (c : Dev nD) (t : ℕ) (d0 : Vec F S1024x2048 .bf16) (d1 : Vec F S1024x1024 .bf16) : Prop :=
  ∀ s : Fin grid0.N, s.val + 1 = t → Active m s → d0 = k0_pay1 (wguB m hO c s) ∧ d1 = k0_pay2 (wdB m hO c s)

/-- What the body leaves in the scratch at point `t`, from what it finds there. -/
abbrev wguAt (hO : Ok m) (c : Dev nD) (t : Fin grid0.N) (d0 : Vec F S1024x2048 .bf16) : Vec F S1024x2048 .bf16 :=
  wguOf (c := c) (grid0.coords t) (tbl m 0) (tbl m 1) (wguB m hO c t) d0
abbrev wdAt (hO : Ok m) (c : Dev nD) (t : Fin grid0.N) (d1 : Vec F S1024x1024 .bf16) : Vec F S1024x1024 .bf16 :=
  wdOf (c := c) (grid0.coords t) (tbl m 0) (tbl m 1) (wdB m hO c t) d1

/-- The table's word is read at an offset alone. -/
theorem word_congr (x : S506.Idx → BitVec 32) {o o' : Fin 1 → Nat} (h : ∀ a, o a + S1.size a ≤ S506.size a) (h' : ∀ a, o' a + S1.size a ≤ S506.size a)
    (e : o = o') : x ((Rect.unit (s := S506) o S1.size h).point numel1_S1) = x ((Rect.unit (s := S506) o' S1.size h').point numel1_S1) := by
  subst e; rfl

/-- At a block in use the body leaves the block's own weights, cast: it casts them there, or finds them there because the
    block before is of the same expert. -/
theorem step_active (hO : Ok m) (c : Dev nD) (t : Fin grid0.N) {d0 d1} (h : Held m hO c t.val d0 d1) (ha : Active m t) :
    wguAt m hO c t d0 = k0_pay1 (wguB m hO c t) ∧ wdAt m hO c t d1 = k0_pay2 (wdB m hO c t) := by
  unfold wguAt wdAt wguOf wdOf
  split
  · exact ⟨rfl, rfl⟩
  · rename_i hf
    obtain ⟨h0, he⟩ := stale_of _ _ _ _ ha hf
    rw [coords_val] at h0
    have ht : t.val < 506 := t.isLt
    have hp : t.val ≠ 0 := fun e => h0 (by rw [e])
    have hs : (⟨t.val - 1, by omega⟩ : Fin 506).val + 1 = t.val := Nat.sub_add_cancel (Nat.pos_of_ne_zero hp)
    obtain ⟨e0, e1⟩ := h (⟨t.val - 1, by omega⟩ : Fin 506) hs (active_pred m hs ha)
    have hb : beAt m (⟨t.val - 1, by omega⟩ : Fin 506) = beAt m t :=
      ((word_congr (tbl m 0) _ _ (off2_eq t (⟨t.val - 1, by omega⟩ : Fin 506) hs).symm).trans he.symm)
    rw [e0, e1, iblk_congr_1 m hO c hb, iblk_congr_3 m hO c hb]
    exact ⟨rfl, rfl⟩

/-- The invariant's step. -/
theorem held_step (hO : Ok m) (c : Dev nD) (t : Fin grid0.N) {d0 d1} (h : Held m hO c t.val d0 d1) :
    Held m hO c (t.val + 1) (wguAt m hO c t d0) (wdAt m hO c t d1) := by
  intro s hs ha
  obtain rfl : s = t := Fin.ext (by omega)
  exact step_active m hO c s h ha

/-- The output block at point `t`: the feed-forward of the block's rows through its own expert's cast weights, zeros past the blocks in use. -/
def ysB (hO : Ok m) (c : Dev nD) (t : Fin grid0.N) : Vec F S512x1024 .bf16 :=
  ysOf (c := c) (grid0.coords t) (tbl m 1) (xB m hO c t) (bguB m hO c t) (bdB m hO c t) (k0_pay1 (wguB m hO c t)) (k0_pay2 (wdB m hO c t))

theorem ys_step (hO : Ok m) (c : Dev nD) (t : Fin grid0.N) {d0 d1} (h : Held m hO c t.val d0 d1) :
    ysOf (c := c) (grid0.coords t) (tbl m 1) (xB m hO c t) (bguB m hO c t) (bdB m hO c t) (wguAt m hO c t d0) (wdAt m hO c t d1) = ysB m hO c t := by
  unfold ysB
  by_cases ha : Active m t
  · obtain ⟨e0, e1⟩ := step_active m hO c t h ha
    rw [e0, e1]
  · unfold ysOf
    exact (if_neg ha).trans (if_neg ha).symm

end Cert.KernelIdeal.Kern

end
-- ==== Proof.Kern.Sound.lean ====
/- Hand-written: the proof data of the pipeline, the body's obligation at every point, and the run of the launch: every
   execution ends with the output array holding the blocks the points leave, the arguments unchanged, no semaphore counting. -/
module

public import proofs.«01_k».proof.Proof.Kern.Step
public import Idealize.ShloMosaic.Lib.Pipeline.FrameBody

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs, the scratch, the invariant -/

abbrev ms_0 (hO : Ok m) (t : Fin (cfgM m hO).N) : Memref sig .tc .vmem S512x1024 .bf16 := spec0_0.stage ((cfgM m hO).slots t 0)
abbrev ms_1 (hO : Ok m) (t : Fin (cfgM m hO).N) : Memref sig .tc .vmem S1x1024x2048 .f32 := spec0_1.stage ((cfgM m hO).slots t 1)
abbrev ms_2 (hO : Ok m) (t : Fin (cfgM m hO).N) : Memref sig .tc .vmem S1x1x2048 .f32 := spec0_2.stage ((cfgM m hO).slots t 2)
abbrev ms_3 (hO : Ok m) (t : Fin (cfgM m hO).N) : Memref sig .tc .vmem S1x1024x1024 .f32 := spec0_3.stage ((cfgM m hO).slots t 3)
abbrev ms_4 (hO : Ok m) (t : Fin (cfgM m hO).N) : Memref sig .tc .vmem S1x1x1024 .f32 := spec0_4.stage ((cfgM m hO).slots t 4)
abbrev ms_5 (hO : Ok m) (t : Fin (cfgM m hO).N) : Memref sig .tc .vmem S512x1024 .bf16 := spec0_5.stage ((cfgM m hO).slots t 5)
abbrev scM_0 : Memref sig .tc .vmem S1024x2048 .bf16 := Memref.whole cc0_scratch0
abbrev scM_1 : Memref sig .tc .vmem S1024x1024 .bf16 := Memref.whole cc0_scratch1

/-- The body at point `t`, on the memrefs the pipeline passes it. -/
abbrev bodyAt (hO : Ok m) (t : Fin (cfgM m hO).N) : Prog (TpuEff nD τ sig (Elt F) Λ₀ .tc) PUnit :=
  cc0_moe_experts (grid0.coords t) beM hbeM nbM hnbM
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    (ms_4 m hO t) (hstage0_4 (((cfgM m hO).slots t 4).cast nbuf0_4)) (ms_5 m hO t) (hstage0_5 (((cfgM m hO).slots t 5).cast nbuf0_5))
    scM_0 (Memref.isWhole_whole _) scM_1 (Memref.isWhole_whole _)

/-- What the region hands over beside the windows: the two scratch buffers at some contents, and the generator register. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d)) ∗ (∃ r, prngReg c r)) := by
  unfold Pipeline.ΦA; rw [scopedRest0_eq]; simp only [scM_0, scM_1, owns_whole]; try rfl

/-- The invariant before point `t`: the scratch at contents that hold the cast weights of the block before (`Held`), the
    generator register, and the tables. -/
def Inv (hO : Ok m) (c : Dev nD) (t : ℕ) : sProp 𝕄 :=
  iprop((∃ d0 d1, ⌜Held m hO c t d0 d1⌝ ∗ owns (c : Thread nD τ) scM_0 fullShare d0 ∗ owns (c : Thread nD τ) scM_1 fullShare d1)
    ∗ (∃ r, prngReg c r) ∗ tbPt c beM (tbl m 0) ∗ tbPt c nbM (tbl m 1))

/-! ## The pipeline's proof data -/

/-- The arrays as the region finds them; after the body at point `t` each input's buffer at its block, the output's at the
    block's result; the invariant above; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => ysB m hO c t
  Φ t := Inv m hO c t.val
  q _ := fullShare
  owed _ := 0

theorem A_eq (hO : Ok m) (c : Dev nD) (w : Fin (cfgM m hO).W) : (dats m hO 0 c).A w = V m c (Pipeline.arrRef spec0 w) := by
  dsimp only [dats]

/-- An input's staging buffer holds its block at every point, fetched there or not. -/
theorem before_of (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = iblk m hO c w t)
    (t : Fin (cfgM m hO).N) (d) : (dats m hO 0 c).before w t d = ((cfgM m hO).win w).fill ((cfgM m hO).grid.coords t) d (iblk m hO c w t) :=
  ((dats m hO 0 c).before_in_eq_fetched w hw hlive hclip (fun t => by rw [hkeep]; unfold Dat.blockOf iblk; rw [A_eq]) t d).trans
    (by unfold Dat.fetched Dat.blockOf iblk; rw [A_eq])

theorem before_0 (hO : Ok m) (c : Dev nD) (t : Fin (cfgM m hO).N) (d) : (dats m hO 0 c).before 0 t d = xB m hO c t :=
  before_of m hO c 0 rfl (fun _ => rfl) (fun _ _ _ => rfl) (fun _ => rfl) t d
theorem before_1 (hO : Ok m) (c : Dev nD) (t : Fin (cfgM m hO).N) (d) : (dats m hO 0 c).before 1 t d = wguB m hO c t :=
  before_of m hO c 1 rfl (fun _ => rfl) (fun _ _ _ => rfl) (fun _ => rfl) t d
theorem before_2 (hO : Ok m) (c : Dev nD) (t : Fin (cfgM m hO).N) (d) : (dats m hO 0 c).before 2 t d = bguB m hO c t :=
  before_of m hO c 2 rfl (fun _ => rfl) (fun _ _ _ => rfl) (fun _ => rfl) t d
theorem before_3 (hO : Ok m) (c : Dev nD) (t : Fin (cfgM m hO).N) (d) : (dats m hO 0 c).before 3 t d = wdB m hO c t :=
  before_of m hO c 3 rfl (fun _ => rfl) (fun _ _ _ => rfl) (fun _ => rfl) t d
theorem before_4 (hO : Ok m) (c : Dev nD) (t : Fin (cfgM m hO).N) (d) : (dats m hO 0 c).before 4 t d = bdB m hO c t :=
  before_of m hO c 4 rfl (fun _ => rfl) (fun _ _ _ => rfl) (fun _ => rfl) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

set_option maxHeartbeats 800000 in
/-- The body at any point: the inputs' memrefs hold their blocks, the scratch the weights of the block before; it leaves the
    block's weights in the scratch and the block's result in the output's. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).after 0 t = xB m hO c t from rfl, show (dats m hO 0 c).after 1 t = wguB m hO c t from rfl,
    show (dats m hO 0 c).after 2 t = bguB m hO c t from rfl, show (dats m hO 0 c).after 3 t = wdB m hO c t from rfl,
    show (dats m hO 0 c).after 4 t = bdB m hO c t from rfl, show (dats m hO 0 c).after 5 t = ysB m hO c t from rfl,
    show (dats m hO 0 c).Φ t.castSucc = Inv m hO c t.val from rfl, show (dats m hO 0 c).Φ t.succ = Inv m hO c (t.val + 1) from rfl]
  unfold Inv
  iintro ⟨⟨⟨%s0, %s1, %hs, HS0, HS1⟩, Hg, HT0, HT1⟩, Ho, ⟨%d0, H0⟩, ⟨%d1, H1⟩, ⟨%d2, H2⟩, ⟨%d3, H3⟩, ⟨%d4, H4⟩, ⟨%d5, H5⟩⟩
  rw [← ys_step m hO c t hs]
  iapply ((body_run c (grid0.coords t) _ _ _ _ _ _ _ _ _ _ _ _ _ _ _ _ (xB m hO c t) (wguB m hO c t) (bguB m hO c t) (wdB m hO c t) (bdB m hO c t) s0 s1 (tbl m 0) (tbl m 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1]
    · iexists (wguAt m hO c t s0), (wdAt m hO c t s1)
      isplitr
      · ipureintro; exact held_step m hO c t hs
      isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation, at every point. -/
theorem body_obligation (hO : Ok m) (c : Dev nD) : BodyObligation (dats (F := F) m hO 0 c) (defs₀ (F := F)) Variants.none () Set.univ := fun t => by
  rw [bigSep_W0, bigSep_W0, defs₀_row m hO, not_idle (adm m hO)]
  exact triple_restated (sound_body m hO c t) rfl .rfl fun _ => .rfl

/-! ## The run -/

theorem phi_in (hO : Ok m) (c : Dev nD) : iprop(Pipeline.ΦA spec0 c ∗ Pipeline.ΦT pre0 (tbl m) c) ⊢ (dats m hO 0 c).Φ 0 := by
  rw [PhiA_eq, PhiT_eq, show (dats m hO 0 c).Φ 0 = Inv m hO c 0 from rfl]
  unfold Inv
  iintro ⟨⟨⟨⟨%s0, HS0⟩, ⟨%s1, HS1⟩⟩, Hg⟩, HT0, HT1⟩
  isplitl [HS0 HS1]
  · iexists s0, s1
    isplitr
    · ipureintro; exact fun s hs => absurd hs (Nat.succ_ne_zero _)
    isplitl [HS0]; · iexact HS0
    iexact HS1
  isplitl [Hg]; · iexact Hg
  isplitl [HT0]; · iexact HT0
  iexact HT1

theorem phi_out (hO : Ok m) (c : Dev nD) : (dats m hO 0 c).Φ (Fin.last (cfgM m hO).N) ⊢ Pipeline.ΦA spec0 c := by
  rw [PhiA_eq, show (dats m hO 0 c).Φ (Fin.last (cfgM m hO).N) = Inv m hO c (cfgM m hO).N from rfl]
  unfold Inv
  iintro ⟨⟨%s0, %s1, %hs, HS0, HS1⟩, Hg, HT0, HT1⟩
  isplitl [HS0 HS1]
  · isplitl [HS0]; · iexists s0; iexact HS0
    iexists s1; iexact HS1
  iexact Hg

set_option backward.isDefEq.respectTransparency.types false in
/-- Every weakly fair execution of @main ends, with the pipeline's arrays as the points leave them, every other buffer as the
    region found it, and no semaphore counting. -/
theorem run_main (hO : Ok m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := phi_in m hO) (hout := phi_out m hO)

end Cert.KernelIdeal.Kern

end
-- ==== Proof.Kern.Frame.lean ====
/- Hand-written: the tables of a plan that fits place every block inside its array, so the run of Sound.lean holds; and what
   it leaves: the arguments unchanged, the counters at zero, the output as the pipeline wrote it. -/
module

public import proofs.«01_k».proof.Proof.Kern.Host
public import proofs.«01_k».proof.Proof.Kern.Sound
public import Idealize.ShloMosaic.Lib.Pipeline.ValueKit

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic Idealize.SL.Sem
open Idealize.ShloMosaic.ValueIdx Idealize.ShloMosaic.Routing Idealize.ShloMosaic.WordCmp Cert.Plan

variable {F : FTy → Type} [FloatOps F]
variable (m : (ℓ : Loc nD τ sig) → Buf (Elt F) ℓ) (ρ : Dev nD → PrngReg)

/-! ## The tables' words at a point -/

/-- The table entry of a point is the entry of its number. -/
theorem beW_eq (i : grid0.Coords) (x : TbBuf (F := F) (0 : Dev nD) beM) : beW i x = x (ValueIdx.ix1 (i 0 : Fin 506)) := by
  unfold beW
  refine congrArg x (funext fun a => Fin.ext ?_)
  have hi : (i 0).val < 506 := (i 0).isLt
  match a with
  | ⟨0, _⟩ =>
    show (BitVec.ofNat 32 (i 0).val).toNat + 1 * 0 = (i 0).val
    rw [toNat_ofNat_of_lt (w := 32) (by omega)]
    omega

/-- The expert word of a point, and the number of blocks in use, as the plan has them. -/
theorem be_word (h : Fits (counts m 0)) (i : grid0.Coords) :
    beW (F := F) (c := (0 : Dev nD)) i (tbl m 0) = BitVec.ofNat 32 (expert (counts m 0) (min (i 0).val (used (counts m 0) - 1))) :=
  (beW_eq i _).trans (v23_apply m 0 h (i 0 : Fin 506))
theorem nb_word (h : Fits (counts m 0)) : nbW (F := F) (c := (0 : Dev nD)) (tbl m 1) = BitVec.ofNat 32 (used (counts m 0)) := v9_apply m 0 h _

theorem be_nat (h : Fits (counts m 0)) (i : grid0.Coords) :
    (beW (F := F) (c := (0 : Dev nD)) i (tbl m 0)).toNat = expert (counts m 0) (min (i 0).val (used (counts m 0) - 1)) := by
  have := expert_lt (counts m 0) (min (i 0).val (used (counts m 0) - 1))
  rw [be_word m h, toNat_ofNat_of_lt (w := 32) (by omega)]

/-- The block of rows a point reads: its own, or past the blocks in use the last of those. -/
theorem xi_nat (h : Fits (counts m 0)) (i : grid0.Coords) :
    (Scalar.minsi (BitVec.ofNat 32 (i 0).val) (Scalar.subi (nbW (F := F) (c := (0 : Dev nD)) (tbl m 1)) 1#32)).toNat = min (i 0).val (used (counts m 0) - 1) := by
  have hi : (i 0).val < 506 := (i 0).isLt
  have h1 := h.used_pos
  have h2 := h.used_le
  have e : Scalar.subi (nbW (F := F) (c := (0 : Dev nD)) (tbl m 1)) 1#32 = BitVec.ofNat 32 (used (counts m 0) - 1) := by
    rw [nb_word m h]; exact ofNat32_sub (b := 1) h1
  rw [e]
  refine (congrArg BitVec.toNat (PlanTiles.minsi_word (by omega) (by omega))).trans ?_
  rw [toNat_ofNat_of_lt (w := 32) (by omega), Nat.min_comm]

/-- Tables whose words are in range place every block inside its array. -/
theorem ok_of_words (pf : pre0.Contents (Elt F)) (hbe : ∀ i : grid0.Coords, (beW (F := F) (c := (0 : Dev nD)) i (pf 0)).toNat < 32)
    (hxi : ∀ i : grid0.Coords, (Scalar.minsi (BitVec.ofNat 32 (i 0).val) (Scalar.subi (nbW (F := F) (c := (0 : Dev nD)) (pf 1)) 1#32)).toNat < 506) :
    ok0 (F := F) pf := by
  refine ⟨fun i => ⟨fun a => ?_, .inr (Affine.block_words_dvd (of_decide_eq_true rfl) (by decide))⟩, fun i => ⟨fun a => ?_, .inl rfl⟩,
    fun i => ⟨fun a => ?_, .inl rfl⟩, fun i => ⟨fun a => ?_, .inl rfl⟩, fun i => ⟨fun a => ?_, .inl rfl⟩⟩
  · have := hxi i
    match a with
    | ⟨0, _⟩ =>
      show ((Scalar.minsi (BitVec.ofNat 32 (i 0).val) (Scalar.subi (nbW (F := F) (c := (0 : Dev nD)) (pf 1)) 1#32)).toNat + 1) * 512 ≤ 259072
      omega
    | ⟨1, _⟩ => exact (by decide : (0 + 1) * 1024 ≤ 1024)
  · have := hbe i
    match a with
    | ⟨0, _⟩ => show ((beW (F := F) (c := (0 : Dev nD)) i (pf 0)).toNat + 1) * 1 ≤ 32; omega
    | ⟨1, _⟩ => exact (by decide : (0 + 1) * 1024 ≤ 1024)
    | ⟨2, _⟩ => exact (by decide : (0 + 1) * 2048 ≤ 2048)
  · have := hbe i
    match a with
    | ⟨0, _⟩ => show ((beW (F := F) (c := (0 : Dev nD)) i (pf 0)).toNat + 1) * 1 ≤ 32; omega
    | ⟨1, _⟩ => exact (by decide : (0 + 1) * 1 ≤ 1)
    | ⟨2, _⟩ => exact (by decide : (0 + 1) * 2048 ≤ 2048)
  · have := hbe i
    match a with
    | ⟨0, _⟩ => show ((beW (F := F) (c := (0 : Dev nD)) i (pf 0)).toNat + 1) * 1 ≤ 32; omega
    | ⟨1, _⟩ => exact (by decide : (0 + 1) * 1024 ≤ 1024)
    | ⟨2, _⟩ => exact (by decide : (0 + 1) * 1024 ≤ 1024)
  · have := hbe i
    match a with
    | ⟨0, _⟩ => show ((beW (F := F) (c := (0 : Dev nD)) i (pf 0)).toNat + 1) * 1 ≤ 32; omega
    | ⟨1, _⟩ => exact (by decide : (0 + 1) * 1 ≤ 1)
    | ⟨2, _⟩ => exact (by decide : (0 + 1) * 1024 ≤ 1024)

/-- A plan that fits has such tables. -/
theorem ok_of_fits (h : Fits (counts m 0)) : Ok m :=
  ok_of_words (tbl m) (fun i => by rw [be_nat m h]; exact expert_lt _ _)
    (fun i => by rw [xi_nat m h]; have := h.used_le; have := h.used_pos; omega)

/-! ## What the run leaves -/

/-- The run of a plan that fits: the arguments unchanged, the output as the pipeline's write-backs leave it, the counters at
    zero. -/
theorem run_args (hO : Ok m) : θ_run defs (onTc (τ := τ) (main (F := F))) ⟨m, fun _ => 0, ρ⟩ (fun r => (∀ c : Dev nD,
      r.2.mem ((c : Thread nD τ).loc main_v26) = (dats m hO 0 c).arrAt 5 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => ⟨h.1.out_eq c 5,
    (h.1.rest_eq c main_arg0 (by decide : main_arg0 ∈ Pipeline.restRefs sig spec0)).trans (V_of_not_written m c (by decide)),
    ((h.1.in_eq c 0 rfl).trans (A_eq m hO c 0)).trans (V_of_not_written m c (r := main_arg1) (by decide)),
    ((h.1.in_eq c 1 rfl).trans (A_eq m hO c 1)).trans (V_of_not_written m c (r := main_arg2) (by decide)),
    (h.1.rest_eq c main_arg3 (by decide : main_arg3 ∈ Pipeline.restRefs sig spec0)).trans (V_of_not_written m c (by decide)),
    ((h.1.in_eq c 3 rfl).trans (A_eq m hO c 3)).trans (V_of_not_written m c (r := main_arg4) (by decide)),
    (h.1.rest_eq c main_arg5 (by decide : main_arg5 ∈ Pipeline.restRefs sig spec0)).trans (V_of_not_written m c (by decide))⟩, h.2⟩)
    (run_main m ρ hO)

end Cert.KernelIdeal.Kern

end
-- ==== Proof.Spec.lean ====
/- Hand-written: the function both programs compute, on plain families over the extended reals. -/
module

public import Idealize.ShloMosaic.PureOps.Ideal
public import Idealize.ShloMosaic.Lib.ValueIdxCore

@[expose] public section

noncomputable section

namespace Cert.Spec

open Idealize.ShloMosaic

/-- The two bounds of the gated unit, 7 and −7, and the slope 1.702 of its sigmoid, as the programs' literals denote them. -/
abbrev hi : EReal := Ideal.ofBits FTy.f32 1088421888#32
abbrev lo : EReal := Ideal.ofBits FTy.f32 3235905536#32
abbrev slope : EReal := Ideal.ofBits FTy.f32 1071242019#32

/-- Column `g` of a row times an expert's first matrix, plus that column's bias. -/
def pre (x : Fin 1024 → EReal) (w1 : Fin 1024 → Fin 2048 → EReal) (b1 : Fin 2048 → EReal) (g : Fin 2048) : EReal :=
  ∑ e, x e * w1 e g + b1 g

/-- The gated unit at gate `g` and linear part `u`. -/
def unit (g u : EReal) : EReal :=
  (min hi (max lo u) + 1) * (min g hi * Ideal.logistic (slope * min g hi))

/-- Element `d` of a row through an expert: the first matrix and bias; the gated unit on column `f` (the gate) and column
    `1024 + f` (the linear part); the second matrix and bias. -/
def row (x : Fin 1024 → EReal) (w1 : Fin 1024 → Fin 2048 → EReal) (b1 : Fin 2048 → EReal)
    (w2 : Fin 1024 → Fin 1024 → EReal) (b2 : Fin 1024 → EReal) (d : Fin 1024) : EReal :=
  ∑ f : Fin 1024, unit (pre x w1 b1 ⟨f.val, by have := f.isLt; omega⟩) (pre x w1 b1 ⟨1024 + f.val, by have := f.isLt; omega⟩) * w2 f d + b2 d

/-- Element `(R, d)` of the result over a sorted buffer of rows cut into blocks of 512: the row through the expert `ex t` of its
    block `t` while `t` is below the number `n` of blocks in use, zero past those. -/
def out (n : Nat) (ex : Nat → Fin 32) (x : Fin 259072 → Fin 1024 → EReal) (w1 : Fin 32 → Fin 1024 → Fin 2048 → EReal)
    (b1 : Fin 32 → Fin 2048 → EReal) (w2 : Fin 32 → Fin 1024 → Fin 1024 → EReal) (b2 : Fin 32 → Fin 1024 → EReal)
    (R : Fin 259072) (d : Fin 1024) : EReal :=
  if R.val / 512 < n then row (x R) (w1 (ex (R.val / 512))) (b1 (ex (R.val / 512))) (w2 (ex (R.val / 512))) (b2 (ex (R.val / 512))) d else 0

/-- The result at the row of number `r` in block `t`. -/
theorem out_at {n : Nat} {ex : Nat → Fin 32} {x : Fin 259072 → Fin 1024 → EReal} {w1 : Fin 32 → Fin 1024 → Fin 2048 → EReal}
    {b1 : Fin 32 → Fin 2048 → EReal} {w2 : Fin 32 → Fin 1024 → Fin 1024 → EReal} {b2 : Fin 32 → Fin 1024 → EReal}
    {R : Fin 259072} {d : Fin 1024} (t r : Nat) (hr : r < 512) (hR : R.val = t * 512 + r) :
    out n ex x w1 b1 w2 b2 R d = if t < n then row (x R) (w1 (ex t)) (b1 (ex t)) (w2 (ex t)) (b2 (ex t)) d else 0 := by
  have : R.val / 512 = t := by omega
  unfold out
  rw [this]

end Cert.Spec

end
-- ==== Proof.Kern.Out.lean ====
/- Hand-written: what the kernel's output array holds after the run, over the extended reals: block `t` of the rows through
   the expert of block `t` while `t` is a block in use, and zero past those. -/
module

public import proofs.«01_k».proof.Proof.Kern.Frame
public import proofs.«01_k».proof.Proof.Spec
public import Idealize.ShloMosaic.PureOps.Ideal
public import Idealize.ShloMosaic.Lib.Pointwise

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic Idealize.SL.Sem
open Idealize.ShloMosaic.ValueIdx Idealize.ShloMosaic.Routing Idealize.ShloMosaic.WordCmp Idealize.ShloMosaic.Pipeline Cert.Plan

/-! ## The body's two stores, at an index -/

/-- What the body stores of a block in use: the row through the expert whose matrices are held. -/
theorem pay3_apply (x : Vec Ideal S512x1024 .bf16) (w1 : Vec Ideal S1x1024x2048 .f32) (b1 : Vec Ideal S1x1x2048 .f32)
    (w2 : Vec Ideal S1x1024x1024 .f32) (b2 : Vec Ideal S1x1x1024 .f32) (r : Fin 512) (d : Fin 1024) :
    k0_pay3 x (k0_pay1 w1) b1 (k0_pay2 w2) b2 (ValueIdx.ix2 r d)
      = Spec.row (fun e => x (ValueIdx.ix2 r e)) (fun e g => w1 (ValueIdx.ix3 (0 : Fin 1) e g)) (fun g => b1 (ValueIdx.ix3 (0 : Fin 1) (0 : Fin 1) g))
          (fun f d => w2 (ValueIdx.ix3 (0 : Fin 1) f d)) (fun d => b2 (ValueIdx.ix3 (0 : Fin 1) (0 : Fin 1) d)) d := by
  unfold k0_pay3 k0_pay1 k0_pay2
  pointwise
  rfl

/-- What it stores of a block past those in use. -/
theorem pay4_apply (r : Fin 512) (d : Fin 1024) : k0_pay4 (F := Ideal) (ValueIdx.ix2 r d) = (0 : EReal) := by
  unfold k0_pay4
  pointwise

variable (m : (ℓ : Loc nD τ sig) → Buf (Elt Ideal) ℓ)

/-! ## The blocks, read off the arguments -/

/-- The arguments' arrays as the programs have them. -/
abbrev A1 (c : Dev nD) : Vec Ideal S259072x1024 .bf16 := m ((c.tc : Thread nD τ).loc main_arg1)
abbrev A2 (c : Dev nD) : Vec Ideal S32x1024x2048 .f32 := m ((c.tc : Thread nD τ).loc main_arg2)
abbrev A3 (c : Dev nD) : Vec Ideal S32x2048 .f32 := m ((c.tc : Thread nD τ).loc main_arg3)
abbrev A4 (c : Dev nD) : Vec Ideal S32x1024x1024 .f32 := m ((c.tc : Thread nD τ).loc main_arg4)
abbrev A5 (c : Dev nD) : Vec Ideal S32x1024 .f32 := m ((c.tc : Thread nD τ).loc main_arg5)

/-- A block in use reads its own rows. -/
theorem xB_apply (h : Fits (counts m 0)) (hO : Ok m) (c : Dev nD) (t : Fin grid0.N) (ht : t.val < used (counts m 0)) (r : Fin 512) (e : Fin 1024)
    (R : Fin 259072) (hR : R.val = t.val * 512 + r.val) : xB m hO c t (ValueIdx.ix2 r e) = A1 m c (ValueIdx.ix2 R e) := by
  refine Eq.trans ?_ (congrFun (V_of_not_written m c (r := main_arg1) (by decide)) _)
  refine congrArg (V m c main_arg1) (funext fun a => Fin.ext ?_)
  refine (Window.rect_emb_val ((cfgM m hO).win 0) t (ValueIdx.ix2 r e) a).trans ?_
  rw [index_0]
  match a with
  | ⟨0, _⟩ =>
    refine (congrArg (fun n => n * 512 + r.val) ((xi_nat m h (grid0.coords t)).trans ?_)).trans hR.symm
    rw [coords_val]; omega
  | ⟨1, _⟩ => show 0 * 1024 + e.val = e.val; omega

/-- The expert whose weights a point reads. -/
def exAt (t : Nat) : Fin 32 := ⟨expert (counts m 0) t, expert_lt _ _⟩

theorem be_at (h : Fits (counts m 0)) (t : Fin grid0.N) (ht : t.val < used (counts m 0)) :
    (beW (F := Ideal) (c := (0 : Dev nD)) (grid0.coords t) (tbl m 0)).toNat = (exAt m t.val).val := by
  rw [be_nat m h, coords_val, Nat.min_eq_left (by omega)]; rfl

theorem wguB_apply (h : Fits (counts m 0)) (hO : Ok m) (c : Dev nD) (t : Fin grid0.N) (ht : t.val < used (counts m 0)) (e : Fin 1024) (g : Fin 2048) :
    wguB m hO c t (ValueIdx.ix3 (0 : Fin 1) e g) = A2 m c (ValueIdx.ix3 (exAt m t.val) e g) := by
  refine Eq.trans ?_ (congrFun (V_of_not_written m c (r := main_arg2) (by decide)) _)
  refine congrArg (V m c main_arg2) (funext fun a => Fin.ext ?_)
  refine (Window.rect_emb_val ((cfgM m hO).win 1) t (ValueIdx.ix3 (0 : Fin 1) e g) a).trans ?_
  rw [index_1]
  match a with
  | ⟨0, _⟩ => exact (congrArg (fun n => n * 1 + 0) (be_at m h t ht)).trans (by show (exAt m t.val).val * 1 + 0 = (exAt m t.val).val; omega)
  | ⟨1, _⟩ => show 0 * 1024 + e.val = e.val; omega
  | ⟨2, _⟩ => show 0 * 2048 + g.val = g.val; omega

theorem wdB_apply (h : Fits (counts m 0)) (hO : Ok m) (c : Dev nD) (t : Fin grid0.N) (ht : t.val < used (counts m 0)) (f : Fin 1024) (d : Fin 1024) :
    wdB m hO c t (ValueIdx.ix3 (0 : Fin 1) f d) = A4 m c (ValueIdx.ix3 (exAt m t.val) f d) := by
  refine Eq.trans ?_ (congrFun (V_of_not_written m c (r := main_arg4) (by decide)) _)
  refine congrArg (V m c main_arg4) (funext fun a => Fin.ext ?_)
  refine (Window.rect_emb_val ((cfgM m hO).win 3) t (ValueIdx.ix3 (0 : Fin 1) f d) a).trans ?_
  rw [index_3]
  match a with
  | ⟨0, _⟩ => exact (congrArg (fun n => n * 1 + 0) (be_at m h t ht)).trans (by show (exAt m t.val).val * 1 + 0 = (exAt m t.val).val; omega)
  | ⟨1, _⟩ => show 0 * 1024 + f.val = f.val; omega
  | ⟨2, _⟩ => show 0 * 1024 + d.val = d.val; omega

/-- A bias table under a unit axis, at an index. -/
theorem unitAxis1 (x : Vec Ideal S32x2048 .f32) (b : Fin 32) (g : Fin 2048) :
    (shapeCast S32x1x2048 x shapeCasts_S32x2048_S32x1x2048 : Vec Ideal S32x1x2048 .f32) (ValueIdx.ix3 b (0 : Fin 1) g) = x (ValueIdx.ix2 b g) := by
  pointwise
  rfl
theorem unitAxis2 (x : Vec Ideal S32x1024 .f32) (b : Fin 32) (d : Fin 1024) :
    (shapeCast S32x1x1024 x shapeCasts_S32x1024_S32x1x1024 : Vec Ideal S32x1x1024 .f32) (ValueIdx.ix3 b (0 : Fin 1) d) = x (ValueIdx.ix2 b d) := by
  pointwise
  rfl

theorem bguB_apply (h : Fits (counts m 0)) (hO : Ok m) (c : Dev nD) (t : Fin grid0.N) (ht : t.val < used (counts m 0)) (g : Fin 2048) :
    bguB m hO c t (ValueIdx.ix3 (0 : Fin 1) (0 : Fin 1) g) = A3 m c (ValueIdx.ix2 (exAt m t.val) g) := by
  refine Eq.trans ?_ ((congrFun (V_v24 m c) (ValueIdx.ix3 (exAt m t.val) (0 : Fin 1) g)).trans (unitAxis1 _ _ g))
  refine congrArg (V m c main_v24) (funext fun a => Fin.ext ?_)
  refine (Window.rect_emb_val ((cfgM m hO).win 2) t (ValueIdx.ix3 (0 : Fin 1) (0 : Fin 1) g) a).trans ?_
  rw [index_2]
  match a with
  | ⟨0, _⟩ => exact (congrArg (fun n => n * 1 + 0) (be_at m h t ht)).trans (by show (exAt m t.val).val * 1 + 0 = (exAt m t.val).val; omega)
  | ⟨1, _⟩ => rfl
  | ⟨2, _⟩ => show 0 * 2048 + g.val = g.val; omega

theorem bdB_apply (h : Fits (counts m 0)) (hO : Ok m) (c : Dev nD) (t : Fin grid0.N) (ht : t.val < used (counts m 0)) (d : Fin 1024) :
    bdB m hO c t (ValueIdx.ix3 (0 : Fin 1) (0 : Fin 1) d) = A5 m c (ValueIdx.ix2 (exAt m t.val) d) := by
  refine Eq.trans ?_ ((congrFun (V_v25 m c) (ValueIdx.ix3 (exAt m t.val) (0 : Fin 1) d)).trans (unitAxis2 _ _ d))
  refine congrArg (V m c main_v25) (funext fun a => Fin.ext ?_)
  refine (Window.rect_emb_val ((cfgM m hO).win 4) t (ValueIdx.ix3 (0 : Fin 1) (0 : Fin 1) d) a).trans ?_
  rw [index_4]
  match a with
  | ⟨0, _⟩ => exact (congrArg (fun n => n * 1 + 0) (be_at m h t ht)).trans (by show (exAt m t.val).val * 1 + 0 = (exAt m t.val).val; omega)
  | ⟨1, _⟩ => rfl
  | ⟨2, _⟩ => show 0 * 1024 + d.val = d.val; omega

/-! ## The output block, and the array -/

/-- What the run leaves in the output array. -/
def outA (c : Dev nD) : Vec Ideal S259072x1024 .bf16 := fun i =>
  Spec.out (used (counts m 0)) (exAt m) (fun R e => A1 m c (ValueIdx.ix2 R e)) (fun b e g => A2 m c (ValueIdx.ix3 b e g)) (fun b g => A3 m c (ValueIdx.ix2 b g))
    (fun b f d => A4 m c (ValueIdx.ix3 b f d)) (fun b d => A5 m c (ValueIdx.ix2 b d)) (i 0) (i 1)

/-- A block is in use when its number is below the number of blocks in use. -/
theorem cond2_used (h : Fits (counts m 0)) (t : Fin grid0.N) :
    k0_cond2 (grid0.coords t) (nbW (F := Ideal) (c := (0 : Dev nD)) (tbl m 1)) = 1#1 ↔ t.val < used (counts m 0) := by
  have ht : t.val < 506 := t.isLt
  have h2 := h.used_le
  rw [cond2_iff, nb_word m h, coords_val, StableHlo.Predicate.toInt_ofNat_small _ (by omega), StableHlo.Predicate.toInt_ofNat_small _ (by omega)]
  omega

/-- The block a point leaves, at an index. -/
theorem ysB_apply (h : Fits (counts m 0)) (hO : Ok m) (c : Dev nD) (t : Fin grid0.N) (r : Fin 512) (d : Fin 1024)
    (R : Fin 259072) (hR : R.val = t.val * 512 + r.val) : ysB m hO c t (ValueIdx.ix2 r d) = outA m c (ValueIdx.ix2 R d) := by
  refine Eq.trans ?_ (Spec.out_at t.val r.val r.isLt hR).symm
  unfold ysB ysOf
  by_cases ha : t.val < used (counts m 0)
  · refine (congrFun (if_pos ((cond2_used m h t).2 ha)) _).trans (Eq.trans ?_ (if_pos ha).symm)
    refine (pay3_apply _ _ _ _ _ r d).trans ?_
    simp only [xB_apply m h hO c t ha r _ R hR, wguB_apply m h hO c t ha, wdB_apply m h hO c t ha, bguB_apply m h hO c t ha, bdB_apply m h hO c t ha]
  · exact (congrFun (if_neg fun hc => ha ((cond2_used m h t).1 hc)) _).trans ((pay4_apply r d).trans (if_neg ha).symm)

/-- The output's block is the point's. -/
theorem index_5 (a : (pcfg0 (F := Ideal)).Adm) (t : Fin grid0.N) : ((cfg0 a).win 5).index t = ![(BitVec.ofNat 32 (grid0.coords t 0).val).toNat, 0] := rfl

/-- Every point writes its block back. -/
theorem flushed (a : (pcfg0 (F := Ideal)).Adm) (t : Fin grid0.N) : ((cfg0 a).win 5).flush t = true := by
  have h : ∀ t : Fin grid0.N, Window.flushOf grid0 true (fun i => ![(BitVec.ofNat 32 (i 0).val).toNat, 0]) t = true := by decide +kernel
  exact h t

/-- Where the output block of a point lies in the array. -/
def emb5 (hO : Ok m) (t : Fin grid0.N) (y : S512x1024.Idx) : S259072x1024.Idx := (((cfgM m hO).win 5).blk t).view.emb y

theorem emb5_val (hO : Ok m) (t : Fin grid0.N) (y : S512x1024.Idx) (a : Fin 2) :
    (emb5 m hO t y a).val = (![t.val, 0] : Fin 2 → Nat) a * S512x1024.size a + (y a).val := by
  refine (Window.rect_emb_val ((cfgM m hO).win 5) t y a).trans ?_
  have ht : t.val < 506 := t.isLt
  rw [index_5]
  match a with
  | ⟨0, _⟩ =>
    refine congrArg (fun n => n * 512 + (y 0).val) ?_
    show (BitVec.ofNat 32 (grid0.coords t 0).val).toNat = t.val
    rw [coords_val, toNat_ofNat_of_lt (w := 32) (by omega)]
  | ⟨1, _⟩ => rfl

/-- The block a point leaves is the array's, where it lies. -/
theorem ysB_emb (h : Fits (counts m 0)) (hO : Ok m) (c : Dev nD) (t : Fin grid0.N) (y : S512x1024.Idx) :
    ysB m hO c t y = outA m c (emb5 m hO t y) := by
  have hy : y = ValueIdx.ix2 (y 0 : Fin 512) (y 1 : Fin 1024) := by
    funext a; match a with
    | ⟨0, _⟩ => rfl
    | ⟨1, _⟩ => rfl
  refine (congrArg (ysB m hO c t) hy).trans ((ysB_apply m h hO c t (y 0) (y 1) (emb5 m hO t y 0) (emb5_val m hO t y 0)).trans ?_)
  refine congrArg (outA m c) (funext fun a => Fin.ext ?_)
  match a with
  | ⟨0, _⟩ => rfl
  | ⟨1, _⟩ => exact ((emb5_val m hO t y 1).trans (by show 0 * 1024 + (y 1).val = (y 1).val; omega)).symm

/-- Every place of the array lies in some point's block. -/
theorem cover5 (hO : Ok m) (i : S259072x1024.Idx) : ∃ (t : Fin grid0.N) (y : S512x1024.Idx), emb5 m hO t y = i := by
  have hi0 : (i 0).val < 259072 := (i 0).isLt
  refine ⟨(⟨(i 0).val / 512, by omega⟩ : Fin 506), ValueIdx.ix2 (⟨(i 0).val % 512, by omega⟩ : Fin 512) (i 1 : Fin 1024), ?_⟩
  funext a
  refine Fin.ext ((emb5_val m hO _ _ a).trans ?_)
  match a with
  | ⟨0, _⟩ => show (i 0).val / 512 * 512 + (i 0).val % 512 = (i 0).val; omega
  | ⟨1, _⟩ => show 0 * 1024 + (i 1).val = (i 1).val; omega

/-- The array the run leaves. -/
theorem arr_5 (h : Fits (counts m 0)) (hO : Ok m) (c : Dev nD) : (dats m hO 0 c).arrAt 5 (cfgM m hO).N = outA m c :=
  (dats m hO 0 c).arrAt_eq_of_emb 5 (outA m c) (fun t _ y => ysB_emb m h hO c t y) fun i =>
    let ⟨t, y, e⟩ := cover5 m hO i
    ⟨t, flushed _ t, e ▸ View.emb_mem_set _ y⟩

end Cert.KernelIdeal.Kern

end
-- ==== Proof.Ref.Stages.lean ====
/- Hand-written: the reference's result in named stages. -/
module

public import proofs.«01_k».proof.Proof.Gen.ReferenceIdeal.Run
public import proofs.«01_k».proof.Proof.Plan
public import proofs.«01_k».proof.Proof.Spec
public import Idealize.ShloMosaic.PureOps.Ideal
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.ShloMosaic.ValueIdx Idealize.ShloMosaic.Routing Cert.Plan

/-! ## The word stages -/

/-- The row at which each expert's blocks end, the first row of each block, the expert of each block, and that number as the
    gathers take it; then which blocks are in use. -/
def endRowsW (x : IVec (shape1 32) 32) : IVec (shape1 32) 32 := endsW bcast_S_S32 bcast_S_S_ reduceWindows_S32_S32_w32s1p31_0 h_S_ x
def startW : IVec (shape1 506) 32 := muli (iotaInDim S506 32 0) (broadcastInDim S506 ![] bcast_S_S506 (constantI S_ 32 512#32))
def expertW (x : IVec (shape1 32) 32) : IVec (shape1 506) 32 :=
  countLe bcast_S506_S506x1_0 bcast_S32_S1x32_1 bcast_S506x1_S506x32_0_1 bcast_S1x32_S506x32_0_1 reducesTo_S506x32_S506_d1 h_S_ natLt_1_32 bcast_S_S506
    startW (endRowsW x)
def pickW (x : IVec (shape1 32) 32) : IVec (shape2 506 1) 32 :=
  broadcastInDim S506x1 ![0] bcast_S506_S506x1_0 (select (cmpi .slt (expertW x) (broadcastInDim S506 ![] bcast_S_S506 (constantI S_ 32 0#32)))
    (addi (expertW x) (broadcastInDim S506 ![] bcast_S_S506 (constantI S_ 32 32#32))) (expertW x))
def liveW (x : IVec (shape1 32) 32) : IVec (shape1 506) 1 :=
  cmpi .slt startW (broadcastInDim S506 ![] bcast_S_S506 (shapeCast S_ (extractStridedSlice S1 ![31] (endRowsW x) slices_S32_S1_31) shapeCasts_S1_S_))

/-! ## The arithmetic stages, from each block's matrices and biases -/

/-- The first matrix and bias, over every block. -/
def guR (x : FVec Ideal S259072x1024 .bf16) (w1 : FVec Ideal S506x1024x2048 .f32) (b1 : FVec Ideal S506x2048 .f32) : FVec Ideal S506x512x2048 .f32 :=
  addf (Host.dotGeneral dot_S506x512x1024_S506x1024x2048_S506x512x2048_2_1_1_2_0_0 none
      (shapeCast _ (extf .f32 x bitsLt_bf16_f32) shapeCasts_S259072x1024_S506x512x1024) w1)
    (broadcastInDim S506x512x2048 ![0, 1, 2] bcast_S506x1x2048_S506x512x2048_0_1_2 (broadcastInDim S506x1x2048 ![0, 2] bcast_S506x2048_S506x1x2048_0_2 b1))
/-- The gate, bounded above. -/
def gateR (gu : FVec Ideal S506x512x2048 .f32) : FVec Ideal S506x512x1024 .f32 :=
  minimumf (extractStridedSlice S506x512x1024 ![0, 0, 0] gu slices_S506x512x2048_S506x512x1024_0_0_0)
    (broadcastInDim S506x512x1024 ![] bcast_S_S506x512x1024 (constant S_ .f32 0x40E00000#32))
/-- The gated unit. -/
def unitR (gu : FVec Ideal S506x512x2048 .f32) : FVec Ideal S506x512x1024 .f32 :=
  mulf (addf (minimumf (broadcastInDim S506x512x1024 ![] bcast_S_S506x512x1024 (id (constant S_ .f32 0x40E00000#32)))
        (maximumf (broadcastInDim S506x512x1024 ![] bcast_S_S506x512x1024 (id (constant S_ .f32 0xC0E00000#32)))
          (extractStridedSlice S506x512x1024 ![0, 0, 1024] gu slices_S506x512x2048_S506x512x1024_0_0_1024)))
      (broadcastInDim S506x512x1024 ![] bcast_S_S506x512x1024 (constant S_ .f32 0x3F800000#32)))
    (mulf (gateR gu) (Host.divf (broadcastInDim S506x512x1024 ![] bcast_S_S506x512x1024 (constant S_ .f32 0x3F800000#32))
      (addf (broadcastInDim S506x512x1024 ![] bcast_S_S506x512x1024 (constant S_ .f32 0x3F800000#32))
        (Host.exp (Host.negf (mulf (broadcastInDim S506x512x1024 ![] bcast_S_S506x512x1024 (constant S_ .f32 0x3FD9DB23#32)) (gateR gu)))))))
/-- The second matrix and bias, and zero on the blocks not in use. -/
def outR (live : IVec (shape1 506) 1) (h : FVec Ideal S506x512x1024 .f32) (w2 : FVec Ideal S506x1024x1024 .f32) (b2 : FVec Ideal S506x1024 .f32) :
    FVec Ideal S506x512x1024 .f32 :=
  select (broadcastInDim S506x512x1024 ![0, 1, 2] bcast_S506x1x1_S506x512x1024_0_1_2 (broadcastInDim S506x1x1 ![0] bcast_S506_S506x1x1_0 live))
    (addf (Host.dotGeneral dot_S506x512x1024_S506x1024x1024_S506x512x1024_2_1_1_2_0_0 none h w2)
      (broadcastInDim S506x512x1024 ![0, 1, 2] bcast_S506x1x1024_S506x512x1024_0_1_2 (broadcastInDim S506x1x1024 ![0, 2] bcast_S506x1024_S506x1x1024_0_2 b2)))
    (broadcastInDim S506x512x1024 ![] bcast_S_S506x512x1024 (id (constant S_ .f32 0x00000000#32)))

variable (m : (ℓ : Loc nD τ sig) → Buf (Elt Ideal) ℓ) (c : Dev nD)

abbrev counts : IVec (shape1 32) 32 := m ((c.tc : Thread nD τ).loc main_arg0)
abbrev A1 : FVec Ideal S259072x1024 .bf16 := m ((c.tc : Thread nD τ).loc main_arg1)
abbrev A2 : FVec Ideal S32x1024x2048 .f32 := m ((c.tc : Thread nD τ).loc main_arg2)
abbrev A3 : FVec Ideal S32x2048 .f32 := m ((c.tc : Thread nD τ).loc main_arg3)
abbrev A4 : FVec Ideal S32x1024x1024 .f32 := m ((c.tc : Thread nD τ).loc main_arg4)
abbrev A5 : FVec Ideal S32x1024 .f32 := m ((c.tc : Thread nD τ).loc main_arg5)

/-- Each block's matrices and biases: its expert's. -/
abbrev W1 : FVec Ideal S506x1024x2048 .f32 := Host.gather gather_S32x1024x2048_S506x1_S506x1024x2048_12_0_n_n_0_1_110242048 (A2 m c) (pickW (counts m c))
abbrev B1 : FVec Ideal S506x2048 .f32 := Host.gather gather_S32x2048_S506x1_S506x2048_1_0_n_n_0_1_12048 (A3 m c) (pickW (counts m c))
abbrev W2 : FVec Ideal S506x1024x1024 .f32 := Host.gather gather_S32x1024x1024_S506x1_S506x1024x1024_12_0_n_n_0_1_110241024 (A4 m c) (pickW (counts m c))
abbrev B2 : FVec Ideal S506x1024 .f32 := Host.gather gather_S32x1024_S506x1_S506x1024_1_0_n_n_0_1_11024 (A5 m c) (pickW (counts m c))

/-- The reference's result is those stages. -/
theorem res_eq : Value.res_main_v82 (F := Ideal) m c
    = (truncf .bf16 (shapeCast _ (outR (liveW (counts m c)) (unitR (guR (A1 m c) (W1 m c) (B1 m c))) (W2 m c) (B2 m c))
        shapeCasts_S506x512x1024_S259072x1024 : FVec Ideal S259072x1024 .f32) bitsLt_bf16_f32 : FVec Ideal S259072x1024 .bf16) := by
  unfold Value.res_main_v82
  rfl

/-! ## The arithmetic stages at an index -/

/-- The first stage is the row's product with the block's first matrix, plus bias. -/
theorem gu_apply (x : FVec Ideal S259072x1024 .bf16) (w1 : FVec Ideal S506x1024x2048 .f32) (b1 : FVec Ideal S506x2048 .f32)
    (t : Fin 506) (r : Fin 512) (g : Fin 2048) (R : Fin 259072) (hR : R.val = t.val * 512 + r.val) : guR x w1 b1 (ValueIdx.ix3 t r g)
      = Spec.pre (fun e => x (ValueIdx.ix2 R e)) (fun e g => w1 (ValueIdx.ix3 t e g)) (fun g => b1 (ValueIdx.ix2 t g)) g := by
  unfold guR
  pointwise
  have p : t.val * 512 + r.val < 259072 := by have := t.isLt; have := r.isLt; omega
  obtain rfl : R = ⟨t.val * 512 + r.val, p⟩ := Fin.ext hR
  rfl

/-- The unit stage is the gated unit on columns `f` and `1024 + f`. -/
theorem unit_apply (gu : FVec Ideal S506x512x2048 .f32) (t : Fin 506) (r : Fin 512) (f : Fin 1024) : unitR gu (ValueIdx.ix3 t r f)
      = Spec.unit (gu (ValueIdx.ix3 t r ⟨f.val, by have := f.isLt; omega⟩)) (gu (ValueIdx.ix3 t r ⟨1024 + f.val, by have := f.isLt; omega⟩)) := by
  unfold unitR gateR
  pointwise
  rfl

/-- The last stage, back under the rows' numbers. -/
theorem out_apply (live : IVec (shape1 506) 1) (h : FVec Ideal S506x512x1024 .f32) (w2 : FVec Ideal S506x1024x1024 .f32) (b2 : FVec Ideal S506x1024 .f32)
   (t : Fin 506) (r : Fin 512) (d : Fin 1024) (R : Fin 259072) (hR : R.val = t.val * 512 + r.val) :
   (truncf .bf16 (shapeCast _ (outR live h w2 b2) shapeCasts_S506x512x1024_S259072x1024 : FVec Ideal S259072x1024 .f32) bitsLt_bf16_f32 : FVec Ideal S259072x1024 .bf16) (ValueIdx.ix2 R d)
   = if live (ValueIdx.ix1 t) = 1#1 then ∑ f : Fin 1024, h (ValueIdx.ix3 t r f) * w2 (ValueIdx.ix3 t f d) + b2 (ValueIdx.ix2 t d) else (0 : EReal) := by
  unfold outR
  simp only [id]
  pointwise
  have p : R.val / 512 < 506 := by have := R.isLt; omega
  have q : R.val % 512 < 512 := by omega
  obtain rfl : t = ⟨R.val / 512, p⟩ := Fin.ext (by have := r.isLt; show t.val = R.val / 512; omega)
  obtain rfl : r = ⟨R.val % 512, q⟩ := Fin.ext (by have := r.isLt; show r.val = R.val % 512; omega)
  rfl

end Cert.ReferenceIdeal.Ref

end
-- ==== Proof.Ref.Gather.lean ====
/- Hand-written: picking matrices out of a stack of matrices, `table[idx]`, at an index. -/
module

public import Idealize.ShloMosaic.Lib.Routing.Ops

@[expose] public section

namespace Cert.Plan

open Idealize.ShloMosaic Idealize.ShloMosaic.ValueIdx Idealize.ShloMosaic.Routing

theorem not_mem_zero (k : Fin 3) (h : k ≠ 0) : k ∉ ([0] : List (Fin 3)) := fun e => h (List.mem_singleton.1 e)

/-- `table[idx]` over the matrices of an `[nb, A, B]` table: where `idx` holds at `(c, 0)` the number `b` of a matrix, entry `(c, x, y)`
    of the result is entry `(b, x, y)` of the table. -/
theorem gather_plane {α : Type} {nb A B n : Nat} (d : GatherDims ⟨3, ![nb, A, B]⟩ (shape2 n 1) ⟨3, ![n, A, B]⟩) (hoff : d.offsetDims = [1, 2])
    (hcoll : d.collapsedSliceDims = [0]) (hob : d.operandBatchingDims = []) (hsim : d.startIndexMap = [0]) (hivd : d.indexVectorDim = 1)
    (v : (⟨3, ![nb, A, B]⟩ : Shape).Idx → α) (idx : IVec (shape2 n 1) 32)
    (c : Fin n) (x : Fin A) (y : Fin B) (b : Fin nb) (hb : idx (ix2 c (0 : Fin 1)) = BitVec.ofNat 32 b.val) (hnb : nb < 2 ^ 31) :
    Host.gather d v idx (ix3 c x y) = v (ix3 b x y) := by
  obtain ⟨od, cd, obd, sbd, sim, ivd, ss, wf⟩ := d
  dsimp only at hoff hcoll hob hsim hivd
  subst hoff hcoll hob hsim hivd
  unfold Host.gather
  refine congrArg v (funext fun a => Fin.ext ?_)
  generalize hd : (⟨[1, 2], [0], [], sbd, [0], 1, ss, wf⟩ : GatherDims ⟨3, ![nb, A, B]⟩ (shape2 n 1) ⟨3, ![n, A, B]⟩) = d
  have hbN : ∀ a', a' ∉ d.operandBatchingDims := fun a' => by rw [← hd]; exact List.not_mem_nil
  match a with
  | ⟨0, _⟩ =>
    have hk : (0 : Fin 3) ∉ d.sKept := fun h => ((d.mem_sKept 0).1 h).1 (by rw [← hd]; exact List.mem_singleton.2 rfl)
    have hm : (0 : Fin 3) ∈ d.startIndexMap := by rw [← hd]; exact List.mem_singleton.2 rfl
    have hsl : d.sliceSizes 0 = 1 := d.slice_collapsed 0 (by rw [← hd]; exact List.mem_singleton.2 rfl)
    show d.start (ix3 c x y) idx 0 + d.batchCoord (ix3 c x y) 0 + d.offCoord (ix3 c x y) 0 = b.val
    rw [d.batchCoord_eq_zero _ _ (hbN 0), d.offCoord_eq_zero _ _ hk]
    simp only [Nat.add_zero]
    unfold GatherDims.start
    rw [dif_pos hm]
    have hsi : d.siIdx (ix3 c x y) ⟨d.startIndexMap.idxOf 0, List.idxOf_lt_length_iff.2 hm⟩ = ix2 c (0 : Fin 1) := by
      subst hd
      funext b'
      apply Fin.ext
      match b' with
      | ⟨0, _⟩ => rfl
      | ⟨1, _⟩ => rfl
    have hbl := b.isLt
    rw [hsi, hb, hsl, StableHlo.Predicate.toInt_ofNat_small _ (by omega)]
    show min ((b.val : Int)).toNat (nb - 1) = b.val
    omega
  | ⟨1, _⟩ =>
    have hk : (1 : Fin 3) ∈ d.sKept := (d.mem_sKept 1).2 ⟨by rw [← hd]; exact not_mem_zero _ (Fin.ne_of_val_ne (by simp)), hbN 1⟩
    have hm : (1 : Fin 3) ∉ d.startIndexMap := by rw [← hd]; exact not_mem_zero _ (Fin.ne_of_val_ne (by simp))
    show d.start (ix3 c x y) idx 1 + d.batchCoord (ix3 c x y) 1 + d.offCoord (ix3 c x y) 1 = x.val
    rw [d.batchCoord_eq_zero _ _ (hbN 1), Nat.add_zero]
    unfold GatherDims.start GatherDims.offCoord
    rw [dif_neg hm, dif_pos hk, Nat.zero_add]
    subst hd
    rfl
  | ⟨2, _⟩ =>
    have hk : (2 : Fin 3) ∈ d.sKept := (d.mem_sKept 2).2 ⟨by rw [← hd]; exact not_mem_zero _ (Fin.ne_of_val_ne (by simp)), hbN 2⟩
    have hm : (2 : Fin 3) ∉ d.startIndexMap := by rw [← hd]; exact not_mem_zero _ (Fin.ne_of_val_ne (by simp))
    show d.start (ix3 c x y) idx 2 + d.batchCoord (ix3 c x y) 2 + d.offCoord (ix3 c x y) 2 = y.val
    rw [d.batchCoord_eq_zero _ _ (hbN 2), Nat.add_zero]
    unfold GatherDims.start GatherDims.offCoord
    rw [dif_neg hm, dif_pos hk, Nat.zero_add]
    subst hd
    rfl

end Cert.Plan
-- ==== Proof.Ref.Value.lean ====
/- Hand-written: the reference's result at an index, from counts that fit: the function of Spec.lean. -/
module

public import proofs.«01_k».proof.Proof.Ref.Stages
public import proofs.«01_k».proof.Proof.Ref.Gather
public import Idealize.ShloMosaic.Lib.Routing.OpsPair

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.ShloMosaic.ValueIdx Idealize.ShloMosaic.Routing Idealize.ShloMosaic.WordCmp Cert.Plan

/-! ## The words -/

theorem startW_apply (t : Fin 506) : startW (ValueIdx.ix1 t) = BitVec.ofNat 32 (t.val * 512) := by
  unfold startW
  rw [muli_ap, iota1_ap, bc0, constantI_at, show (512#32 : BitVec 32) = BitVec.ofNat 32 512 from rfl, ← BitVec.ofNat_mul]

variable {x : IVec (shape1 32) 32} (h : Fits x)

include h in
theorem endRowsW_apply (j : Fin 32) : endRowsW x (ValueIdx.ix1 j) = BitVec.ofNat 32 (ends x j.val * 512) := endsW_apply _ _ _ _ h j

include h in
/-- The expert word of a block. -/
theorem expertW_apply (t : Fin 506) : expertW x (ValueIdx.ix1 t) = BitVec.ofNat 32 (expert x t.val) := by
  have ht := t.isLt
  unfold expertW
  rw [countLe_apply _ _ _ _ _ _ _ _ _ _ (t.val * 512) (fun q => ends x q * 512) t (startW_apply t) (fun q => endRowsW_apply h q) (by omega)
    (fun q hq => by have := h.ends_le hq; omega)]
  unfold expert
  refine congrArg (fun n => BitVec.ofNat 32 (min n 31)) (count_congr_of_lt 32 fun q _ => ?_)
  show ends x q * 512 ≤ t.val * 512 ↔ ends x q ≤ t.val
  omega

include h in
/-- The number the gathers take: the block's expert, never wrapped. -/
theorem pickW_apply (t : Fin 506) : pickW x (ValueIdx.ix2 t (0 : Fin 1)) = BitVec.ofNat 32 (expert x t.val) := by
  have he := expert_lt x t.val
  unfold pickW
  rw [bcCol]
  refine Eq.trans ?_ (expertW_apply h t)
  refine Eq.trans ?_ (wrap_of_lt (expertW x (ValueIdx.ix1 t)) (addi (expertW x) (broadcastInDim S506 ![] bcast_S_S506 (constantI S_ 32 32#32)) (ValueIdx.ix1 t)) ?_)
  · rfl
  · rw [expertW_apply h, toNat_ofNat_of_lt (w := 32) (by omega)]; omega

include h in
/-- A block is in use when its number is below the number of blocks in use. -/
theorem liveW_iff (t : Fin 506) : liveW x (ValueIdx.ix1 t) = 1#1 ↔ t.val < used x := by
  have ht := t.isLt
  have hu := h.used_le
  have e : (shapeCast S_ (extractStridedSlice S1 ![31] (endRowsW x) slices_S32_S1_31) shapeCasts_S1_S_ : IVec shape0 32) ValueIdx.ix0 = BitVec.ofNat 32 (used x * 512) := by
    rw [shapeCast_apply _ _ ValueIdx.ix0 (ValueIdx.ix1 (0 : Fin 1)) (by decide), slice1]
    exact endRowsW_apply h (31 : Fin 32)
  unfold liveW
  rw [cmpi_at, bc0, e, startW_apply, cmpi_slt_ofNat_eq_one_iff (w := 32) (by omega) (by omega)]
  omega

/-! ## The result -/

variable (m : (ℓ : Loc nD τ sig) → Buf (Elt Ideal) ℓ) (c : Dev nD)

/-- The expert of a block. -/
def exAt (t : Nat) : Fin 32 := ⟨expert (counts m c) t, expert_lt _ _⟩

theorem W1_apply (h : Fits (counts m c)) (t : Fin 506) (e : Fin 1024) (g : Fin 2048) : W1 m c (ValueIdx.ix3 t e g) = A2 m c (ValueIdx.ix3 (exAt m c t.val) e g) :=
  gather_plane _ rfl rfl rfl rfl rfl _ _ t e g (exAt m c t.val) (pickW_apply h t) (by decide)
theorem W2_apply (h : Fits (counts m c)) (t : Fin 506) (f : Fin 1024) (d : Fin 1024) : W2 m c (ValueIdx.ix3 t f d) = A4 m c (ValueIdx.ix3 (exAt m c t.val) f d) :=
  gather_plane _ rfl rfl rfl rfl rfl _ _ t f d (exAt m c t.val) (pickW_apply h t) (by decide)
theorem B1_apply (h : Fits (counts m c)) (t : Fin 506) (g : Fin 2048) : B1 m c (ValueIdx.ix2 t g) = A3 m c (ValueIdx.ix2 (exAt m c t.val) g) :=
  gather_row _ rfl rfl rfl rfl rfl _ _ t g (exAt m c t.val) (pickW_apply h t) (by decide)
theorem B2_apply (h : Fits (counts m c)) (t : Fin 506) (d : Fin 1024) : B2 m c (ValueIdx.ix2 t d) = A5 m c (ValueIdx.ix2 (exAt m c t.val) d) :=
  gather_row _ rfl rfl rfl rfl rfl _ _ t d (exAt m c t.val) (pickW_apply h t) (by decide)

/-- The reference's result, element by element. -/
theorem res_apply (h : Fits (counts m c)) (R : Fin 259072) (d : Fin 1024) : Value.res_main_v82 (F := Ideal) m c (ValueIdx.ix2 R d)
    = Spec.out (used (counts m c)) (exAt m c) (fun R e => A1 m c (ValueIdx.ix2 R e)) (fun b e g => A2 m c (ValueIdx.ix3 b e g)) (fun b g => A3 m c (ValueIdx.ix2 b g))
        (fun b f d => A4 m c (ValueIdx.ix3 b f d)) (fun b d => A5 m c (ValueIdx.ix2 b d)) R d := by
  have hR := R.isLt
  have hR' : R.val = (⟨R.val / 512, by omega⟩ : Fin 506).val * 512 + (⟨R.val % 512, by omega⟩ : Fin 512).val := by show R.val = R.val / 512 * 512 + R.val % 512; omega
  generalize (⟨R.val / 512, by omega⟩ : Fin 506) = t at hR'
  generalize (⟨R.val % 512, by omega⟩ : Fin 512) = r at hR'
  rw [Spec.out_at t.val r.val r.isLt hR', res_eq]
  refine (out_apply _ _ _ _ t r d R hR').trans ?_
  by_cases hu : t.val < used (counts m c)
  · rw [if_pos ((liveW_iff h t).2 hu), if_pos hu]
    simp only [unit_apply, gu_apply _ _ _ t r _ R hR', W1_apply m c h, W2_apply m c h, B1_apply m c h, B2_apply m c h]
    rfl
  · rw [if_neg fun e => hu ((liveW_iff h t).1 e), if_neg hu]

end Cert.ReferenceIdeal.Ref

end
-- ==== Proof.Equal.lean ====
/- Hand-written: from equal arguments whose counts fit, the reference's result is the kernel's output array. -/
module

public import proofs.«01_k».proof.Proof.Kern.Out
public import proofs.«01_k».proof.Proof.Ref.Value

@[expose] public section

noncomputable section

namespace Cert.Proof

open Idealize.ShloMosaic Idealize.ShloMosaic.TcCoe Cert.Plan

/-- The two results, equal element by element. -/
theorem equal (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : Fits (KernelIdeal.Kern.counts m 0)) (c : Dev KernelIdeal.nD)
    (h0 : ReferenceIdeal.Ref.counts m' c = KernelIdeal.Kern.counts m c)
    (h1 : ReferenceIdeal.Ref.A1 m' c = KernelIdeal.Kern.A1 m c) (h2 : ReferenceIdeal.Ref.A2 m' c = KernelIdeal.Kern.A2 m c)
    (h3 : ReferenceIdeal.Ref.A3 m' c = KernelIdeal.Kern.A3 m c) (h4 : ReferenceIdeal.Ref.A4 m' c = KernelIdeal.Kern.A4 m c)
    (h5 : ReferenceIdeal.Ref.A5 m' c = KernelIdeal.Kern.A5 m c) :
    (ReferenceIdeal.Value.res_main_v82 (F := Ideal) m' c : FVec Ideal ReferenceIdeal.S259072x1024 .bf16) = KernelIdeal.Kern.outA m c := by
  obtain rfl : c = 0 := Subsingleton.elim _ _
  have hx : ReferenceIdeal.Ref.exAt m' 0 = KernelIdeal.Kern.exAt m :=
    funext fun t => Fin.ext (congrArg (fun x => expert x t) h0)
  funext i
  have hi : i = ValueIdx.ix2 (i 0 : Fin 259072) (i 1 : Fin 1024) := by
    funext a; match a with
    | ⟨0, _⟩ => rfl
    | ⟨1, _⟩ => rfl
  refine (congrArg (ReferenceIdeal.Value.res_main_v82 (F := Ideal) m' 0) hi).trans ((ReferenceIdeal.Ref.res_apply m' 0 (h0.symm ▸ h) (i 0) (i 1)).trans ?_)
  unfold KernelIdeal.Kern.outA
  rw [hx, h0, h1, h2, h3, h4, h5]

end Cert.Proof

end
-- ==== Proof.Same.lean ====
/- Hand-written: the kernel as printed and the kernel printed for the extended reals are one program, so one run serves both. -/
module

public import proofs.«01_k».proof.Proof.Gen.Kernel.Launch
public import proofs.«01_k».proof.Proof.Gen.KernelIdeal.Launch

@[expose] public section

set_option maxRecDepth 16384

noncomputable section

namespace Cert.Proof

open Idealize.ShloMosaic Idealize.ShloMosaic.TcCoe Idealize.SL.Sem

variable {F : FTy → Type} [FloatOps F]

/-- The run of seven stretches of host operations and one call, over any pipelines and bodies: from memory `m` it ends as `Q` says. -/
def Runs {nD : Nat} {τ : Topo} {sig : RefSig} {Λ₀ : Labels} (P : Fin 1 → Pipeline.PCfg sig Λ₀ (Elt F)) (D : Defs nD τ sig (Elt F) Λ₀)
    (l0 l1 l2 l3 l4 l5 l6 : List (HloOp τ sig (Elt F))) (m : (ℓ : Loc nD τ sig) → Buf (Elt F) ℓ) (ρ : Dev nD → PrngReg)
    (Q : (PUnit × MemSt nD τ sig (Elt F)) → Prop) : Prop :=
  θ_run (Pipeline.defs P D) (onTc (τ := τ) fun _ : Dev nD => (Pipeline.chain
    [StableHlo.seq l0, StableHlo.seq l1, StableHlo.seq l2, StableHlo.seq l3, StableHlo.seq l4, StableHlo.seq l5, StableHlo.seq l6,
      Prog.lift (.customCall (Pipeline.entry 0) ())] : Prog (TpuEff nD τ sig (Elt F) (Pipeline.Sig Λ₀ (Fin 1) fun p => (P p).Adm) .tc) PUnit))
    ⟨m, fun _ => 0, ρ⟩ Q

/-- Equal pipelines, bodies and host operations make equal runs. -/
theorem Runs.congr {nD : Nat} {τ : Topo} {sig : RefSig} {Λ₀ : Labels} {P P' : Fin 1 → Pipeline.PCfg sig Λ₀ (Elt F)}
    {D D' : Defs nD τ sig (Elt F) Λ₀} {l0 l1 l2 l3 l4 l5 l6 l0' l1' l2' l3' l4' l5' l6' : List (HloOp τ sig (Elt F))}
    (hP : P = P') (hD : D = D') (h0 : l0 = l0') (h1 : l1 = l1') (h2 : l2 = l2') (h3 : l3 = l3') (h4 : l4 = l4') (h5 : l5 = l5') (h6 : l6 = l6')
    {m : (ℓ : Loc nD τ sig) → Buf (Elt F) ℓ} {ρ : Dev nD → PrngReg} {Q : (PUnit × MemSt nD τ sig (Elt F)) → Prop}
    (h : Runs P D l0 l1 l2 l3 l4 l5 l6 m ρ Q) : Runs P' D' l0' l1' l2' l3' l4' l5' l6' m ρ Q := by
  subst hP hD h0 h1 h2 h3 h4 h5 h6; exact h

/-- The kernel as printed is such a run. -/
theorem runs_kernel (m : (ℓ : Loc Kernel.nD Kernel.τ Kernel.sig) → Buf (Elt F) ℓ) (ρ : Dev Kernel.nD → PrngReg)
    (Q : (PUnit × MemSt Kernel.nD Kernel.τ Kernel.sig (Elt F)) → Prop)
    (h : Runs (Kernel.pcfgs (F := F)) Kernel.defs₀ Kernel.Gen.hostOps0 Kernel.Gen.hostOps0_1 Kernel.Gen.hostOps0_2 Kernel.Gen.hostOps0_3
      Kernel.Gen.hostOps0_4 Kernel.Gen.hostOps0_5 Kernel.Gen.hostOps0_6 m ρ Q) :
    θ_run (Kernel.defs (F := F)) (onTc (τ := Kernel.τ) (Kernel.main (F := F))) ⟨m, fun _ => 0, ρ⟩ Q := by
  unfold Runs at h
  rw [show Kernel.main (F := F) = _ from funext Kernel.Gen.main_chain]
  exact h

/-- So is the kernel over the extended reals. -/
theorem runs_kernelIdeal (m : (ℓ : Loc KernelIdeal.nD KernelIdeal.τ KernelIdeal.sig) → Buf (Elt F) ℓ) (ρ : Dev KernelIdeal.nD → PrngReg)
    (Q : (PUnit × MemSt KernelIdeal.nD KernelIdeal.τ KernelIdeal.sig (Elt F)) → Prop)
    (h : θ_run (KernelIdeal.defs (F := F)) (onTc (τ := KernelIdeal.τ) (KernelIdeal.main (F := F))) ⟨m, fun _ => 0, ρ⟩ Q) :
    Runs (KernelIdeal.pcfgs (F := F)) KernelIdeal.defs₀ KernelIdeal.Gen.hostOps0 KernelIdeal.Gen.hostOps0_1 KernelIdeal.Gen.hostOps0_2
      KernelIdeal.Gen.hostOps0_3 KernelIdeal.Gen.hostOps0_4 KernelIdeal.Gen.hostOps0_5 KernelIdeal.Gen.hostOps0_6 m ρ Q := by
  unfold Runs
  rw [show KernelIdeal.main (F := F) = _ from funext KernelIdeal.Gen.main_chain] at h
  exact h

/-- The two programs have one body. -/
theorem same_defs₀ : Cert.Kernel.defs₀ (F := F) = Cert.KernelIdeal.defs₀ (F := F) :=
  congrArg Defs.onTc (funext fun i => by
    match i with
    | 0 => rfl)

/-- And one pipeline. -/
theorem same_pcfgs : Cert.Kernel.pcfgs (F := F) = Cert.KernelIdeal.pcfgs (F := F) := rfl

/-- The kernel as printed ends as the kernel over the extended reals does, at any float values. -/
theorem same_run (m : (ℓ : Loc Kernel.nD Kernel.τ Kernel.sig) → Buf (Elt F) ℓ) (ρ : Dev Kernel.nD → PrngReg)
    (Q : (PUnit × MemSt Kernel.nD Kernel.τ Kernel.sig (Elt F)) → Prop)
    (h : θ_run (KernelIdeal.defs (F := F)) (onTc (τ := KernelIdeal.τ) (KernelIdeal.main (F := F))) ⟨m, fun _ => 0, ρ⟩ Q) :
    θ_run (Kernel.defs (F := F)) (onTc (τ := Kernel.τ) (Kernel.main (F := F))) ⟨m, fun _ => 0, ρ⟩ Q :=
  runs_kernel m ρ Q (Runs.congr same_pcfgs.symm same_defs₀.symm rfl rfl rfl rfl rfl rfl rfl (runs_kernelIdeal m ρ Q h))

end Cert.Proof

end
-- ==== Proof.Mix.Given.lean ====
/- Hand-written: the precondition's own side conditions, and what it says of the norms. -/
module

public import proofs.«01_k».proof.Pre_norms_nonzero
public import Idealize.ShloMosaic.PureOps.Ideal
public import Idealize.ShloMosaic.Lib.Pointwise
public import Idealize.ShloMosaic.Lib.ReduceAll

@[expose] public section

noncomputable section

namespace Cert.Given

open Cert.Pre_norms_nonzero
open Idealize.ShloMosaic Idealize.ShloMosaic.TcCoe Idealize.ShloMosaic.Tactic
open Idealize.ShloMosaic.ValueIdx

/-- The shape relations the precondition's operations take. -/
instance facts : Cert.Pre_norms_nonzero.Facts where
  bcast_S_S1x512 := by decide
  reducesTo_S1x512_S_d0_1 := by decide
  h_S_ := by decide

/-- The precondition says that no channel's norm is zero. -/
theorem nonzero (a0 a1 : FVec Ideal S32768x512 .f32) (a2 : FVec Ideal S1x512 .f32) (a3 a4 : FVec Ideal S32768x512 .f32) (a5 : FVec Ideal S32768x1024 .f32)
    (a6 a7 : FVec Ideal S1024 .f32) (a8 a9 a10 : FVec Ideal S512 .f32) (a11 : FVec Ideal S1024x1024 .f32) (a12 a13 a14 : FVec Ideal S1024 .f32)
    (a15 : FVec Ideal S1024x32 .f32) (a16 : FVec Ideal S32 .f32)
    (h : Cert.Pre_norms_nonzero.fn a0 a1 a2 a3 a4 a5 a6 a7 a8 a9 a10 a11 a12 a13 a14 a15 a16 = fun _ => 1#1) (e : Fin 512) :
    a2 (ValueIdx.ix2 (0 : Fin 1) e) ≠ 0 := by
  have h0 := congrFun h ValueIdx.ix0
  unfold Cert.Pre_norms_nonzero.fn at h0
  dsimp only at h0
  haveI : Subsingleton S_.Idx := ⟨fun a b => (ValueIdx.eq_ix0 a).trans (ValueIdx.eq_ix0 b).symm⟩
  have g := Host.reduce_andi_all _ _ _ _ _ h0 (ValueIdx.ix2 (0 : Fin 1) e)
  intro hz
  rw [cmpf_apply, hz] at g
  revert g
  pointwise
  simp

end Cert.Given

end
-- ==== Proof.Mix.Spec.lean ====
/- Hand-written: the tokens after the two mixers, on plain families over the extended reals. -/
module

public import Idealize.ShloMosaic.PureOps.Ideal
public import Idealize.ShloMosaic.Lib.ValueIdxCore

@[expose] public section

noncomputable section

namespace Cert.Mix

open Idealize.ShloMosaic

/-- The two row lengths, 1024 and 512, the small constants 1e-5 and 1e-6 under the roots, and the residual's weight, the fourth
    root of 2, as the programs' literals denote them. -/
abbrev wide : EReal := Ideal.ofBits FTy.f32 1149239296#32
abbrev half : EReal := Ideal.ofBits FTy.f32 1140850688#32
abbrev tiny : EReal := Ideal.ofBits FTy.f32 925353388#32
abbrev tiny' : EReal := Ideal.ofBits FTy.f32 897988541#32
abbrev alpha : EReal := Ideal.ofBits FTy.f32 1066940400#32

/-- The sum of a row over its length. -/
def mean {k : Nat} (n : EReal) (x : Fin k → EReal) : EReal := Ideal.div (∑ e, x e) n

/-- A row less its mean, over the root of its variance, times a gain, plus a bias. -/
def layerNorm (x g b : Fin 1024 → EReal) (d : Fin 1024) : EReal :=
  (x d - mean wide x) * Ideal.rsqrt (mean wide (fun e => (x e - mean wide x) * (x e - mean wide x)) + tiny) * g d + b d

/-- A half row over the root of its mean square, times a gain. -/
def rmsNorm (x g : Fin 512 → EReal) (e : Fin 512) : EReal :=
  x e * Ideal.rsqrt (mean half (fun k => x k * x k) + tiny') * g e

/-- The convolution mixer's output: the gate times the convolution over the filter's norm plus the skipped input. -/
def gated (x0 yc a w s : Fin 512 → EReal) (e : Fin 512) : EReal := x0 e * (Ideal.div (yc e) (a e) + w e * s e)

/-- The two mixers' outputs, one after the other, times a matrix, plus a bias: the first is times the matrix's upper rows, the
    second times its lower rows. -/
def mixed (f h : Fin 512 → EReal) (w : Fin 1024 → Fin 1024 → EReal) (b : Fin 1024 → EReal) (d : Fin 1024) : EReal :=
  (∑ e : Fin 512, f e * w ⟨e.val, by have := e.isLt; omega⟩ d + ∑ e : Fin 512, h e * w ⟨512 + e.val, by have := e.isLt; omega⟩ d) + b d

/-- The residual plus the mixers' output, normalised: the residual is the normalised input times its weight. -/
def row (f h : Fin 512 → EReal) (x g b : Fin 1024 → EReal) (w : Fin 1024 → Fin 1024 → EReal) (bo g1 b1 : Fin 1024 → EReal) : Fin 1024 → EReal :=
  layerNorm (fun d => alpha * layerNorm x g b d + mixed f h w bo d) g1 b1

end Cert.Mix

end
-- ==== Proof.Mix.Payload.lean ====
/- Hand-written: what the body computes of one block of tokens, at an index, over the extended reals. -/
module

public import proofs.«01_k».proof.Proof.Gen.Kernel2Ideal.Skeleton
public import proofs.«01_k».proof.Proof.Mix.Spec
public import Idealize.ShloMosaic.Lib.Pointwise

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic

/-- The convolution mixer's output: the gate times the sum of the convolution scaled and the skipped input. -/
theorem pay4_apply (w x0 yc : Vec Ideal S512x512 .f32) (a s : Vec Ideal S1x512 .f32) (r e : Fin 512) :
    k0_pay4 w x0 yc a s (ValueIdx.ix2 r e) = x0 (ValueIdx.ix2 r e) * (yc (ValueIdx.ix2 r e) * a (ValueIdx.ix2 (0 : Fin 1) e)
      + s (ValueIdx.ix2 (0 : Fin 1) e) * w (ValueIdx.ix2 r e)) := by
  unfold k0_pay4
  pointwise
  rfl

/-- The first mixer's output, normalised. -/
theorem pay5_apply (yf : Vec Ideal S512x512 .f32) (g : Vec Ideal S1x512 .f32) (r e : Fin 512) :
    k0_pay5 yf g (ValueIdx.ix2 r e) = Mix.rmsNorm (fun e => yf (ValueIdx.ix2 r e)) (fun e => g (ValueIdx.ix2 (0 : Fin 1) e)) e := by
  unfold k0_pay5
  pointwise
  rfl

/-- The second mixer's mean square. -/
theorem pay7_apply (w x0 yc : Vec Ideal S512x512 .f32) (a s : Vec Ideal S1x512 .f32) (r : Fin 512) :
    k0_pay7 w x0 yc a s (ValueIdx.ix2 r (0 : Fin 1)) = Mix.mean Mix.half (fun e => k0_pay4 w x0 yc a s (ValueIdx.ix2 r e) * k0_pay4 w x0 yc a s (ValueIdx.ix2 r e)) := by
  unfold k0_pay7
  pointwise
  rfl

/-- The two mixers' outputs times the two halves of the matrix, plus the bias; the second is normalised on the way. -/
theorem pay9_apply (h : FVec Ideal S512x512 .f32) (f : FVec Ideal S512x512 .bf16) (g : Vec Ideal S1x512 .f32) (q : FVec Ideal S512x1 .f32)
    (w1 w2 : Vec Ideal S512x1024 .bf16) (b : Vec Ideal S1x1024 .f32) (r : Fin 512) (d : Fin 1024) :
    k0_pay9 h f (k0_pay6 g) q k0_pay8 w1 w2 b (ValueIdx.ix2 r d)
      = (∑ e : Fin 512, f (ValueIdx.ix2 r e) * w1 (ValueIdx.ix2 e d)
          + ∑ e : Fin 512, h (ValueIdx.ix2 r e) * Ideal.rsqrt (q (ValueIdx.ix2 r (0 : Fin 1)) + Mix.tiny') * g (ValueIdx.ix2 (0 : Fin 1) e) * w2 (ValueIdx.ix2 e d))
        + b (ValueIdx.ix2 (0 : Fin 1) d) := by
  unfold k0_pay9 k0_pay6 k0_pay8
  pointwise
  rfl

/-- The input, normalised and times its gain, without the bias. -/
theorem pay11_apply (x : Vec Ideal S512x1024 .f32) (g : Vec Ideal S1x1024 .f32) (r : Fin 512) (d : Fin 1024) :
    k0_pay11 x g (ValueIdx.ix2 r d) = (x (ValueIdx.ix2 r d) - Mix.mean Mix.wide (fun e => x (ValueIdx.ix2 r e)))
      * Ideal.rsqrt (Mix.mean Mix.wide (fun e => (x (ValueIdx.ix2 r e) - Mix.mean Mix.wide (fun e => x (ValueIdx.ix2 r e)))
          * (x (ValueIdx.ix2 r e) - Mix.mean Mix.wide (fun e => x (ValueIdx.ix2 r e)))) + Mix.tiny) * g (ValueIdx.ix2 (0 : Fin 1) d) := by
  unfold k0_pay11
  pointwise
  rfl

/-- What the body stores: the residual plus the mixers' output, normalised. -/
theorem pay12_apply (y : FVec Ideal S512x1024 .f32) (b : Vec Ideal S1x1024 .f32) (x : FVec Ideal S512x1024 .f32) (g1 b1 : Vec Ideal S1x1024 .f32)
    (r : Fin 512) (d : Fin 1024) : k0_pay12 y (k0_pay10 b) x g1 b1 (ValueIdx.ix2 r d)
      = Mix.layerNorm (fun e => Mix.alpha * (x (ValueIdx.ix2 r e) + b (ValueIdx.ix2 (0 : Fin 1) e)) + y (ValueIdx.ix2 r e))
          (fun e => g1 (ValueIdx.ix2 (0 : Fin 1) e)) (fun e => b1 (ValueIdx.ix2 (0 : Fin 1) e)) d := by
  unfold k0_pay12 k0_pay10
  pointwise
  rfl

end Cert.Kernel2Ideal.Out

end
-- ==== Proof.Mix.Block.lean ====
/- Hand-written: each window's block at a point, read off the arguments, over the extended reals. -/
module

public import proofs.«01_k».proof.Proof.Gen.Kernel2Ideal.Frame
public import Idealize.ShloMosaic.Lib.StableHlo.RunRead
public import Idealize.ShloMosaic.PureOps.Ideal
public import Idealize.ShloMosaic.Lib.Pointwise

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-! ## The arguments -/

abbrev A0 (c : Dev nD) : Vec Ideal S32768x512 .f32 := m ((c.tc : Thread nD τ).loc main_arg0)
abbrev A1 (c : Dev nD) : Vec Ideal S32768x512 .f32 := m ((c.tc : Thread nD τ).loc main_arg1)
abbrev A2 (c : Dev nD) : Vec Ideal S1x512 .f32 := m ((c.tc : Thread nD τ).loc main_arg2)
abbrev A3 (c : Dev nD) : Vec Ideal S32768x512 .f32 := m ((c.tc : Thread nD τ).loc main_arg3)
abbrev A4 (c : Dev nD) : Vec Ideal S32768x512 .f32 := m ((c.tc : Thread nD τ).loc main_arg4)
abbrev A5 (c : Dev nD) : Vec Ideal S32768x1024 .f32 := m ((c.tc : Thread nD τ).loc main_arg5)
abbrev A6 (c : Dev nD) : Vec Ideal S1024 .f32 := m ((c.tc : Thread nD τ).loc main_arg6)
abbrev A7 (c : Dev nD) : Vec Ideal S1024 .f32 := m ((c.tc : Thread nD τ).loc main_arg7)
abbrev A8 (c : Dev nD) : Vec Ideal S512 .f32 := m ((c.tc : Thread nD τ).loc main_arg8)
abbrev A9 (c : Dev nD) : Vec Ideal S512 .f32 := m ((c.tc : Thread nD τ).loc main_arg9)
abbrev A10 (c : Dev nD) : Vec Ideal S512 .f32 := m ((c.tc : Thread nD τ).loc main_arg10)
abbrev A11 (c : Dev nD) : Vec Ideal S1024x1024 .f32 := m ((c.tc : Thread nD τ).loc main_arg11)
abbrev A12 (c : Dev nD) : Vec Ideal S1024 .f32 := m ((c.tc : Thread nD τ).loc main_arg12)
abbrev A13 (c : Dev nD) : Vec Ideal S1024 .f32 := m ((c.tc : Thread nD τ).loc main_arg13)
abbrev A14 (c : Dev nD) : Vec Ideal S1024 .f32 := m ((c.tc : Thread nD τ).loc main_arg14)

/-! ## What the host prepares: the reciprocal of the norms, the vectors as rows, and the matrix -/

/-- A vector as a row, at an index. -/
theorem rowWide (x : Vec Ideal S1024 .f32) (d : Fin 1024) : (shapeCast S1x1024 x shapeCasts_S1024_S1x1024 : Vec Ideal S1x1024 .f32) (ValueIdx.ix2 (0 : Fin 1) d) = x (ValueIdx.ix1 d) := by
  pointwise
  rfl
theorem rowHalf (x : Vec Ideal S512 .f32) (e : Fin 512) : (shapeCast S1x512 x shapeCasts_S512_S1x512 : Vec Ideal S1x512 .f32) (ValueIdx.ix2 (0 : Fin 1) e) = x (ValueIdx.ix1 e) := by
  pointwise
  rfl

theorem V_v1 (c : Dev nD) : V m c main_v1 = (Host.divf (broadcastInDim S1x512 ![] bcast_S_S1x512 (constant S_ .f32 0x3F800000#32 : FVec Ideal S_ .f32)) (A2 m c) : FVec Ideal S1x512 .f32) := by
  unfold V; after_reads_simp
theorem V_v7 (c : Dev nD) : V m c main_v7 = (truncf .bf16 (A11 m c) bitsLt_bf16_f32 : FVec Ideal S1024x1024 .bf16) := by
  unfold V; after_reads_simp
theorem V_v2 (c : Dev nD) : V m c main_v2 = shapeCast S1x1024 (A6 m c) shapeCasts_S1024_S1x1024 := by
  unfold V; after_reads_simp; rfl
theorem V_v3 (c : Dev nD) : V m c main_v3 = shapeCast S1x1024 (A7 m c) shapeCasts_S1024_S1x1024 := by
  unfold V; after_reads_simp; rfl
theorem V_v4 (c : Dev nD) : V m c main_v4 = shapeCast S1x512 (A8 m c) shapeCasts_S512_S1x512 := by
  unfold V; after_reads_simp; rfl
theorem V_v5 (c : Dev nD) : V m c main_v5 = shapeCast S1x512 (A9 m c) shapeCasts_S512_S1x512 := by
  unfold V; after_reads_simp; rfl
theorem V_v6 (c : Dev nD) : V m c main_v6 = shapeCast S1x512 (A10 m c) shapeCasts_S512_S1x512 := by
  unfold V; after_reads_simp; rfl
theorem V_v8 (c : Dev nD) : V m c main_v8 = shapeCast S1x1024 (A12 m c) shapeCasts_S1024_S1x1024 := by
  unfold V; after_reads_simp; rfl
theorem V_v9 (c : Dev nD) : V m c main_v9 = shapeCast S1x1024 (A13 m c) shapeCasts_S1024_S1x1024 := by
  unfold V; after_reads_simp; rfl
theorem V_v10 (c : Dev nD) : V m c main_v10 = shapeCast S1x1024 (A14 m c) shapeCasts_S1024_S1x1024 := by
  unfold V; after_reads_simp; rfl

/-- The reciprocal of a channel's norm. -/
theorem v1_apply (c : Dev nD) (e : Fin 512) : V m c main_v1 (ValueIdx.ix2 (0 : Fin 1) e) = Ideal.div 1 (A2 m c (ValueIdx.ix2 (0 : Fin 1) e)) := by
  rw [V_v1]
  pointwise

/-! ## The blocks -/

theorem coords_val : ∀ t : Fin grid0.N, (grid0.coords t 0).val = t.val := by decide +kernel

/-- A point's number, through the word the block's place is computed in. -/
theorem coord_word (t : Fin grid0.N) : (BitVec.ofNat 32 (grid0.coords t 0).val).toNat = t.val := by
  have ht : t.val < 64 := t.isLt
  rw [coords_val, toNat_ofNat_of_lt (w := 32) (by omega)]

/-- A point's block of the first mixer: rows `512 t` and on. -/
theorem block0_apply (c : Dev nD) (t : Fin grid0.N) (r : Fin 512) (e : Fin 512) (R : Fin 32768) (hR : R.val = t.val * 512 + r.val) :
    iblk m c 0 t (ValueIdx.ix2 r e) = A0 m c (ValueIdx.ix2 R e) := by
  refine Eq.trans ?_ (congrFun (V_main_arg0 m c) _)
  refine congrArg (V m c main_arg0) (funext fun a => Fin.ext ?_)
  refine (Window.rect_emb_val (cfg0.win 0) t (ValueIdx.ix2 r e) a).trans ?_
  match a with
  | ⟨0, _⟩ => exact (congrArg (fun n => n * 512 + r.val) (coord_word t)).trans hR.symm
  | ⟨1, _⟩ => show 0 * 512 + e.val = e.val; omega

/-- A point's block of the convolution: rows `512 t` and on. -/
theorem block1_apply (c : Dev nD) (t : Fin grid0.N) (r : Fin 512) (e : Fin 512) (R : Fin 32768) (hR : R.val = t.val * 512 + r.val) :
    iblk m c 1 t (ValueIdx.ix2 r e) = A1 m c (ValueIdx.ix2 R e) := by
  refine Eq.trans ?_ (congrFun (V_main_arg1 m c) _)
  refine congrArg (V m c main_arg1) (funext fun a => Fin.ext ?_)
  refine (Window.rect_emb_val (cfg0.win 1) t (ValueIdx.ix2 r e) a).trans ?_
  match a with
  | ⟨0, _⟩ => exact (congrArg (fun n => n * 512 + r.val) (coord_word t)).trans hR.symm
  | ⟨1, _⟩ => show 0 * 512 + e.val = e.val; omega

/-- A point's block of the gate: rows `512 t` and on. -/
theorem block2_apply (c : Dev nD) (t : Fin grid0.N) (r : Fin 512) (e : Fin 512) (R : Fin 32768) (hR : R.val = t.val * 512 + r.val) :
    iblk m c 2 t (ValueIdx.ix2 r e) = A3 m c (ValueIdx.ix2 R e) := by
  refine Eq.trans ?_ (congrFun (V_main_arg3 m c) _)
  refine congrArg (V m c main_arg3) (funext fun a => Fin.ext ?_)
  refine (Window.rect_emb_val (cfg0.win 2) t (ValueIdx.ix2 r e) a).trans ?_
  match a with
  | ⟨0, _⟩ => exact (congrArg (fun n => n * 512 + r.val) (coord_word t)).trans hR.symm
  | ⟨1, _⟩ => show 0 * 512 + e.val = e.val; omega

/-- A point's block of the skipped input: rows `512 t` and on. -/
theorem block3_apply (c : Dev nD) (t : Fin grid0.N) (r : Fin 512) (e : Fin 512) (R : Fin 32768) (hR : R.val = t.val * 512 + r.val) :
    iblk m c 3 t (ValueIdx.ix2 r e) = A4 m c (ValueIdx.ix2 R e) := by
  refine Eq.trans ?_ (congrFun (V_main_arg4 m c) _)
  refine congrArg (V m c main_arg4) (funext fun a => Fin.ext ?_)
  refine (Window.rect_emb_val (cfg0.win 3) t (ValueIdx.ix2 r e) a).trans ?_
  match a with
  | ⟨0, _⟩ => exact (congrArg (fun n => n * 512 + r.val) (coord_word t)).trans hR.symm
  | ⟨1, _⟩ => show 0 * 512 + e.val = e.val; omega

/-- A point's block of the tokens: rows `512 t` and on. -/
theorem block4_apply (c : Dev nD) (t : Fin grid0.N) (r : Fin 512) (e : Fin 1024) (R : Fin 32768) (hR : R.val = t.val * 512 + r.val) :
    iblk m c 4 t (ValueIdx.ix2 r e) = A5 m c (ValueIdx.ix2 R e) := by
  refine Eq.trans ?_ (congrFun (V_main_arg5 m c) _)
  refine congrArg (V m c main_arg5) (funext fun a => Fin.ext ?_)
  refine (Window.rect_emb_val (cfg0.win 4) t (ValueIdx.ix2 r e) a).trans ?_
  match a with
  | ⟨0, _⟩ => exact (congrArg (fun n => n * 512 + r.val) (coord_word t)).trans hR.symm
  | ⟨1, _⟩ => show 0 * 1024 + e.val = e.val; omega

/-- Every point's block of a vector is all of it. -/
theorem block5_apply (c : Dev nD) (t : Fin grid0.N) (e : Fin 1024) : iblk m c 5 t (ValueIdx.ix2 (0 : Fin 1) e) = A6 m c (ValueIdx.ix1 e) := by
  refine Eq.trans ?_ ((congrFun (V_v2 m c) _).trans (rowWide _ e))
  refine congrArg (V m c main_v2) (funext fun a => Fin.ext ?_)
  refine (Window.rect_emb_val (cfg0.win 5) t (ValueIdx.ix2 (0 : Fin 1) e) a).trans ?_
  match a with
  | ⟨0, _⟩ => rfl
  | ⟨1, _⟩ => show 0 * 1024 + e.val = e.val; omega

/-- Every point's block of a vector is all of it. -/
theorem block6_apply (c : Dev nD) (t : Fin grid0.N) (e : Fin 1024) : iblk m c 6 t (ValueIdx.ix2 (0 : Fin 1) e) = A7 m c (ValueIdx.ix1 e) := by
  refine Eq.trans ?_ ((congrFun (V_v3 m c) _).trans (rowWide _ e))
  refine congrArg (V m c main_v3) (funext fun a => Fin.ext ?_)
  refine (Window.rect_emb_val (cfg0.win 6) t (ValueIdx.ix2 (0 : Fin 1) e) a).trans ?_
  match a with
  | ⟨0, _⟩ => rfl
  | ⟨1, _⟩ => show 0 * 1024 + e.val = e.val; omega

/-- Every point's block of the norms' reciprocals is all of it. -/
theorem block7_apply (c : Dev nD) (t : Fin grid0.N) (e : Fin 512) : iblk m c 7 t (ValueIdx.ix2 (0 : Fin 1) e) = Ideal.div 1 (A2 m c (ValueIdx.ix2 (0 : Fin 1) e)) := by
  refine Eq.trans ?_ (v1_apply m c e)
  refine congrArg (V m c main_v1) (funext fun a => Fin.ext ?_)
  refine (Window.rect_emb_val (cfg0.win 7) t (ValueIdx.ix2 (0 : Fin 1) e) a).trans ?_
  match a with
  | ⟨0, _⟩ => rfl
  | ⟨1, _⟩ => show 0 * 512 + e.val = e.val; omega

/-- Every point's block of a vector is all of it. -/
theorem block8_apply (c : Dev nD) (t : Fin grid0.N) (e : Fin 512) : iblk m c 8 t (ValueIdx.ix2 (0 : Fin 1) e) = A8 m c (ValueIdx.ix1 e) := by
  refine Eq.trans ?_ ((congrFun (V_v4 m c) _).trans (rowHalf _ e))
  refine congrArg (V m c main_v4) (funext fun a => Fin.ext ?_)
  refine (Window.rect_emb_val (cfg0.win 8) t (ValueIdx.ix2 (0 : Fin 1) e) a).trans ?_
  match a with
  | ⟨0, _⟩ => rfl
  | ⟨1, _⟩ => show 0 * 512 + e.val = e.val; omega

/-- Every point's block of a vector is all of it. -/
theorem block9_apply (c : Dev nD) (t : Fin grid0.N) (e : Fin 512) : iblk m c 9 t (ValueIdx.ix2 (0 : Fin 1) e) = A9 m c (ValueIdx.ix1 e) := by
  refine Eq.trans ?_ ((congrFun (V_v5 m c) _).trans (rowHalf _ e))
  refine congrArg (V m c main_v5) (funext fun a => Fin.ext ?_)
  refine (Window.rect_emb_val (cfg0.win 9) t (ValueIdx.ix2 (0 : Fin 1) e) a).trans ?_
  match a with
  | ⟨0, _⟩ => rfl
  | ⟨1, _⟩ => show 0 * 512 + e.val = e.val; omega

/-- Every point's block of a vector is all of it. -/
theorem block10_apply (c : Dev nD) (t : Fin grid0.N) (e : Fin 512) : iblk m c 10 t (ValueIdx.ix2 (0 : Fin 1) e) = A10 m c (ValueIdx.ix1 e) := by
  refine Eq.trans ?_ ((congrFun (V_v6 m c) _).trans (rowHalf _ e))
  refine congrArg (V m c main_v6) (funext fun a => Fin.ext ?_)
  refine (Window.rect_emb_val (cfg0.win 10) t (ValueIdx.ix2 (0 : Fin 1) e) a).trans ?_
  match a with
  | ⟨0, _⟩ => rfl
  | ⟨1, _⟩ => show 0 * 512 + e.val = e.val; omega

/-- Every point's block of a vector is all of it. -/
theorem block12_apply (c : Dev nD) (t : Fin grid0.N) (e : Fin 1024) : iblk m c 12 t (ValueIdx.ix2 (0 : Fin 1) e) = A12 m c (ValueIdx.ix1 e) := by
  refine Eq.trans ?_ ((congrFun (V_v8 m c) _).trans (rowWide _ e))
  refine congrArg (V m c main_v8) (funext fun a => Fin.ext ?_)
  refine (Window.rect_emb_val (cfg0.win 12) t (ValueIdx.ix2 (0 : Fin 1) e) a).trans ?_
  match a with
  | ⟨0, _⟩ => rfl
  | ⟨1, _⟩ => show 0 * 1024 + e.val = e.val; omega

/-- Every point's block of a vector is all of it. -/
theorem block13_apply (c : Dev nD) (t : Fin grid0.N) (e : Fin 1024) : iblk m c 13 t (ValueIdx.ix2 (0 : Fin 1) e) = A13 m c (ValueIdx.ix1 e) := by
  refine Eq.trans ?_ ((congrFun (V_v9 m c) _).trans (rowWide _ e))
  refine congrArg (V m c main_v9) (funext fun a => Fin.ext ?_)
  refine (Window.rect_emb_val (cfg0.win 13) t (ValueIdx.ix2 (0 : Fin 1) e) a).trans ?_
  match a with
  | ⟨0, _⟩ => rfl
  | ⟨1, _⟩ => show 0 * 1024 + e.val = e.val; omega

/-- Every point's block of a vector is all of it. -/
theorem block14_apply (c : Dev nD) (t : Fin grid0.N) (e : Fin 1024) : iblk m c 14 t (ValueIdx.ix2 (0 : Fin 1) e) = A14 m c (ValueIdx.ix1 e) := by
  refine Eq.trans ?_ ((congrFun (V_v10 m c) _).trans (rowWide _ e))
  refine congrArg (V m c main_v10) (funext fun a => Fin.ext ?_)
  refine (Window.rect_emb_val (cfg0.win 14) t (ValueIdx.ix2 (0 : Fin 1) e) a).trans ?_
  match a with
  | ⟨0, _⟩ => rfl
  | ⟨1, _⟩ => show 0 * 1024 + e.val = e.val; omega

/-- Every point's block of the matrix is all of it. -/
theorem block11_apply (c : Dev nD) (t : Fin grid0.N) (k d : Fin 1024) : iblk m c 11 t (ValueIdx.ix2 k d) = A11 m c (ValueIdx.ix2 k d) := by
  refine Eq.trans ?_ (congrFun (V_v7 m c) _)
  refine congrArg (V m c main_v7) (funext fun a => Fin.ext ?_)
  refine (Window.rect_emb_val (cfg0.win 11) t (ValueIdx.ix2 k d) a).trans ?_
  match a with
  | ⟨0, _⟩ => show 0 * 1024 + k.val = k.val; omega
  | ⟨1, _⟩ => show 0 * 1024 + d.val = d.val; omega

end Cert.Kernel2Ideal.Out

end
-- ==== Proof.Mix.Out.lean ====
/- Hand-written: what the kernel's first output array holds after the run, over the extended reals: the tokens after the mixers. -/
module

public import proofs.«01_k».proof.Proof.Mix.Payload
public import proofs.«01_k».proof.Proof.Mix.Block
public import Idealize.ShloMosaic.Lib.IdealHost
public import Idealize.ShloMosaic.Lib.Pipeline.Value
public import Idealize.ShloMosaic.Lib.Pipeline.ValueKit

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-- No channel's filter norm is zero. -/
def Nonzero (c : Dev nD) : Prop := ∀ e : Fin 512, A2 m c (ValueIdx.ix2 (0 : Fin 1) e) ≠ 0

/-- What the run leaves in the array. -/
def outA (c : Dev nD) : Vec Ideal S32768x1024 .f32 := fun i =>
  Mix.row (Mix.rmsNorm (fun e => A0 m c (ValueIdx.ix2 (i 0 : Fin 32768) e)) (fun e => A9 m c (ValueIdx.ix1 e)))
    (Mix.rmsNorm (Mix.gated (fun e => A3 m c (ValueIdx.ix2 (i 0 : Fin 32768) e)) (fun e => A1 m c (ValueIdx.ix2 (i 0 : Fin 32768) e))
      (fun e => A2 m c (ValueIdx.ix2 (0 : Fin 1) e)) (fun e => A4 m c (ValueIdx.ix2 (i 0 : Fin 32768) e)) (fun e => A8 m c (ValueIdx.ix1 e)))
      (fun e => A10 m c (ValueIdx.ix1 e)))
    (fun e => A5 m c (ValueIdx.ix2 (i 0 : Fin 32768) e)) (fun e => A6 m c (ValueIdx.ix1 e)) (fun e => A7 m c (ValueIdx.ix1 e))
    (fun k d => A11 m c (ValueIdx.ix2 k d)) (fun d => A12 m c (ValueIdx.ix1 d)) (fun d => A13 m c (ValueIdx.ix1 d)) (fun d => A14 m c (ValueIdx.ix1 d)) (i 1)

theorem zeros : (![0, 0] : Fin 2 → Nat) = fun _ => 0 := by
  funext a; match a with
  | ⟨0, _⟩ => rfl
  | ⟨1, _⟩ => rfl

/-- The upper and the lower half of the matrix's rows, at an index. -/
theorem upper_apply (w : Vec Ideal S1024x1024 .bf16) (e : Fin 512) (d : Fin 1024) :
    View.ld w r0_2 (ValueIdx.ix2 e d) = w (ValueIdx.ix2 (⟨e.val, by have := e.isLt; omega⟩ : Fin 1024) d) :=
  View.ld_unit_apply_of w _ _ _ _ _ fun a => by
    match a with
    | ⟨0, _⟩ => show e.val = 0 + e.val; omega
    | ⟨1, _⟩ => show d.val = 0 + d.val; omega
theorem lower_apply (w : Vec Ideal S1024x1024 .bf16) (e : Fin 512) (d : Fin 1024) :
    View.ld w r0_3 (ValueIdx.ix2 e d) = w (ValueIdx.ix2 (⟨512 + e.val, by have := e.isLt; omega⟩ : Fin 1024) d) :=
  View.ld_unit_apply_of w _ _ _ _ _ fun a => by
    match a with
    | ⟨0, _⟩ => rfl
    | ⟨1, _⟩ => show d.val = 0 + d.val; omega

/-- What the body stores of one block, at an index, from the blocks it reads and the matrix's two halves. -/
theorem stored_apply (x0 x1 x2 x3 : Vec Ideal S512x512 .f32) (x4 : Vec Ideal S512x1024 .f32) (x5 x6 : Vec Ideal S1x1024 .f32)
    (x7 x8 x9 x10 : Vec Ideal S1x512 .f32) (x11 : Vec Ideal S1024x1024 .bf16) (w1 w2 : Vec Ideal S512x1024 .bf16) (x12 x13 x14 : Vec Ideal S1x1024 .f32)
    (a : Fin 512 → EReal) (ha : ∀ e, a e ≠ 0) (h7 : ∀ e, x7 (ValueIdx.ix2 (0 : Fin 1) e) = Ideal.div 1 (a e))
    (h1 : ∀ (e : Fin 512) (d : Fin 1024), w1 (ValueIdx.ix2 e d) = x11 (ValueIdx.ix2 (⟨e.val, by have := e.isLt; omega⟩ : Fin 1024) d))
    (h2 : ∀ (e : Fin 512) (d : Fin 1024), w2 (ValueIdx.ix2 e d) = x11 (ValueIdx.ix2 (⟨512 + e.val, by have := e.isLt; omega⟩ : Fin 1024) d))
    (r : Fin 512) (d : Fin 1024) :
    k0_pay12 (k0_pay9 (k0_pay4 x3 x2 x1 x7 x8) (k0_pay5 x0 x9) (k0_pay6 x10) (k0_pay7 x3 x2 x1 x7 x8) k0_pay8 w1 w2 x12) (k0_pay10 x6) (k0_pay11 x4 x5) x13 x14
        (ValueIdx.ix2 r d)
      = Mix.row (Mix.rmsNorm (fun e => x0 (ValueIdx.ix2 r e)) (fun e => x9 (ValueIdx.ix2 (0 : Fin 1) e)))
          (Mix.rmsNorm (Mix.gated (fun e => x2 (ValueIdx.ix2 r e)) (fun e => x1 (ValueIdx.ix2 r e)) a (fun e => x3 (ValueIdx.ix2 r e))
            (fun e => x8 (ValueIdx.ix2 (0 : Fin 1) e))) (fun e => x10 (ValueIdx.ix2 (0 : Fin 1) e)))
          (fun e => x4 (ValueIdx.ix2 r e)) (fun e => x5 (ValueIdx.ix2 (0 : Fin 1) e)) (fun e => x6 (ValueIdx.ix2 (0 : Fin 1) e))
          (fun k d => x11 (ValueIdx.ix2 k d)) (fun d => x12 (ValueIdx.ix2 (0 : Fin 1) d)) (fun d => x13 (ValueIdx.ix2 (0 : Fin 1) d))
          (fun d => x14 (ValueIdx.ix2 (0 : Fin 1) d)) d := by
  have hg : ∀ e, k0_pay4 x3 x2 x1 x7 x8 (ValueIdx.ix2 r e) = Mix.gated (fun e => x2 (ValueIdx.ix2 r e)) (fun e => x1 (ValueIdx.ix2 r e)) a
      (fun e => x3 (ValueIdx.ix2 r e)) (fun e => x8 (ValueIdx.ix2 (0 : Fin 1) e)) e := fun e => by
    rw [pay4_apply, h7, Ideal.mul_one_div (ha e), mul_comm (x8 _)]
    rfl
  rw [pay12_apply]
  simp only [pay11_apply, pay9_apply, pay5_apply, pay7_apply, h1, h2, hg]
  rfl

/-- What the body leaves of one block: it stores once, and reads every block whole but the matrix, which it reads by halves. -/
theorem body_apply (x0 x1 x2 x3 : Vec Ideal S512x512 .f32) (x4 : Vec Ideal S512x1024 .f32) (x5 x6 : Vec Ideal S1x1024 .f32)
    (x7 x8 x9 x10 : Vec Ideal S1x512 .f32) (x11 : Vec Ideal S1024x1024 .bf16) (x12 x13 x14 : Vec Ideal S1x1024 .f32)
    (x15 : Vec Ideal S32x1024 .f32) (x16 : Vec Ideal S32x1 .f32) (a : Fin 512 → EReal)
    (ha : ∀ e, a e ≠ 0) (h7 : ∀ e, x7 (ValueIdx.ix2 (0 : Fin 1) e) = Ideal.div 1 (a e)) (r : Fin 512) (d : Fin 1024) :
    out0_17 x0 x1 x2 x3 x4 x5 x6 x7 x8 x9 x10 x11 x12 x13 x14 x15 x16 (ValueIdx.ix2 r d)
      = Mix.row (Mix.rmsNorm (fun e => x0 (ValueIdx.ix2 r e)) (fun e => x9 (ValueIdx.ix2 (0 : Fin 1) e)))
          (Mix.rmsNorm (Mix.gated (fun e => x2 (ValueIdx.ix2 r e)) (fun e => x1 (ValueIdx.ix2 r e)) a (fun e => x3 (ValueIdx.ix2 r e))
            (fun e => x8 (ValueIdx.ix2 (0 : Fin 1) e))) (fun e => x10 (ValueIdx.ix2 (0 : Fin 1) e)))
          (fun e => x4 (ValueIdx.ix2 r e)) (fun e => x5 (ValueIdx.ix2 (0 : Fin 1) e)) (fun e => x6 (ValueIdx.ix2 (0 : Fin 1) e))
          (fun k d => x11 (ValueIdx.ix2 k d)) (fun d => x12 (ValueIdx.ix2 (0 : Fin 1) d)) (fun d => x13 (ValueIdx.ix2 (0 : Fin 1) d))
          (fun d => x14 (ValueIdx.ix2 (0 : Fin 1) d)) d := by
  unfold out0_17 k0_pay48 k0_pay49 k0_pay50
  simp only [View.ld_unit_zero (S := S512x512) zeros, View.ld_unit_zero (S := S1x512) zeros, View.ld_unit_zero (S := S1x1024) zeros,
    View.ld_unit_zero (S := S512x1024) zeros]
  rw [View.canon_unit_zero zeros]
  exact stored_apply x0 x1 x2 x3 x4 x5 x6 x7 x8 x9 x10 x11 (View.ld x11 r0_2) (View.ld x11 r0_3) x12 x13 x14 a ha h7 (upper_apply x11) (lower_apply x11) r d

/-- The block a point leaves, at an index. -/
theorem block17_apply (c : Dev nD) (h : Nonzero m c) (t : Fin grid0.N) (r : Fin 512) (d : Fin 1024) (R : Fin 32768) (hR : R.val = t.val * 512 + r.val) :
    (dats m 0 c).after 17 t (ValueIdx.ix2 r d) = outA m c (ValueIdx.ix2 R d) := by
  refine (congrFun (after0_17 m c t) _).trans ((body_apply _ _ _ _ _ _ _ _ _ _ _ _ _ _ _ _ _ (fun e => A2 m c (ValueIdx.ix2 (0 : Fin 1) e)) h
    (fun e => block7_apply m c t e) r d).trans ?_)
  simp only [block0_apply m c t r _ R hR, block1_apply m c t r _ R hR, block2_apply m c t r _ R hR, block3_apply m c t r _ R hR, block4_apply m c t r _ R hR,
    block5_apply, block6_apply, block8_apply, block9_apply, block10_apply, block11_apply, block12_apply, block13_apply, block14_apply]
  rfl

/-- Every point writes its block back. -/
theorem flushed (t : Fin grid0.N) : (cfg0.win 17).flush t = true := by
  have h : ∀ t : Fin grid0.N, Window.flushOf grid0 true (fun i => ![(BitVec.ofNat 32 (i 0).val).toNat, 0]) t = true := by decide +kernel
  exact h t

/-- Where the output block of a point lies in the array. -/
def emb17 (t : Fin grid0.N) (y : S512x1024.Idx) : S32768x1024.Idx := ((cfg0.win 17).blk t).view.emb y

theorem emb17_val (t : Fin grid0.N) (y : S512x1024.Idx) (a : Fin 2) :
    (emb17 t y a).val = (![t.val, 0] : Fin 2 → Nat) a * S512x1024.size a + (y a).val := by
  refine (Window.rect_emb_val (cfg0.win 17) t y a).trans ?_
  match a with
  | ⟨0, _⟩ => exact congrArg (fun n => n * 512 + (y 0).val) (coord_word t)
  | ⟨1, _⟩ => rfl

/-- The block a point leaves is the array's, where it lies. -/
theorem block17_emb (c : Dev nD) (h : Nonzero m c) (t : Fin grid0.N) (y : S512x1024.Idx) :
    (dats m 0 c).after 17 t y = outA m c (emb17 t y) := by
  have hy : y = ValueIdx.ix2 (y 0 : Fin 512) (y 1 : Fin 1024) := by
    funext a; match a with
    | ⟨0, _⟩ => rfl
    | ⟨1, _⟩ => rfl
  refine (congrArg ((dats m 0 c).after 17 t) hy).trans ((block17_apply m c h t (y 0) (y 1) (emb17 t y 0) (emb17_val t y 0)).trans ?_)
  refine congrArg (outA m c) (funext fun a => Fin.ext ?_)
  match a with
  | ⟨0, _⟩ => rfl
  | ⟨1, _⟩ => exact ((emb17_val t y 1).trans (by show 0 * 1024 + (y 1).val = (y 1).val; omega)).symm

/-- Every place of the array lies in some point's block. -/
theorem cover17 (i : S32768x1024.Idx) : ∃ (t : Fin grid0.N) (y : S512x1024.Idx), emb17 t y = i := by
  have hi0 : (i 0).val < 32768 := (i 0).isLt
  refine ⟨(⟨(i 0).val / 512, by omega⟩ : Fin 64), ValueIdx.ix2 (⟨(i 0).val % 512, by omega⟩ : Fin 512) (i 1 : Fin 1024), ?_⟩
  funext a
  refine Fin.ext ((emb17_val _ _ a).trans ?_)
  match a with
  | ⟨0, _⟩ => show (i 0).val / 512 * 512 + (i 0).val % 512 = (i 0).val; omega
  | ⟨1, _⟩ => show 0 * 1024 + (i 1).val = (i 1).val; omega

/-- The array the run leaves. -/
theorem arr_17 (c : Dev nD) (h : Nonzero m c) : (dats m 0 c).arrAt 17 cfg0.N = outA m c :=
  (dats m 0 c).arrAt_eq_of_emb 17 (outA m c) (fun t _ y => block17_emb m c h t y) fun i =>
    let ⟨t, y, e⟩ := cover17 i
    ⟨t, flushed t, e ▸ View.emb_mem_set _ y⟩

end Cert.Kernel2Ideal.Out

end
-- ==== Proof.Mix.Ref.lean ====
/- Hand-written: the reference's tokens after the mixers, in named stages, and each stage at an index. -/
module

public import proofs.«01_k».proof.Proof.Gen.Reference2Ideal.Run
public import proofs.«01_k».proof.Proof.Mix.Spec
public import Idealize.ShloMosaic.PureOps.Ideal
public import Idealize.ShloMosaic.Lib.Pointwise

@[expose] public section

set_option maxRecDepth 16384

noncomputable section

namespace Cert.Reference2Ideal.Ref

open Cert.Reference2Ideal Cert.Reference2Ideal.Gen
open Idealize.ShloMosaic Idealize.ShloMosaic.TcCoe Idealize.ShloMosaic.Tactic

/-! ## The stages -/

/-- A vector along every row. -/
def alongWide (v : FVec Ideal S1024 .f32) : FVec Ideal S32768x1024 .f32 :=
  broadcastInDim S32768x1024 ![0, 1] bcast_S1x1024_S32768x1024_0_1 (broadcastInDim S1x1024 ![1] bcast_S1024_S1x1024_1 v)
def alongHalf (v : FVec Ideal S512 .f32) : FVec Ideal S32768x512 .f32 :=
  broadcastInDim S32768x512 ![0, 1] bcast_S1x512_S32768x512_0_1 (broadcastInDim S1x512 ![1] bcast_S512_S1x512_1 v)

/-- Each row's mean. -/
def meanWide (x : FVec Ideal S32768x1024 .f32) : FVec Ideal S32768x1 .f32 :=
  Host.divf (broadcastInDim S32768x1 ![0] bcast_S32768_S32768x1_0 (Host.reduceAdd x (constant S_ .f32 0x00000000#32) reducesTo_S32768x1024_S32768_d1 h_S_))
    (broadcastInDim S32768x1 ![] bcast_S_S32768x1 (constant S_ .f32 0x44800000#32))
def meanHalf (x : FVec Ideal S32768x512 .f32) : FVec Ideal S32768x1 .f32 :=
  Host.divf (broadcastInDim S32768x1 ![0] bcast_S32768_S32768x1_0 (Host.reduceAdd x (constant S_ .f32 0x00000000#32) reducesTo_S32768x512_S32768_d1 h_S_))
    (broadcastInDim S32768x1 ![] bcast_S_S32768x1 (constant S_ .f32 0x44000000#32))

/-- Each row less its mean. -/
def centred (x : FVec Ideal S32768x1024 .f32) : FVec Ideal S32768x1024 .f32 :=
  subf x (broadcastInDim S32768x1024 ![0, 1] bcast_S32768x1_S32768x1024_0_1 (meanWide x))

/-- Each row normalised: by mean and variance, or by mean square. -/
def layerNorm (x : FVec Ideal S32768x1024 .f32) (g b : FVec Ideal S1024 .f32) : FVec Ideal S32768x1024 .f32 :=
  addf (mulf (mulf (centred x) (broadcastInDim S32768x1024 ![0, 1] bcast_S32768x1_S32768x1024_0_1
      (Host.rsqrt (addf (meanWide (mulf (centred x) (centred x))) (broadcastInDim S32768x1 ![] bcast_S_S32768x1 (constant S_ .f32 0x3727C5AC#32))))))
    (alongWide g)) (alongWide b)
def rmsNorm (x : FVec Ideal S32768x512 .f32) (g : FVec Ideal S512 .f32) : FVec Ideal S32768x512 .f32 :=
  mulf (mulf x (broadcastInDim S32768x512 ![0, 1] bcast_S32768x1_S32768x512_0_1
      (Host.rsqrt (addf (meanHalf (mulf x x)) (broadcastInDim S32768x1 ![] bcast_S_S32768x1 (constant S_ .f32 0x358637BD#32))))))
    (alongHalf g)

/-- The convolution mixer's output. -/
def gated (x0 yc : FVec Ideal S32768x512 .f32) (a : FVec Ideal S1x512 .f32) (w : FVec Ideal S32768x512 .f32) (s : FVec Ideal S512 .f32) : FVec Ideal S32768x512 .f32 :=
  mulf x0 (addf (Host.divf yc (broadcastInDim S32768x512 ![0, 1] bcast_S1x512_S32768x512_0_1 a)) (mulf w (alongHalf s)))

/-- The two mixers' outputs side by side times the matrix, plus the bias. -/
def mixed (f h : FVec Ideal S32768x512 .f32) (w : FVec Ideal S1024x1024 .f32) (b : FVec Ideal S1024 .f32) : FVec Ideal S32768x1024 .f32 :=
  addf (Host.dotGeneral dot_S32768x1024_S1024x1024_S32768x1024_1_0_0_1_n_n none
      (concatenate S32768x1024 1 [⟨S32768x512, f⟩, ⟨S32768x512, h⟩] concatenates_S32768x512_S32768x512_S32768x1024_d1) w) (alongWide b)

/-- The residual, weighted, plus the mixers' output. -/
def total (x y : FVec Ideal S32768x1024 .f32) : FVec Ideal S32768x1024 .f32 :=
  addf (mulf (broadcastInDim S32768x1024 ![] bcast_S_S32768x1024 (constant S_ .f32 0x3F9837F0#32)) x) y

variable (m : (ℓ : Loc nD τ sig) → Buf (Elt Ideal) ℓ) (c : Dev nD)

abbrev A0 : FVec Ideal S32768x512 .f32 := m ((c.tc : Thread nD τ).loc main_arg0)
abbrev A1 : FVec Ideal S32768x512 .f32 := m ((c.tc : Thread nD τ).loc main_arg1)
abbrev A2 : FVec Ideal S1x512 .f32 := m ((c.tc : Thread nD τ).loc main_arg2)
abbrev A3 : FVec Ideal S32768x512 .f32 := m ((c.tc : Thread nD τ).loc main_arg3)
abbrev A4 : FVec Ideal S32768x512 .f32 := m ((c.tc : Thread nD τ).loc main_arg4)
abbrev A5 : FVec Ideal S32768x1024 .f32 := m ((c.tc : Thread nD τ).loc main_arg5)
abbrev A6 : FVec Ideal S1024 .f32 := m ((c.tc : Thread nD τ).loc main_arg6)
abbrev A7 : FVec Ideal S1024 .f32 := m ((c.tc : Thread nD τ).loc main_arg7)
abbrev A8 : FVec Ideal S512 .f32 := m ((c.tc : Thread nD τ).loc main_arg8)
abbrev A9 : FVec Ideal S512 .f32 := m ((c.tc : Thread nD τ).loc main_arg9)
abbrev A10 : FVec Ideal S512 .f32 := m ((c.tc : Thread nD τ).loc main_arg10)
abbrev A11 : FVec Ideal S1024x1024 .f32 := m ((c.tc : Thread nD τ).loc main_arg11)
abbrev A12 : FVec Ideal S1024 .f32 := m ((c.tc : Thread nD τ).loc main_arg12)
abbrev A13 : FVec Ideal S1024 .f32 := m ((c.tc : Thread nD τ).loc main_arg13)
abbrev A14 : FVec Ideal S1024 .f32 := m ((c.tc : Thread nD τ).loc main_arg14)

/-- The reference's result is those stages. -/
theorem res_eq : Value.res_main_v84 (F := Ideal) m c
    = layerNorm (total (layerNorm (A5 m c) (A6 m c) (A7 m c))
        (mixed (rmsNorm (A0 m c) (A9 m c)) (rmsNorm (gated (A3 m c) (A1 m c) (A2 m c) (A4 m c) (A8 m c)) (A10 m c)) (A11 m c) (A12 m c)))
        (A13 m c) (A14 m c) := by
  unfold Value.res_main_v84
  rfl

/-! ## The stages at an index -/

theorem layerNorm_apply (x : FVec Ideal S32768x1024 .f32) (g b : FVec Ideal S1024 .f32) (R : Fin 32768) (d : Fin 1024) :
    layerNorm x g b (ValueIdx.ix2 R d) = Mix.layerNorm (fun e => x (ValueIdx.ix2 R e)) (fun e => g (ValueIdx.ix1 e)) (fun e => b (ValueIdx.ix1 e)) d := by
  unfold layerNorm centred meanWide alongWide
  pointwise
  rfl

theorem rmsNorm_apply (x : FVec Ideal S32768x512 .f32) (g : FVec Ideal S512 .f32) (R : Fin 32768) (e : Fin 512) :
    rmsNorm x g (ValueIdx.ix2 R e) = Mix.rmsNorm (fun e => x (ValueIdx.ix2 R e)) (fun e => g (ValueIdx.ix1 e)) e := by
  unfold rmsNorm meanHalf alongHalf
  pointwise
  rfl

theorem gated_apply (x0 yc : FVec Ideal S32768x512 .f32) (a : FVec Ideal S1x512 .f32) (w : FVec Ideal S32768x512 .f32) (s : FVec Ideal S512 .f32)
    (R : Fin 32768) (e : Fin 512) : gated x0 yc a w s (ValueIdx.ix2 R e)
      = Mix.gated (fun e => x0 (ValueIdx.ix2 R e)) (fun e => yc (ValueIdx.ix2 R e)) (fun e => a (ValueIdx.ix2 (0 : Fin 1) e)) (fun e => w (ValueIdx.ix2 R e))
          (fun e => s (ValueIdx.ix1 e)) e := by
  unfold gated alongHalf
  pointwise
  rfl

/-- The product with the matrix, over the side-by-side rows: the sum over the first half plus the sum over the second. -/
theorem mixed_apply (f h : FVec Ideal S32768x512 .f32) (w : FVec Ideal S1024x1024 .f32) (b : FVec Ideal S1024 .f32) (R : Fin 32768) (d : Fin 1024) :
    mixed f h w b (ValueIdx.ix2 R d) = Mix.mixed (fun e => f (ValueIdx.ix2 R e)) (fun e => h (ValueIdx.ix2 R e)) (fun k d => w (ValueIdx.ix2 k d))
      (fun d => b (ValueIdx.ix1 d)) d := by
  unfold mixed alongWide
  pointwise
  rfl

theorem total_apply (x y : FVec Ideal S32768x1024 .f32) (R : Fin 32768) (d : Fin 1024) :
    total x y (ValueIdx.ix2 R d) = Mix.alpha * x (ValueIdx.ix2 R d) + y (ValueIdx.ix2 R d) := by
  unfold total
  pointwise

/-- The reference's result, element by element. -/
theorem res_apply (R : Fin 32768) (d : Fin 1024) : Value.res_main_v84 (F := Ideal) m c (ValueIdx.ix2 R d)
    = Mix.row (Mix.rmsNorm (fun e => A0 m c (ValueIdx.ix2 R e)) (fun e => A9 m c (ValueIdx.ix1 e)))
        (Mix.rmsNorm (Mix.gated (fun e => A3 m c (ValueIdx.ix2 R e)) (fun e => A1 m c (ValueIdx.ix2 R e)) (fun e => A2 m c (ValueIdx.ix2 (0 : Fin 1) e))
          (fun e => A4 m c (ValueIdx.ix2 R e)) (fun e => A8 m c (ValueIdx.ix1 e))) (fun e => A10 m c (ValueIdx.ix1 e)))
        (fun e => A5 m c (ValueIdx.ix2 R e)) (fun e => A6 m c (ValueIdx.ix1 e)) (fun e => A7 m c (ValueIdx.ix1 e))
        (fun k d => A11 m c (ValueIdx.ix2 k d)) (fun d => A12 m c (ValueIdx.ix1 d)) (fun d => A13 m c (ValueIdx.ix1 d)) (fun d => A14 m c (ValueIdx.ix1 d)) d := by
  rw [res_eq, layerNorm_apply]
  simp only [total_apply, layerNorm_apply, mixed_apply, rmsNorm_apply, gated_apply]
  rfl

end Cert.Reference2Ideal.Ref

end
-- ==== Proof.Mix.Equal.lean ====
/- Hand-written: from equal arguments, the reference's tokens after the mixers are the kernel's output array. -/
module

public import proofs.«01_k».proof.Proof.Mix.Out
public import proofs.«01_k».proof.Proof.Mix.Ref

@[expose] public section

noncomputable section

namespace Cert.Proof

open Idealize.ShloMosaic Idealize.ShloMosaic.TcCoe

/-- The two results, equal element by element. -/
theorem equalMix (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : Reference2Ideal.Ref.A0 m' c = Kernel2Ideal.Out.A0 m c) (h1 : Reference2Ideal.Ref.A1 m' c = Kernel2Ideal.Out.A1 m c)
    (h2 : Reference2Ideal.Ref.A2 m' c = Kernel2Ideal.Out.A2 m c) (h3 : Reference2Ideal.Ref.A3 m' c = Kernel2Ideal.Out.A3 m c)
    (h4 : Reference2Ideal.Ref.A4 m' c = Kernel2Ideal.Out.A4 m c) (h5 : Reference2Ideal.Ref.A5 m' c = Kernel2Ideal.Out.A5 m c)
    (h6 : Reference2Ideal.Ref.A6 m' c = Kernel2Ideal.Out.A6 m c) (h7 : Reference2Ideal.Ref.A7 m' c = Kernel2Ideal.Out.A7 m c)
    (h8 : Reference2Ideal.Ref.A8 m' c = Kernel2Ideal.Out.A8 m c) (h9 : Reference2Ideal.Ref.A9 m' c = Kernel2Ideal.Out.A9 m c)
    (h10 : Reference2Ideal.Ref.A10 m' c = Kernel2Ideal.Out.A10 m c) (h11 : Reference2Ideal.Ref.A11 m' c = Kernel2Ideal.Out.A11 m c)
    (h12 : Reference2Ideal.Ref.A12 m' c = Kernel2Ideal.Out.A12 m c) (h13 : Reference2Ideal.Ref.A13 m' c = Kernel2Ideal.Out.A13 m c)
    (h14 : Reference2Ideal.Ref.A14 m' c = Kernel2Ideal.Out.A14 m c) :
    (Reference2Ideal.Value.res_main_v84 (F := Ideal) m' c : FVec Ideal Reference2Ideal.S32768x1024 .f32) = Kernel2Ideal.Out.outA m c := by
  funext i
  have hi : i = ValueIdx.ix2 (i 0 : Fin 32768) (i 1 : Fin 1024) := by
    funext a; match a with
    | ⟨0, _⟩ => rfl
    | ⟨1, _⟩ => rfl
  refine (congrArg (Reference2Ideal.Value.res_main_v84 (F := Ideal) m' c) hi).trans ((Reference2Ideal.Ref.res_apply m' c (i 0) (i 1)).trans ?_)
  unfold Kernel2Ideal.Out.outA
  rw [h0, h1, h2, h3, h4, h5, h6, h7, h8, h9, h10, h11, h12, h13, h14]

end Cert.Proof

end
-- ==== Proof.Proj.Spec.lean ====
/- Hand-written: the projection and the short convolution after it, on plain families over the extended reals. -/
module

public import proofs.«01_k».proof.Proof.Mix.Spec

@[expose] public section

noncomputable section

namespace Cert.Proj

open Idealize.ShloMosaic

/-- A normalised row times one column of a matrix, plus the column's bias. -/
def proj (x g b w : Fin 1024 → EReal) (bi : EReal) : EReal := ∑ k, Mix.layerNorm x g b k * w k + bi

/-- A convolution of width 3 at one place: the neighbour before, the place itself and the neighbour after, weighted, plus a bias. -/
def conv (up ph dn w0 w1 w2 b : EReal) : EReal := up * w0 + ph * w1 + dn * w2 + b

/-- The row before, and the row after, within a sequence of 16384 rows; zero past its ends. -/
def before (f : Nat → EReal) (n : Nat) : EReal := if n % 16384 = 0 then 0 else f (n - 1)
def after (f : Nat → EReal) (n : Nat) : EReal := if n % 16384 = 16383 then 0 else f (n + 1)

/-- The convolution down a column of rows, at row n. -/
def column (f : Nat → EReal) (w0 w1 w2 b : EReal) (n : Nat) : EReal := conv (before f n) (f n) (after f n) w0 w1 w2 b

/-- Columns by groups of 128 times a block of cosines and sines: at an even row the sums with the cosines, at an odd row with the sines. -/
def wave (f : Fin 512 → EReal) (bd : Fin 128 → Fin 256 → EReal) (q : Nat) (d : Fin 512) : EReal :=
  ∑ e : Fin 128, f ⟨d.val / 128 * 128 + e.val, by have := d.isLt; have := e.isLt; omega⟩ * bd e ⟨q % 2 * 128 + d.val % 128, by omega⟩

end Cert.Proj

end
-- ==== Proof.Proj.Payload.lean ====
/- Hand-written: what the body computes of one tile, at an index, over the extended reals. -/
module

public import proofs.«01_k».proof.Proof.Gen.Kernel3Ideal.Skeleton
public import proofs.«01_k».proof.Proof.Proj.Spec
public import Idealize.ShloMosaic.Lib.Pointwise

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic

/-! ## The projections -/

/-- The first quarter's projection. -/
theorem first_apply (x : Vec Ideal S256x1024 .f32) (g b : Vec Ideal S1x1024 .f32) (w : Vec Ideal S1024x2048 .bf16) (bi : Vec Ideal S1x2048 .f32)
    (r : Fin 256) (k : Fin 2048) : k0_pay8 (k0_pay6 x g b w) (k0_pay7 bi) (ValueIdx.ix2 r k)
      = Proj.proj (fun e => x (ValueIdx.ix2 r e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay8 k0_pay6 k0_pay7
  pointwise
  rfl

/-- The second quarter's projection. -/
theorem second_apply (x : Vec Ideal S256x1024 .f32) (g b : Vec Ideal S1x1024 .f32) (w : Vec Ideal S1024x2048 .bf16) (bi : Vec Ideal S1x2048 .f32)
    (r : Fin 256) (k : Fin 2048) : k0_pay9 x g b w bi (ValueIdx.ix2 r k)
      = Proj.proj (fun e => x (ValueIdx.ix2 r e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay9
  pointwise
  rfl

/-- The third quarter's projection. -/
theorem third_apply (x : Vec Ideal S256x1024 .f32) (g b : Vec Ideal S1x1024 .f32) (w : Vec Ideal S1024x2048 .bf16) (bi : Vec Ideal S1x2048 .f32)
    (r : Fin 256) (k : Fin 2048) : k0_pay12 (k0_pay10 x) (k0_pay11 g) b w bi (ValueIdx.ix2 r k)
      = Proj.proj (fun e => x (ValueIdx.ix2 r e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay12 k0_pay10 k0_pay11
  pointwise
  rfl

/-- The fourth quarter's projection. -/
theorem fourth_apply (x : Vec Ideal S256x1024 .f32) (g b : Vec Ideal S1x1024 .f32) (w : Vec Ideal S1024x2048 .bf16) (bi : Vec Ideal S1x2048 .f32)
    (r : Fin 256) (k : Fin 2048) : k0_pay17 (k0_pay13 x) (k0_pay14 g) (k0_pay15 b) (k0_pay16 x) w bi (ValueIdx.ix2 r k)
      = Proj.proj (fun e => x (ValueIdx.ix2 r e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay17 k0_pay16 k0_pay13 k0_pay14 k0_pay15
  pointwise
  rfl

/-- The row before the tile, projected: the last of the eight rows before it. -/
theorem edgeBefore_apply (xp xq : Vec Ideal S8x1024 .f32) (g b : Vec Ideal S1x1024 .f32) (w : Vec Ideal S1024x1536 .bf16) (bi : Vec Ideal S1x1536 .f32)
    (k : Fin 1536) : k0_pay5 (k0_pay4 xp xq g b) w bi (ValueIdx.ix2 (7 : Fin 16) k)
      = Proj.proj (fun e => xp (ValueIdx.ix2 (7 : Fin 8) e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay5 k0_pay4
  pointwise
  rfl

/-- The row after the tile, projected: the first of the eight rows after it. -/
theorem edgeAfter_apply (xp xq : Vec Ideal S8x1024 .f32) (g b : Vec Ideal S1x1024 .f32) (w : Vec Ideal S1024x1536 .bf16) (bi : Vec Ideal S1x1536 .f32)
    (k : Fin 1536) : k0_pay5 (k0_pay4 xp xq g b) w bi (ValueIdx.ix2 (8 : Fin 16) k)
      = Proj.proj (fun e => xq (ValueIdx.ix2 (0 : Fin 8) e)) (fun e => g (ValueIdx.ix2 (0 : Fin 1) e)) (fun e => b (ValueIdx.ix2 (0 : Fin 1) e))
          (fun e => w (ValueIdx.ix2 e k)) (bi (ValueIdx.ix2 (0 : Fin 1) k)) := by
  unfold k0_pay5 k0_pay4
  pointwise
  rfl

/-! ## The convolution -/

/-- A convolved column among the projection's columns: they follow the 512 Fourier columns. -/
def col (d : Fin 1536) : Fin 2048 := ⟨512 + d.val, by have := d.isLt; omega⟩

/-- A select on a row's number. -/
theorem select_row (r k : Nat) (hr : r < 256) (hk : k < 256) (x y : EReal) :
    Scalar.select (IntOp.cmpi CmpIPredicate.eq (BitVec.ofNat 32 r) (BitVec.ofNat 32 k)) x y = if r = k then x else y := by
  by_cases h : r = k
  · subst h; simp [Scalar.select, IntOp.cmpi]
  · have : BitVec.ofNat 32 r ≠ BitVec.ofNat 32 k := fun e => h (by
      have := congrArg BitVec.toNat e
      simp only [BitVec.toNat_ofNat] at this
      omega)
    have hb : (BitVec.ofNat 32 r == BitVec.ofNat 32 k) = false := beq_eq_false_iff_ne.mpr this
    simp [Scalar.select, IntOp.cmpi, h, hb]

/-- The row before, of a quarter's 256 rows: the quarter turned by one, with the row before the quarter put first. -/
theorem pick_before (f : Nat → EReal) (B : Nat) (hB : B % 256 = 0) (p : Fin 256 → EReal) (hp : ∀ r : Fin 256, p r = f (B + r.val)) (x : EReal)
    (hx : x = Proj.before f B) (r : Fin 256) (h : (r.val + 256 - 1) % 256 < 256) :
    Scalar.select (IntOp.cmpi CmpIPredicate.eq (BitVec.ofNat 32 r.val) 0#32) x (p ⟨(r.val + 256 - 1) % 256, h⟩) = Proj.before f (B + r.val) := by
  have hr := r.isLt
  refine (select_row r.val 0 hr (by omega) _ _).trans ?_
  by_cases h0 : r.val = 0
  · rw [if_pos h0, hx, h0]; rfl
  · rw [if_neg h0, hp, Proj.before, if_neg (by omega)]
    exact congrArg f (by show B + (r.val + 256 - 1) % 256 = B + r.val - 1; omega)

/-- The row after: the quarter turned by 255, with the row after the quarter put last. -/
theorem pick_after (f : Nat → EReal) (B : Nat) (hB : B % 256 = 0) (p : Fin 256 → EReal) (hp : ∀ r : Fin 256, p r = f (B + r.val)) (x : EReal)
    (hx : x = Proj.after f (B + 255)) (r : Fin 256) (h : (r.val + 256 - 255) % 256 < 256) :
    Scalar.select (IntOp.cmpi CmpIPredicate.eq (BitVec.ofNat 32 r.val) 255#32) x (p ⟨(r.val + 256 - 255) % 256, h⟩) = Proj.after f (B + r.val) := by
  have hr := r.isLt
  refine (select_row r.val 255 hr (by omega) _ _).trans ?_
  by_cases h0 : r.val = 255
  · rw [if_pos h0, hx, h0]
  · rw [if_neg h0, hp, Proj.after, if_neg (by omega)]
    exact congrArg f (by show B + (r.val + 256 - 255) % 256 = B + r.val + 1; omega)

/-- The four terms of a convolution, each replaced by an equal one. -/
theorem conv_congr {up up' ph ph' dn dn' : EReal} (w0 w1 w2 b : EReal) (h1 : up = up') (h2 : ph = ph') (h3 : dn = dn') :
    up * w0 + ph * w1 + dn * w2 + b = Proj.conv up' ph' dn' w0 w1 w2 b := by
  rw [h1, h2, h3]; rfl

section Quarters

variable (f : Nat → EReal) (B : Nat) (hB : B % 256 = 0) (w : Vec Ideal S3x1536 .f32) (bi : Vec Ideal S1x1536 .f32) (d : Fin 1536)
  (p : FVec Ideal S256x2048 .f32) (hp : ∀ r : Fin 256, p (ValueIdx.ix2 r (col d)) = f (B + r.val))
include hB hp

/-- The first quarter, convolved: its row before comes from the rows before the tile, or is zero. -/
theorem conv_first (it : BitVec 32) (h : FVec Ideal S16x1536 .f32) (n : FVec Ideal S256x2048 .f32)
    (hh : Scalar.select (IntOp.cmpi CmpIPredicate.sgt it 0#32) (h (ValueIdx.ix2 (7 : Fin 16) d)) 0 = Proj.before f B)
    (hn : n (ValueIdx.ix2 (0 : Fin 256) (col d)) = Proj.after f (B + 255)) (r : Fin 256) :
    k0_pay27 (k0_pay25 it h p w) (k0_pay26 p n w) bi (ValueIdx.ix2 r d)
      = Proj.column f (w (ValueIdx.ix2 (0 : Fin 3) d)) (w (ValueIdx.ix2 (1 : Fin 3) d)) (w (ValueIdx.ix2 (2 : Fin 3) d)) (bi (ValueIdx.ix2 (0 : Fin 1) d)) (B + r.val) := by
  unfold k0_pay27 k0_pay25 k0_pay26 k0_pay24
  pointwise
  exact conv_congr _ _ _ _ (pick_before f B hB (fun r => p (ValueIdx.ix2 r (col d))) hp _ hh r _) (hp r)
    (pick_after f B hB (fun r => p (ValueIdx.ix2 r (col d))) hp _ hn r _)

/-- The second quarter, convolved. -/
theorem conv_second (a n : FVec Ideal S256x2048 .f32) (ha : a (ValueIdx.ix2 (255 : Fin 256) (col d)) = Proj.before f B)
    (hn : n (ValueIdx.ix2 (0 : Fin 256) (col d)) = Proj.after f (B + 255)) (r : Fin 256) :
    k0_pay38 a p n w bi (ValueIdx.ix2 r d)
      = Proj.column f (w (ValueIdx.ix2 (0 : Fin 3) d)) (w (ValueIdx.ix2 (1 : Fin 3) d)) (w (ValueIdx.ix2 (2 : Fin 3) d)) (bi (ValueIdx.ix2 (0 : Fin 1) d)) (B + r.val) := by
  unfold k0_pay38
  pointwise
  exact conv_congr _ _ _ _ (pick_before f B hB (fun r => p (ValueIdx.ix2 r (col d))) hp _ ha r _) (hp r)
    (pick_after f B hB (fun r => p (ValueIdx.ix2 r (col d))) hp _ hn r _)

/-- The third quarter, convolved. -/
theorem conv_third (a n : FVec Ideal S256x2048 .f32) (ha : a (ValueIdx.ix2 (255 : Fin 256) (col d)) = Proj.before f B)
    (hn : n (ValueIdx.ix2 (0 : Fin 256) (col d)) = Proj.after f (B + 255)) (r : Fin 256) :
    k0_pay46 w (k0_pay43 p) (k0_pay44 n) (iota .tc S256x1536 32 [0] iota_S256x1536_d0_w32) (k0_pay45 a p) bi (ValueIdx.ix2 r d)
      = Proj.column f (w (ValueIdx.ix2 (0 : Fin 3) d)) (w (ValueIdx.ix2 (1 : Fin 3) d)) (w (ValueIdx.ix2 (2 : Fin 3) d)) (bi (ValueIdx.ix2 (0 : Fin 1) d)) (B + r.val) := by
  unfold k0_pay46 k0_pay45 k0_pay44 k0_pay43
  pointwise
  exact conv_congr _ _ _ _ (pick_before f B hB (fun r => p (ValueIdx.ix2 r (col d))) hp _ ha r _) (hp r)
    (pick_after f B hB (fun r => p (ValueIdx.ix2 r (col d))) hp _ hn r _)

/-- The fourth quarter, convolved: its row after comes from the rows after the tile, or is zero. -/
theorem conv_fourth (it : BitVec 32) (h : FVec Ideal S16x1536 .f32) (a : FVec Ideal S256x2048 .f32)
    (ha : a (ValueIdx.ix2 (255 : Fin 256) (col d)) = Proj.before f B)
    (hh : Scalar.select (IntOp.cmpi CmpIPredicate.slt it 15#32) (h (ValueIdx.ix2 (8 : Fin 16) d)) 0 = Proj.after f (B + 255)) (r : Fin 256) :
    k0_pay1 (k0_pay56 it h p) (k0_pay57 a p w) (k0_pay58 w) bi (ValueIdx.ix2 r d)
      = Proj.column f (w (ValueIdx.ix2 (0 : Fin 3) d)) (w (ValueIdx.ix2 (1 : Fin 3) d)) (w (ValueIdx.ix2 (2 : Fin 3) d)) (bi (ValueIdx.ix2 (0 : Fin 1) d)) (B + r.val) := by
  unfold k0_pay1 k0_pay56 k0_pay57 k0_pay58 k0_pay55
  pointwise
  exact conv_congr _ _ _ _ (pick_before f B hB (fun r => p (ValueIdx.ix2 r (col d))) hp _ ha r _) (hp r)
    (pick_after f B hB (fun r => p (ValueIdx.ix2 r (col d))) hp _ hh r _)

end Quarters

end Cert.Kernel3Ideal.Out

end
-- ==== Proof.Proj.Block.lean ====
/- Hand-written: each window's block at a point, read off the arguments, over the extended reals. -/
module

public import proofs.«01_k».proof.Proof.Gen.Kernel3Ideal.Frame
public import proofs.«01_k».proof.Proof.Proj.Spec
public import Idealize.ShloMosaic.Lib.StableHlo.RunRead
public import Idealize.ShloMosaic.PureOps.Ideal
public import Idealize.ShloMosaic.Lib.Pointwise

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-! ## The arguments -/

abbrev A0 (c : Dev nD) : Vec Ideal S2x16384x1024 .f32 := m ((c.tc : Thread nD τ).loc main_arg0)
abbrev A1 (c : Dev nD) : Vec Ideal S128x256 .bf16 := m ((c.tc : Thread nD τ).loc main_arg1)
abbrev A2 (c : Dev nD) : Vec Ideal S1024 .f32 := m ((c.tc : Thread nD τ).loc main_arg2)
abbrev A3 (c : Dev nD) : Vec Ideal S1024 .f32 := m ((c.tc : Thread nD τ).loc main_arg3)
abbrev A4 (c : Dev nD) : Vec Ideal S1024x2048 .f32 := m ((c.tc : Thread nD τ).loc main_arg4)
abbrev A5 (c : Dev nD) : Vec Ideal S2048 .f32 := m ((c.tc : Thread nD τ).loc main_arg5)
abbrev A6 (c : Dev nD) : Vec Ideal S3x1536 .f32 := m ((c.tc : Thread nD τ).loc main_arg6)
abbrev A7 (c : Dev nD) : Vec Ideal S1536 .f32 := m ((c.tc : Thread nD τ).loc main_arg7)

/-- The tokens' rows, numbered through the two sequences. -/
def rowOf (c : Dev nD) (n : Nat) (e : Fin 1024) : EReal :=
  A0 m c (ValueIdx.ix3 (⟨n / 16384 % 2, by omega⟩ : Fin 2) (⟨n % 16384, by omega⟩ : Fin 16384) e)

/-! ## What the host prepares: the tokens as rows, the vectors as rows, and the matrix -/

theorem flat_apply (x : Vec Ideal S2x16384x1024 .f32) (R : Fin 32768) (e : Fin 1024) :
    (shapeCast S32768x1024 x shapeCasts_S2x16384x1024_S32768x1024 : Vec Ideal S32768x1024 .f32) (ValueIdx.ix2 R e)
      = x (ValueIdx.ix3 (⟨R.val / 16384 % 2, by omega⟩ : Fin 2) (⟨R.val % 16384, by omega⟩ : Fin 16384) e) := by
  pointwise
  have hR := R.isLt
  have he := e.isLt
  refine congrArg x (funext fun a => Fin.ext ?_)
  match a with
  | ⟨0, _⟩ => show R.val / 16384 = R.val / 16384 % 2; omega
  | ⟨1, _⟩ => rfl
  | ⟨2, _⟩ => rfl
theorem row1024 (x : Vec Ideal S1024 .f32) (d : Fin 1024) : (shapeCast S1x1024 x shapeCasts_S1024_S1x1024 : Vec Ideal S1x1024 .f32) (ValueIdx.ix2 (0 : Fin 1) d) = x (ValueIdx.ix1 d) := by
  pointwise
  rfl
theorem row2048 (x : Vec Ideal S2048 .f32) (d : Fin 2048) : (shapeCast S1x2048 x shapeCasts_S2048_S1x2048 : Vec Ideal S1x2048 .f32) (ValueIdx.ix2 (0 : Fin 1) d) = x (ValueIdx.ix1 d) := by
  pointwise
  rfl
theorem row1536 (x : Vec Ideal S1536 .f32) (d : Fin 1536) : (shapeCast S1x1536 x shapeCasts_S1536_S1x1536 : Vec Ideal S1x1536 .f32) (ValueIdx.ix2 (0 : Fin 1) d) = x (ValueIdx.ix1 d) := by
  pointwise
  rfl

theorem V_v0 (c : Dev nD) : V m c main_v0 = shapeCast S32768x1024 (A0 m c) shapeCasts_S2x16384x1024_S32768x1024 := by
  unfold V; after_reads_simp; rfl
theorem V_v1 (c : Dev nD) : V m c main_v1 = shapeCast S1x1024 (A2 m c) shapeCasts_S1024_S1x1024 := by
  unfold V; after_reads_simp; rfl
theorem V_v2 (c : Dev nD) : V m c main_v2 = shapeCast S1x1024 (A3 m c) shapeCasts_S1024_S1x1024 := by
  unfold V; after_reads_simp; rfl
theorem V_v3 (c : Dev nD) : V m c main_v3 = (truncf .bf16 (A4 m c) bitsLt_bf16_f32 : FVec Ideal S1024x2048 .bf16) := by
  unfold V; after_reads_simp
theorem V_v4 (c : Dev nD) : V m c main_v4 = shapeCast S1x2048 (A5 m c) shapeCasts_S2048_S1x2048 := by
  unfold V; after_reads_simp; rfl
theorem V_v5 (c : Dev nD) : V m c main_v5 = shapeCast S1x1536 (A7 m c) shapeCasts_S1536_S1x1536 := by
  unfold V; after_reads_simp; rfl

/-! ## The blocks' places -/

theorem place0 : ∀ t : Fin grid0.N, cc0_transform_0 (grid0.coords t) 0 = t.val := by decide +kernel
theorem place1 : ∀ t : Fin grid0.N, cc0_transform_1 (grid0.coords t) 0 = t.val * 128 - 1 := by decide +kernel
theorem place2 : ∀ t : Fin grid0.N, cc0_transform_2 (grid0.coords t) 0 = min ((t.val + 1) * 128) 4095 := by decide +kernel
theorem place10 : ∀ t : Fin grid0.N, cc0_transform_10 (grid0.coords t) 0 = t.val / 16 ∧ cc0_transform_10 (grid0.coords t) 1 = t.val % 16 := by decide +kernel
theorem place11 : ∀ t : Fin grid0.N, cc0_transform_11 (grid0.coords t) 0 = t.val := by decide +kernel
theorem place12 : ∀ t : Fin grid0.N, cc0_transform_12 (grid0.coords t) 0 = t.val := by decide +kernel

/-! ## The blocks -/

/-- A row of the flattened tokens, by its number. -/
theorem V_v0_apply (c : Dev nD) (R : Fin 32768) (e : Fin 1024) : V m c main_v0 (ValueIdx.ix2 R e) = rowOf m c R.val e :=
  (congrFun (V_v0 m c) _).trans (flat_apply _ R e)

/-- A point's block of the tokens: rows `1024 t` and on. -/
theorem block0_apply (c : Dev nD) (t : Fin grid0.N) (r e : Fin 1024) : iblk m c 0 t (ValueIdx.ix2 r e) = rowOf m c (t.val * 1024 + r.val) e := by
  have ht : t.val < 32 := t.isLt
  refine Eq.trans ?_ (V_v0_apply m c (⟨t.val * 1024 + r.val, by omega⟩ : Fin 32768) e)
  refine congrArg (V m c main_v0) (funext fun a => Fin.ext ?_)
  refine (Window.rect_emb_val (cfg0.win 0) t (ValueIdx.ix2 r e) a).trans ?_
  match a with
  | ⟨0, _⟩ => exact congrArg (fun n => n * 1024 + r.val) (place0 t)
  | ⟨1, _⟩ => show 0 * 1024 + e.val = e.val; omega

/-- The last of the eight rows before a point's block, but for the first point. -/
theorem block1_apply (c : Dev nD) (t : Fin grid0.N) (h : t.val ≠ 0) (e : Fin 1024) : iblk m c 1 t (ValueIdx.ix2 (7 : Fin 8) e) = rowOf m c (t.val * 1024 - 1) e := by
  have ht : t.val < 32 := t.isLt
  refine Eq.trans ?_ (V_v0_apply m c (⟨t.val * 1024 - 1, by omega⟩ : Fin 32768) e)
  refine congrArg (V m c main_v0) (funext fun a => Fin.ext ?_)
  refine (Window.rect_emb_val (cfg0.win 1) t (ValueIdx.ix2 (7 : Fin 8) e) a).trans ?_
  match a with
  | ⟨0, _⟩ => exact (congrArg (fun n => n * 8 + 7) (place1 t)).trans (by show (t.val * 128 - 1) * 8 + 7 = t.val * 1024 - 1; omega)
  | ⟨1, _⟩ => show 0 * 1024 + e.val = e.val; omega

/-- The first of the eight rows after a point's block, but for the last point. -/
theorem block2_apply (c : Dev nD) (t : Fin grid0.N) (h : t.val ≠ 31) (e : Fin 1024) : iblk m c 2 t (ValueIdx.ix2 (0 : Fin 8) e) = rowOf m c (t.val * 1024 + 1024) e := by
  have ht : t.val < 32 := t.isLt
  refine Eq.trans ?_ (V_v0_apply m c (⟨t.val * 1024 + 1024, by omega⟩ : Fin 32768) e)
  refine congrArg (V m c main_v0) (funext fun a => Fin.ext ?_)
  refine (Window.rect_emb_val (cfg0.win 2) t (ValueIdx.ix2 (0 : Fin 8) e) a).trans ?_
  match a with
  | ⟨0, _⟩ => exact (congrArg (fun n => n * 8 + 0) (place2 t)).trans (by show min ((t.val + 1) * 128) 4095 * 8 + 0 = t.val * 1024 + 1024; omega)
  | ⟨1, _⟩ => show 0 * 1024 + e.val = e.val; omega

/-- Every point's block of a vector or a matrix is all of it. -/
theorem block3_apply (c : Dev nD) (t : Fin grid0.N) (e : Fin 1024) : iblk m c 3 t (ValueIdx.ix2 (0 : Fin 1) e) = A2 m c (ValueIdx.ix1 e) := by
  refine Eq.trans ?_ ((congrFun (V_v1 m c) _).trans (row1024 _ e))
  refine congrArg (V m c main_v1) (funext fun a => Fin.ext ?_)
  refine (Window.rect_emb_val (cfg0.win 3) t (ValueIdx.ix2 (0 : Fin 1) e) a).trans ?_
  match a with
  | ⟨0, _⟩ => rfl
  | ⟨1, _⟩ => show 0 * 1024 + e.val = e.val; omega
theorem block4_apply (c : Dev nD) (t : Fin grid0.N) (e : Fin 1024) : iblk m c 4 t (ValueIdx.ix2 (0 : Fin 1) e) = A3 m c (ValueIdx.ix1 e) := by
  refine Eq.trans ?_ ((congrFun (V_v2 m c) _).trans (row1024 _ e))
  refine congrArg (V m c main_v2) (funext fun a => Fin.ext ?_)
  refine (Window.rect_emb_val (cfg0.win 4) t (ValueIdx.ix2 (0 : Fin 1) e) a).trans ?_
  match a with
  | ⟨0, _⟩ => rfl
  | ⟨1, _⟩ => show 0 * 1024 + e.val = e.val; omega
theorem block5_apply (c : Dev nD) (t : Fin grid0.N) (e : Fin 1024) (k : Fin 2048) : iblk m c 5 t (ValueIdx.ix2 e k) = A4 m c (ValueIdx.ix2 e k) := by
  refine Eq.trans ?_ (congrFun (V_v3 m c) _)
  refine congrArg (V m c main_v3) (funext fun a => Fin.ext ?_)
  refine (Window.rect_emb_val (cfg0.win 5) t (ValueIdx.ix2 e k) a).trans ?_
  match a with
  | ⟨0, _⟩ => show 0 * 1024 + e.val = e.val; omega
  | ⟨1, _⟩ => show 0 * 2048 + k.val = k.val; omega
theorem block6_apply (c : Dev nD) (t : Fin grid0.N) (k : Fin 2048) : iblk m c 6 t (ValueIdx.ix2 (0 : Fin 1) k) = A5 m c (ValueIdx.ix1 k) := by
  refine Eq.trans ?_ ((congrFun (V_v4 m c) _).trans (row2048 _ k))
  refine congrArg (V m c main_v4) (funext fun a => Fin.ext ?_)
  refine (Window.rect_emb_val (cfg0.win 6) t (ValueIdx.ix2 (0 : Fin 1) k) a).trans ?_
  match a with
  | ⟨0, _⟩ => rfl
  | ⟨1, _⟩ => show 0 * 2048 + k.val = k.val; omega
theorem block7_apply (c : Dev nD) (t : Fin grid0.N) (e : Fin 128) (k : Fin 256) : iblk m c 7 t (ValueIdx.ix2 e k) = A1 m c (ValueIdx.ix2 e k) := by
  refine Eq.trans ?_ (congrFun (V_main_arg1 m c) _)
  refine congrArg (V m c main_arg1) (funext fun a => Fin.ext ?_)
  refine (Window.rect_emb_val (cfg0.win 7) t (ValueIdx.ix2 e k) a).trans ?_
  match a with
  | ⟨0, _⟩ => show 0 * 128 + e.val = e.val; omega
  | ⟨1, _⟩ => show 0 * 256 + k.val = k.val; omega
theorem block8_apply (c : Dev nD) (t : Fin grid0.N) (e : Fin 3) (k : Fin 1536) : iblk m c 8 t (ValueIdx.ix2 e k) = A6 m c (ValueIdx.ix2 e k) := by
  refine Eq.trans ?_ (congrFun (V_main_arg6 m c) _)
  refine congrArg (V m c main_arg6) (funext fun a => Fin.ext ?_)
  refine (Window.rect_emb_val (cfg0.win 8) t (ValueIdx.ix2 e k) a).trans ?_
  match a with
  | ⟨0, _⟩ => show 0 * 3 + e.val = e.val; omega
  | ⟨1, _⟩ => show 0 * 1536 + k.val = k.val; omega
theorem block9_apply (c : Dev nD) (t : Fin grid0.N) (k : Fin 1536) : iblk m c 9 t (ValueIdx.ix2 (0 : Fin 1) k) = A7 m c (ValueIdx.ix1 k) := by
  refine Eq.trans ?_ ((congrFun (V_v5 m c) _).trans (row1536 _ k))
  refine congrArg (V m c main_v5) (funext fun a => Fin.ext ?_)
  refine (Window.rect_emb_val (cfg0.win 9) t (ValueIdx.ix2 (0 : Fin 1) k) a).trans ?_
  match a with
  | ⟨0, _⟩ => rfl
  | ⟨1, _⟩ => show 0 * 1536 + k.val = k.val; omega

end Cert.Kernel3Ideal.Out

end
-- ==== Proof.Proj.Quarter.lean ====
/- Hand-written: the four quarters of a point's tokens, projected, and the rows before and after them, over the extended reals. -/
module

public import proofs.«01_k».proof.Proof.Proj.Payload
public import proofs.«01_k».proof.Proof.Proj.Block
public import Idealize.ShloMosaic.Lib.Pipeline.Value
public import Idealize.ShloMosaic.Lib.Pipeline.ValueKit

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-- Column k of the projection of row n. -/
def P (c : Dev nD) (k : Fin 2048) (n : Nat) : EReal :=
  Proj.proj (rowOf m c n) (fun e => A2 m c (ValueIdx.ix1 e)) (fun e => A3 m c (ValueIdx.ix1 e)) (fun e => A4 m c (ValueIdx.ix2 e k)) (A5 m c (ValueIdx.ix1 k))

/-! ## The parts of the blocks the body reads -/

theorem zeros : (![0, 0] : Fin 2 → Nat) = fun _ => 0 := by
  funext a; match a with
  | ⟨0, _⟩ => rfl
  | ⟨1, _⟩ => rfl

/-- A quarter of the tokens: the rows from its first. -/
theorem ld4 (x : Vec Ideal S1024x1024 .f32) (r : Fin 256) (e : Fin 1024) :
    View.ld x r0_4 (ValueIdx.ix2 r e) = x (ValueIdx.ix2 (⟨r.val, by have := r.isLt; omega⟩ : Fin 1024) e) :=
  View.ld_unit_apply_of x _ _ _ _ _ fun a => by
    match a with
    | ⟨0, _⟩ => show r.val = 0 + r.val; omega
    | ⟨1, _⟩ => show e.val = 0 + e.val; omega
theorem ld7 (x : Vec Ideal S1024x1024 .f32) (r : Fin 256) (e : Fin 1024) :
    View.ld x r0_7 (ValueIdx.ix2 r e) = x (ValueIdx.ix2 (⟨256 + r.val, by have := r.isLt; omega⟩ : Fin 1024) e) :=
  View.ld_unit_apply_of x _ _ _ _ _ fun a => by
    match a with
    | ⟨0, _⟩ => rfl
    | ⟨1, _⟩ => show e.val = 0 + e.val; omega
theorem ld8 (x : Vec Ideal S1024x1024 .f32) (r : Fin 256) (e : Fin 1024) :
    View.ld x r0_8 (ValueIdx.ix2 r e) = x (ValueIdx.ix2 (⟨512 + r.val, by have := r.isLt; omega⟩ : Fin 1024) e) :=
  View.ld_unit_apply_of x _ _ _ _ _ fun a => by
    match a with
    | ⟨0, _⟩ => rfl
    | ⟨1, _⟩ => show e.val = 0 + e.val; omega
theorem ld9 (x : Vec Ideal S1024x1024 .f32) (r : Fin 256) (e : Fin 1024) :
    View.ld x r0_9 (ValueIdx.ix2 r e) = x (ValueIdx.ix2 (⟨768 + r.val, by have := r.isLt; omega⟩ : Fin 1024) e) :=
  View.ld_unit_apply_of x _ _ _ _ _ fun a => by
    match a with
    | ⟨0, _⟩ => rfl
    | ⟨1, _⟩ => show e.val = 0 + e.val; omega

/-- The convolved columns of the matrix and of its bias. -/
theorem ld2 (x : Vec Ideal S1024x2048 .bf16) (e : Fin 1024) (k : Fin 1536) : View.ld x r0_2 (ValueIdx.ix2 e k) = x (ValueIdx.ix2 e (col k)) :=
  View.ld_unit_apply_of x _ _ _ _ _ fun a => by
    match a with
    | ⟨0, _⟩ => show e.val = 0 + e.val; omega
    | ⟨1, _⟩ => rfl
theorem ld3 (x : Vec Ideal S1x2048 .f32) (k : Fin 1536) : View.ld x r0_3 (ValueIdx.ix2 (0 : Fin 1) k) = x (ValueIdx.ix2 (0 : Fin 1) (col k)) :=
  View.ld_unit_apply_of x _ _ _ _ _ fun a => by
    match a with
    | ⟨0, _⟩ => rfl
    | ⟨1, _⟩ => rfl

/-- A block read whole. -/
theorem ld0 (x : Vec Ideal S8x1024 .f32) : View.ld x r0_0 = x := View.ld_unit_zero (S := S8x1024) zeros _ x
theorem ld1 (x : Vec Ideal S1x1024 .f32) : View.ld x r0_1 = x := View.ld_unit_zero (S := S1x1024) zeros _ x
theorem ld5 (x : Vec Ideal S1024x2048 .bf16) : View.ld x r0_5 = x := View.ld_unit_zero (S := S1024x2048) zeros _ x
theorem ld6 (x : Vec Ideal S1x2048 .f32) : View.ld x r0_6 = x := View.ld_unit_zero (S := S1x2048) zeros _ x
theorem ld10 (x : Vec Ideal S3x1536 .f32) : View.ld x r0_10 = x := View.ld_unit_zero (S := S3x1536) zeros _ x
theorem ld11 (x : Vec Ideal S128x256 .bf16) : View.ld x r0_11 = x := View.ld_unit_zero (S := S128x256) zeros _ x
theorem ld13 (x : Vec Ideal S1x1536 .f32) : View.ld x r0_13 = x := View.ld_unit_zero (S := S1x1536) zeros _ x

/-! ## The projections -/

/-- A projection from equal parts. -/
theorem proj_congr {x x' g g' b b' w w' : Fin 1024 → EReal} {i i' : EReal} (hx : ∀ e, x e = x' e) (hg : ∀ e, g e = g' e) (hb : ∀ e, b e = b' e)
    (hw : ∀ e, w e = w' e) (hi : i = i') : Proj.proj x g b w i = Proj.proj x' g' b' w' i' := by
  rw [funext hx, funext hg, funext hb, funext hw, hi]

section
variable (c : Dev nD) (t : Fin grid0.N) (r : Fin 256) (k : Fin 2048) (d : Fin 1536)

/-- The four quarters: 256 rows each, from the point's first row on. -/
theorem quarter1 : k0_pay60 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 r k) = P m c k (t.val * 1024 + r.val) := by
  unfold k0_pay60
  refine (first_apply _ _ _ _ _ r k).trans (proj_congr (fun e => (ld4 _ r e).trans (block0_apply m c t _ e))
    (fun e => (congrFun (ld1 _) _).trans (block3_apply m c t e)) (fun e => (congrFun (ld1 _) _).trans (block4_apply m c t e))
    (fun e => (congrFun (ld5 _) _).trans (block5_apply m c t e k)) ((congrFun (ld6 _) _).trans (block6_apply m c t k)))
theorem quarter2 : k0_pay61 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 r k) = P m c k (t.val * 1024 + (256 + r.val)) := by
  unfold k0_pay61
  refine (second_apply _ _ _ _ _ r k).trans (proj_congr (fun e => (ld7 _ r e).trans (block0_apply m c t _ e))
    (fun e => (congrFun (ld1 _) _).trans (block3_apply m c t e)) (fun e => (congrFun (ld1 _) _).trans (block4_apply m c t e))
    (fun e => (congrFun (ld5 _) _).trans (block5_apply m c t e k)) ((congrFun (ld6 _) _).trans (block6_apply m c t k)))
theorem quarter3 : k0_pay62 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 r k) = P m c k (t.val * 1024 + (512 + r.val)) := by
  unfold k0_pay62
  refine (third_apply _ _ _ _ _ r k).trans (proj_congr (fun e => (ld8 _ r e).trans (block0_apply m c t _ e))
    (fun e => (congrFun (ld1 _) _).trans (block3_apply m c t e)) (fun e => (congrFun (ld1 _) _).trans (block4_apply m c t e))
    (fun e => (congrFun (ld5 _) _).trans (block5_apply m c t e k)) ((congrFun (ld6 _) _).trans (block6_apply m c t k)))
theorem quarter4 : k0_pay63 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 r k) = P m c k (t.val * 1024 + (768 + r.val)) := by
  unfold k0_pay63
  refine (fourth_apply _ _ _ _ _ r k).trans (proj_congr (fun e => (ld9 _ r e).trans (block0_apply m c t _ e))
    (fun e => (congrFun (ld1 _) _).trans (block3_apply m c t e)) (fun e => (congrFun (ld1 _) _).trans (block4_apply m c t e))
    (fun e => (congrFun (ld5 _) _).trans (block5_apply m c t e k)) ((congrFun (ld6 _) _).trans (block6_apply m c t k)))

/-- The row before the point's, projected, but for the first point. -/
theorem edge7 (h : t.val ≠ 0) : k0_pay59 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 (7 : Fin 16) d) = P m c (col d) (t.val * 1024 - 1) := by
  unfold k0_pay59
  refine (edgeBefore_apply _ _ _ _ _ _ d).trans (proj_congr (fun e => (congrFun (ld0 _) _).trans (block1_apply m c t h e))
    (fun e => (congrFun (ld1 _) _).trans (block3_apply m c t e)) (fun e => (congrFun (ld1 _) _).trans (block4_apply m c t e))
    (fun e => (ld2 _ e d).trans (block5_apply m c t e (col d))) ((ld3 _ d).trans (block6_apply m c t (col d))))
/-- The row after the point's, projected, but for the last point. -/
theorem edge8 (h : t.val ≠ 31) : k0_pay59 (grid0.coords t) (iblk m c 0 t) (iblk m c 1 t) (iblk m c 2 t) (iblk m c 3 t) (iblk m c 4 t) (iblk m c 5 t) (iblk m c 6 t)
    (iblk m c 7 t) (iblk m c 8 t) (iblk m c 9 t) (ValueIdx.ix2 (8 : Fin 16) d) = P m c (col d) (t.val * 1024 + 1024) := by
  unfold k0_pay59
  refine (edgeAfter_apply _ _ _ _ _ _ d).trans (proj_congr (fun e => (congrFun (ld0 _) _).trans (block2_apply m c t h e))
    (fun e => (congrFun (ld1 _) _).trans (block3_apply m c t e)) (fun e => (congrFun (ld1 _) _).trans (block4_apply m c t e))
    (fun e => (ld2 _ e d).trans (block5_apply m c t e (col d))) ((ld3 _ d).trans (block6_apply m c t (col d))))

end

/-- A point's number within its sequence, as the body computes it. -/
abbrev within (i : grid0.Coords) : BitVec 32 :=
  Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))

theorem first_in_sequence : ∀ t : Fin grid0.N, IntOp.cmpi CmpIPredicate.sgt (within (grid0.coords t)) 0#32 = if t.val % 16 = 0 then 0#1 else 1#1 := by decide +kernel
theorem last_in_sequence : ∀ t : Fin grid0.N, IntOp.cmpi CmpIPredicate.slt (within (grid0.coords t)) 15#32 = if t.val % 16 = 15 then 0#1 else 1#1 := by decide +kernel

/-- The row before the point's, or zero at a sequence's start. -/
theorem edge_before (c : Dev nD) (t : Fin grid0.N) (d : Fin 1536) :
    Scalar.select (IntOp.cmpi CmpIPredicate.sgt (within (grid0.coords t)) 0#32) (k0_pay59 (grid0.coords t) (iblk m c 0 t) (iblk m c 1 t) (iblk m c 2 t) (iblk m c 3 t)
      (iblk m c 4 t) (iblk m c 5 t) (iblk m c 6 t) (iblk m c 7 t) (iblk m c 8 t) (iblk m c 9 t) (ValueIdx.ix2 (7 : Fin 16) d)) 0
      = Proj.before (P m c (col d)) (t.val * 1024) := by
  rw [first_in_sequence, Proj.before]
  by_cases h : t.val % 16 = 0
  · rw [if_pos h, if_pos (by omega)]; rfl
  · rw [if_neg h, if_neg (by omega)]; exact edge7 m c t d (by omega)

/-- The row after the point's, or zero at a sequence's end. -/
theorem edge_after (c : Dev nD) (t : Fin grid0.N) (d : Fin 1536) :
    Scalar.select (IntOp.cmpi CmpIPredicate.slt (within (grid0.coords t)) 15#32) (k0_pay59 (grid0.coords t) (iblk m c 0 t) (iblk m c 1 t) (iblk m c 2 t) (iblk m c 3 t)
      (iblk m c 4 t) (iblk m c 5 t) (iblk m c 6 t) (iblk m c 7 t) (iblk m c 8 t) (iblk m c 9 t) (ValueIdx.ix2 (8 : Fin 16) d)) 0
      = Proj.after (P m c (col d)) (t.val * 1024 + 768 + 255) := by
  rw [last_in_sequence, Proj.after]
  by_cases h : t.val % 16 = 15
  · rw [if_pos h, if_pos (by omega)]; rfl
  · rw [if_neg h, if_neg (by omega)]; exact edge8 m c t d (by omega)

end Cert.Kernel3Ideal.Out

end
-- ==== Proof.Proj.Conv.lean ====
/- Hand-written: the short convolution over a point's tokens, quarter by quarter, over the extended reals. -/
module

public import proofs.«01_k».proof.Proof.Proj.Quarter

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-- Column d of the convolved projections, at row n. -/
def U (c : Dev nD) (d : Fin 1536) (n : Nat) : EReal :=
  Proj.column (P m c (col d)) (A6 m c (ValueIdx.ix2 (0 : Fin 3) d)) (A6 m c (ValueIdx.ix2 (1 : Fin 3) d)) (A6 m c (ValueIdx.ix2 (2 : Fin 3) d)) (A7 m c (ValueIdx.ix1 d)) n

/-- The column with the filter and bias a point reads. -/
theorem column_read (c : Dev nD) (t : Fin grid0.N) (d : Fin 1536) (n n' : Nat) (h : n = n') :
    Proj.column (P m c (col d)) (View.ld (iblk m c 8 t) r0_10 (ValueIdx.ix2 (0 : Fin 3) d)) (View.ld (iblk m c 8 t) r0_10 (ValueIdx.ix2 (1 : Fin 3) d))
      (View.ld (iblk m c 8 t) r0_10 (ValueIdx.ix2 (2 : Fin 3) d)) (View.ld (iblk m c 9 t) r0_13 (ValueIdx.ix2 (0 : Fin 1) d)) n = U m c d n' := by
  subst h
  unfold U
  rw [(congrFun (ld10 _) _).trans (block8_apply m c t 0 d), (congrFun (ld10 _) _).trans (block8_apply m c t 1 d),
    (congrFun (ld10 _) _).trans (block8_apply m c t 2 d), (congrFun (ld13 _) _).trans (block9_apply m c t d)]

/-- Within a sequence, the row before n is n - 1 and the row after it n + 1. -/
theorem before_inside (f : Nat → EReal) (n : Nat) (h : n % 16384 ≠ 0) : Proj.before f n = f (n - 1) := if_neg h
theorem after_inside (f : Nat → EReal) (n : Nat) (h : n % 16384 ≠ 16383) : Proj.after f n = f (n + 1) := if_neg h

section
variable (c : Dev nD) (t : Fin grid0.N) (r : Fin 256) (d : Fin 1536)

/-- The four quarters of a point, convolved: column d of rows 256 each, from the point's first row on. -/
theorem conv1 : k0_pay27 (k0_pay64 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay65 (grid0.coords t) (iblk m c 0 t) (iblk m c 1 t) (iblk m c 2 t) (iblk m c 3 t) (iblk m c 4 t) (iblk m c 5 t) (iblk m c 6 t) (iblk m c 7 t) (iblk m c 8 t) (iblk m c 9 t))
      (View.ld (iblk m c 9 t) r0_13) (ValueIdx.ix2 r d) = U m c d (t.val * 1024 + r.val) :=
  (conv_first (P m c (col d)) (t.val * 1024) (by omega) _ _ d _ (fun r => quarter1 m c t r (col d)) (within (grid0.coords t)) _ _ (edge_before m c t d)
    ((quarter2 m c t 0 (col d)).trans (((after_inside _ _ (by omega)).trans (congrArg _ (by show _ = t.val * 1024 + (256 + 0); omega))).symm)) r).trans
    (column_read m c t d _ _ rfl)
theorem conv2 : k0_pay38 (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay62 (grid0.coords t) (iblk m c 0 t) (iblk m c 1 t) (iblk m c 2 t) (iblk m c 3 t) (iblk m c 4 t) (iblk m c 5 t) (iblk m c 6 t) (iblk m c 7 t) (iblk m c 8 t) (iblk m c 9 t))
      (View.ld (iblk m c 8 t) r0_10) (View.ld (iblk m c 9 t) r0_13) (ValueIdx.ix2 r d) = U m c d (t.val * 1024 + (256 + r.val)) :=
  (conv_second (P m c (col d)) (t.val * 1024 + 256) (by omega) _ _ d _ (fun r => (quarter2 m c t r (col d)).trans (congrArg _ (by omega))) _ _
    ((quarter1 m c t 255 (col d)).trans (((before_inside _ _ (by omega)).trans (congrArg _ (by show _ = t.val * 1024 + 255; omega))).symm))
    ((quarter3 m c t 0 (col d)).trans (((after_inside _ _ (by omega)).trans (congrArg _ (by show _ = t.val * 1024 + (512 + 0); omega))).symm)) r).trans
    (column_read m c t d _ _ (by omega))
theorem conv3 : k0_pay46 (View.ld (iblk m c 8 t) r0_10)
      (k0_pay67 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay68 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay66 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay69 (grid0.coords t) (iblk m c 0 t) (iblk m c 1 t) (iblk m c 2 t) (iblk m c 3 t) (iblk m c 4 t) (iblk m c 5 t) (iblk m c 6 t) (iblk m c 7 t) (iblk m c 8 t) (iblk m c 9 t))
      (View.ld (iblk m c 9 t) r0_13) (ValueIdx.ix2 r d) = U m c d (t.val * 1024 + (512 + r.val)) :=
  (conv_third (P m c (col d)) (t.val * 1024 + 512) (by omega) _ _ d _ (fun r => (quarter3 m c t r (col d)).trans (congrArg _ (by omega))) _ _
    ((quarter2 m c t 255 (col d)).trans (((before_inside _ _ (by omega)).trans (congrArg _ (by show _ = t.val * 1024 + (256 + 255); omega))).symm))
    ((quarter4 m c t 0 (col d)).trans (((after_inside _ _ (by omega)).trans (congrArg _ (by show _ = t.val * 1024 + (768 + 0); omega))).symm)) r).trans
    (column_read m c t d _ _ (by omega))
theorem conv4 : k0_pay1
      (k0_pay70 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay71 (grid0.coords t) (iblk m c 0 t) (iblk m c 1 t) (iblk m c 2 t) (iblk m c 3 t) (iblk m c 4 t) (iblk m c 5 t) (iblk m c 6 t) (iblk m c 7 t) (iblk m c 8 t) (iblk m c 9 t))
      (k0_pay72 (grid0.coords t) (iblk m c 0 t) (iblk m c 1 t) (iblk m c 2 t) (iblk m c 3 t) (iblk m c 4 t) (iblk m c 5 t) (iblk m c 6 t) (iblk m c 7 t) (iblk m c 8 t) (iblk m c 9 t))
      (View.ld (iblk m c 9 t) r0_13) (ValueIdx.ix2 r d) = U m c d (t.val * 1024 + (768 + r.val)) :=
  (conv_fourth (P m c (col d)) (t.val * 1024 + 768) (by omega) _ _ d _ (fun r => (quarter4 m c t r (col d)).trans (congrArg _ (by omega))) (within (grid0.coords t)) _ _
    ((quarter3 m c t 255 (col d)).trans (((before_inside _ _ (by omega)).trans (congrArg _ (by show _ = t.val * 1024 + (512 + 255); omega))).symm))
    (edge_after m c t d) r).trans
    (column_read m c t d _ _ (by omega))

end

end Cert.Kernel3Ideal.Out

end
-- ==== Proof.Proj.Out.lean ====
/- Hand-written: what the kernel's two convolved output arrays hold after the run, over the extended reals. -/
module

public import proofs.«01_k».proof.Proof.Proj.Conv
public import Idealize.ShloMosaic.Lib.IdealHost

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-- The first, the second and the third 512 of the convolved columns. -/
def lowCol (d : Fin 512) : Fin 1536 := ⟨d.val, by have := d.isLt; omega⟩
def midCol (d : Fin 512) : Fin 1536 := ⟨512 + d.val, by have := d.isLt; omega⟩
def topCol (d : Fin 512) : Fin 1536 := ⟨1024 + d.val, by have := d.isLt; omega⟩

/-- What the run leaves in the two arrays: the first 512 columns, and the third times the second. -/
def outX (c : Dev nD) : Vec Ideal S32768x512 .f32 := fun i => U m c (lowCol (i 1)) (i 0).val
def outW (c : Dev nD) : Vec Ideal S32768x512 .f32 := fun i => U m c (topCol (i 1)) (i 0).val * U m c (midCol (i 1)) (i 0).val

/-! ## The slices of a quarter -/

/-- Its first columns, at an index. -/
theorem low_apply (x : FVec Ideal S256x1536 .f32) (h : S256x1536.Slices ![0, 0] S256x512) (r : Fin 256) (d : Fin 512) :
    extractStridedSlice S256x512 ![0, 0] x h (ValueIdx.ix2 r d) = x (ValueIdx.ix2 r (lowCol d)) := by
  pointwise
  rfl
/-- Its third columns times its second, at an index. -/
theorem prod_apply (x : FVec Ideal S256x1536 .f32) (h : S256x1536.Slices ![0, 1024] S256x512) (h' : S256x1536.Slices ![0, 512] S256x512) (r : Fin 256) (d : Fin 512) :
    mulf (extractStridedSlice S256x512 ![0, 1024] x h) (extractStridedSlice S256x512 ![0, 512] x h') (ValueIdx.ix2 r d)
      = x (ValueIdx.ix2 r (topCol d)) * x (ValueIdx.ix2 r (midCol d)) := by
  pointwise
  rfl

theorem at_pair (x : S256x512.Idx) : x = ValueIdx.ix2 (x 0 : Fin 256) (x 1 : Fin 512) := by
  funext a; match a with
  | ⟨0, _⟩ => rfl
  | ⟨1, _⟩ => rfl

/-- Rows of a quarter, within a block of 1024 rows. -/
theorem rows_emb (o : Nat) (h : ∀ a, (![o, 0] : Fin 2 → Nat) a + S256x512.size a ≤ S1024x512.size a) (x : S256x512.Idx) :
    ((Rect.unit (s := S1024x512) ![o, 0] S256x512.size h).emb x 0).val = o + (x 0).val ∧
      ((Rect.unit (s := S1024x512) ![o, 0] S256x512.size h).emb x 1) = x 1 := by
  constructor
  · show o + 1 * (x 0).val = o + (x 0).val; omega
  · exact Fin.ext (by show 0 + 1 * (x 1).val = (x 1).val; omega)

/-- The two values of a block at a row and a column. -/
def blockX (c : Dev nD) (t : Fin grid0.N) : Vec Ideal S1024x512 .f32 := fun y => U m c (lowCol (y 1)) (t.val * 1024 + (y 0).val)
def blockW (c : Dev nD) (t : Fin grid0.N) : Vec Ideal S1024x512 .f32 := fun y =>
  U m c (topCol (y 1)) (t.val * 1024 + (y 0).val) * U m c (midCol (y 1)) (t.val * 1024 + (y 0).val)

theorem quarterX (c : Dev nD) (t : Fin grid0.N) (o : Nat) (h) (v : FVec Ideal S256x1536 .f32) (hs : S256x1536.Slices ![0, 0] S256x512)
    (hv : ∀ (r : Fin 256) (d : Fin 1536), v (ValueIdx.ix2 r d) = U m c d (t.val * 1024 + (o + r.val))) (x : S256x512.Idx) :
    extractStridedSlice S256x512 ![0, 0] v hs x = blockX m c t ((Rect.unit (s := S1024x512) ![o, 0] S256x512.size h).emb x) := by
  refine (congrArg _ (at_pair x)).trans ((low_apply v hs (x 0) (x 1)).trans ((hv _ _).trans ?_))
  exact congrArg₂ (fun d n => U m c (lowCol d) (t.val * 1024 + n)) (rows_emb o h x).2.symm (rows_emb o h x).1.symm
theorem quarterW (c : Dev nD) (t : Fin grid0.N) (o : Nat) (h) (v : FVec Ideal S256x1536 .f32) (hs : S256x1536.Slices ![0, 1024] S256x512)
    (hs' : S256x1536.Slices ![0, 512] S256x512)
    (hv : ∀ (r : Fin 256) (d : Fin 1536), v (ValueIdx.ix2 r d) = U m c d (t.val * 1024 + (o + r.val))) (x : S256x512.Idx) :
    mulf (extractStridedSlice S256x512 ![0, 1024] v hs) (extractStridedSlice S256x512 ![0, 512] v hs') x
      = blockW m c t ((Rect.unit (s := S1024x512) ![o, 0] S256x512.size h).emb x) := by
  refine (congrArg _ (at_pair x)).trans ((prod_apply v hs hs' (x 0) (x 1)).trans ((congrArg₂ (· * ·) (hv _ _) (hv _ _)).trans ?_))
  exact congrArg₂ (fun d n => U m c (topCol d) (t.val * 1024 + n) * U m c (midCol d) (t.val * 1024 + n)) (rows_emb o h x).2.symm (rows_emb o h x).1.symm

/-- The first quarter starts at the block's first row. -/
theorem from_zero (c : Dev nD) (t : Fin grid0.N) (r : Fin 256) (d : Fin 1536) : U m c d (t.val * 1024 + r.val) = U m c d (t.val * 1024 + (0 + r.val)) := by
  rw [Nat.zero_add]

/-- The blocks a point leaves. -/
theorem block11_apply (c : Dev nD) (t : Fin grid0.N) (y : S1024x512.Idx) : (dats m 0 c).after 11 t y = blockX m c t y := by
  refine (congrFun (after0_11 m c t) _).trans ?_
  unfold out0_11
  refine View.canon_apply_of_pieces (Val := Elt Ideal) (blockX m c t) _ ?_ y (cover0_11 _ _ _ _ y)
  intro p hp x
  simp only [List.mem_cons, List.not_mem_nil, or_false] at hp
  rcases hp with rfl | rfl | rfl | rfl
  · exact quarterX m c t 768 inb_S1024x512_S256x512_768_0 _ slices_S256x1536_o0_0_S256x512 (conv4 m c t) x
  · exact quarterX m c t 512 inb_S1024x512_S256x512_512_0 _ slices_S256x1536_o0_0_S256x512 (conv3 m c t) x
  · exact quarterX m c t 256 inb_S1024x512_S256x512_256_0 _ slices_S256x1536_o0_0_S256x512 (conv2 m c t) x
  · exact quarterX m c t 0 inb_S1024x512_S256x512_0_0 _ slices_S256x1536_o0_0_S256x512 (fun r d => (conv1 m c t r d).trans (from_zero m c t r d)) x
theorem block12_apply (c : Dev nD) (t : Fin grid0.N) (y : S1024x512.Idx) : (dats m 0 c).after 12 t y = blockW m c t y := by
  refine (congrFun (after0_12 m c t) _).trans ?_
  unfold out0_12
  refine View.canon_apply_of_pieces (Val := Elt Ideal) (blockW m c t) _ ?_ y (cover0_12 _ _ _ _ y)
  intro p hp x
  simp only [List.mem_cons, List.not_mem_nil, or_false] at hp
  rcases hp with rfl | rfl | rfl | rfl
  · exact quarterW m c t 768 inb_S1024x512_S256x512_768_0 _ slices_S256x1536_o0_1024_S256x512 slices_S256x1536_o0_512_S256x512 (conv4 m c t) x
  · exact quarterW m c t 512 inb_S1024x512_S256x512_512_0 _ slices_S256x1536_o0_1024_S256x512 slices_S256x1536_o0_512_S256x512 (conv3 m c t) x
  · exact quarterW m c t 256 inb_S1024x512_S256x512_256_0 _ slices_S256x1536_o0_1024_S256x512 slices_S256x1536_o0_512_S256x512 (conv2 m c t) x
  · exact quarterW m c t 0 inb_S1024x512_S256x512_0_0 _ slices_S256x1536_o0_1024_S256x512 slices_S256x1536_o0_512_S256x512 (fun r d => (conv1 m c t r d).trans (from_zero m c t r d)) x

/-- Every point writes its blocks back. -/
theorem flushed11 (t : Fin grid0.N) : (cfg0.win 11).flush t = true := by
  have h : ∀ t : Fin grid0.N, Window.flushOf grid0 true (fun i => ![(BitVec.ofNat 32 (i 0).val).toNat, 0]) t = true := by decide +kernel
  exact h t
theorem flushed12 (t : Fin grid0.N) : (cfg0.win 12).flush t = true := by
  have h : ∀ t : Fin grid0.N, Window.flushOf grid0 true (fun i => ![(BitVec.ofNat 32 (i 0).val).toNat, 0]) t = true := by decide +kernel
  exact h t

/-- Where the output blocks of a point lie in the arrays. -/
def emb11 (t : Fin grid0.N) (y : S1024x512.Idx) : S32768x512.Idx := ((cfg0.win 11).blk t).view.emb y
def emb12 (t : Fin grid0.N) (y : S1024x512.Idx) : S32768x512.Idx := ((cfg0.win 12).blk t).view.emb y

theorem emb11_val (t : Fin grid0.N) (y : S1024x512.Idx) : (emb11 t y 0).val = t.val * 1024 + (y 0).val ∧ emb11 t y 1 = y 1 :=
  ⟨(Window.rect_emb_val (cfg0.win 11) t y 0).trans (congrArg (fun n => n * 1024 + (y 0).val) (place11 t)),
    Fin.ext ((Window.rect_emb_val (cfg0.win 11) t y 1).trans (by show 0 * 512 + (y 1).val = (y 1).val; omega))⟩
theorem emb12_val (t : Fin grid0.N) (y : S1024x512.Idx) : (emb12 t y 0).val = t.val * 1024 + (y 0).val ∧ emb12 t y 1 = y 1 :=
  ⟨(Window.rect_emb_val (cfg0.win 12) t y 0).trans (congrArg (fun n => n * 1024 + (y 0).val) (place12 t)),
    Fin.ext ((Window.rect_emb_val (cfg0.win 12) t y 1).trans (by show 0 * 512 + (y 1).val = (y 1).val; omega))⟩

/-- The blocks a point leaves are the arrays', where they lie. -/
theorem block11_emb (c : Dev nD) (t : Fin grid0.N) (y : S1024x512.Idx) : (dats m 0 c).after 11 t y = outX m c (emb11 t y) := by
  refine (block11_apply m c t y).trans ?_
  exact congrArg₂ (fun d n => U m c (lowCol d) n) (emb11_val t y).2.symm (emb11_val t y).1.symm
theorem block12_emb (c : Dev nD) (t : Fin grid0.N) (y : S1024x512.Idx) : (dats m 0 c).after 12 t y = outW m c (emb12 t y) := by
  refine (block12_apply m c t y).trans ?_
  exact congrArg₂ (fun d n => U m c (topCol d) n * U m c (midCol d) n) (emb12_val t y).2.symm (emb12_val t y).1.symm

/-- Every place of the arrays lies in some point's block: the row's point, and its place within the block. -/
def pointOf (i : S32768x512.Idx) : Fin grid0.N := (⟨(i 0).val / 1024, by have : (i 0).val < 32768 := (i 0).isLt; omega⟩ : Fin 32)
def placeIn (i : S32768x512.Idx) : S1024x512.Idx := ValueIdx.ix2 (⟨(i 0).val % 1024, by omega⟩ : Fin 1024) (i 1 : Fin 512)
theorem cover11 (i : S32768x512.Idx) : ∃ (t : Fin grid0.N) (y : S1024x512.Idx), emb11 t y = i := by
  refine ⟨pointOf i, placeIn i, ?_⟩
  funext a
  match a with
  | ⟨0, _⟩ => exact Fin.ext ((emb11_val _ _).1.trans (by show (i 0).val / 1024 * 1024 + (i 0).val % 1024 = (i 0).val; omega))
  | ⟨1, _⟩ => exact (emb11_val _ _).2
theorem cover12 (i : S32768x512.Idx) : ∃ (t : Fin grid0.N) (y : S1024x512.Idx), emb12 t y = i := by
  refine ⟨pointOf i, placeIn i, ?_⟩
  funext a
  match a with
  | ⟨0, _⟩ => exact Fin.ext ((emb12_val _ _).1.trans (by show (i 0).val / 1024 * 1024 + (i 0).val % 1024 = (i 0).val; omega))
  | ⟨1, _⟩ => exact (emb12_val _ _).2

/-- The arrays the run leaves. -/
theorem arr_11 (c : Dev nD) : (dats m 0 c).arrAt 11 cfg0.N = outX m c :=
  (dats m 0 c).arrAt_eq_of_emb 11 (outX m c) (fun t _ y => block11_emb m c t y) fun i =>
    let ⟨t, y, e⟩ := cover11 i
    ⟨t, flushed11 t, e ▸ View.emb_mem_set _ y⟩
theorem arr_12 (c : Dev nD) : (dats m 0 c).arrAt 12 cfg0.N = outW m c :=
  (dats m 0 c).arrAt_eq_of_emb 12 (outW m c) (fun t _ y => block12_emb m c t y) fun i =>
    let ⟨t, y, e⟩ := cover12 i
    ⟨t, flushed12 t, e ▸ View.emb_mem_set _ y⟩

end Cert.Kernel3Ideal.Out

end
-- ==== Proof.Proj.Pairs.lean ====
/- Hand-written: the pairs of values a quarter packs, at an index, over the extended reals. -/
module

public import proofs.«01_k».proof.Proof.Proj.Out

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

/-- Two families of rows interleaved: the even rows are the first's, the odd rows the second's. -/
theorem interleave_apply (lo hi : FVec Ideal S256x512 .bf16) (q : Fin 512) (d : Fin 512) :
    interleaveRows S1x512x512 (shapeCast S1x256x512 lo shapeCasts_S256x512_S1x256x512) (shapeCast S1x256x512 hi shapeCasts_S256x512_S1x256x512)
        bitcasts_S1x512x512_w16_S1x256x512_w32 (ValueIdx.ix3 (0 : Fin 1) q d)
      = if q.val % 2 = 0 then lo (ValueIdx.ix2 (⟨q.val / 2, by have := q.isLt; omega⟩ : Fin 256) d) else hi (ValueIdx.ix2 (⟨q.val / 2, by have := q.isLt; omega⟩ : Fin 256) d) := by
  pointwise
  rfl

/-- Four groups of 128 columns side by side, each a part of one row of 512. -/
theorem beside_apply (a b c d : FVec Ideal S256x128 .f32) (r : Fin 256) (F : Fin 512 → EReal)
    (ha : ∀ j : Fin 128, a (ValueIdx.ix2 r j) = F ⟨0 + j.val, by have := j.isLt; omega⟩) (hb : ∀ j : Fin 128, b (ValueIdx.ix2 r j) = F ⟨128 + j.val, by have := j.isLt; omega⟩)
    (hc : ∀ j : Fin 128, c (ValueIdx.ix2 r j) = F ⟨256 + j.val, by have := j.isLt; omega⟩) (hd : ∀ j : Fin 128, d (ValueIdx.ix2 r j) = F ⟨384 + j.val, by have := j.isLt; omega⟩)
    (k : Fin 512) :
    concatenate S256x512 1 [⟨S256x128, a⟩, ⟨S256x128, b⟩, ⟨S256x128, c⟩, ⟨S256x128, d⟩] concatenates_S256x128_S256x128_S256x128_S256x128_S256x512_d1 (ValueIdx.ix2 r k)
      = F k := by
  pointwise
  have hk := k.isLt
  show (if h : k.val < 128 then a (ValueIdx.ix2 r ⟨k.val, h⟩) else if h' : k.val - 128 < 128 then b (ValueIdx.ix2 r ⟨k.val - 128, h'⟩)
    else if h'' : k.val - 128 - 128 < 128 then c (ValueIdx.ix2 r ⟨k.val - 128 - 128, h''⟩) else d (ValueIdx.ix2 r ⟨k.val - 128 - 128 - 128, by omega⟩)) = F k
  split_ifs with h h' h''
  · rw [ha]; exact congrArg F (Fin.ext (by show 0 + k.val = k.val; omega))
  · rw [hb]; exact congrArg F (Fin.ext (by show 128 + (k.val - 128) = k.val; omega))
  · rw [hc]; exact congrArg F (Fin.ext (by show 256 + (k.val - 128 - 128) = k.val; omega))
  · rw [hd]; exact congrArg F (Fin.ext (by show 384 + (k.val - 128 - 128 - 128) = k.val; omega))

/-- One group's 128 columns times half the block's columns. -/
theorem group_apply (o h : Nat) (p : FVec Ideal S256x512 .bf16) (bd : FVec Ideal S128x256 .bf16) (hs : S256x512.Slices ![0, o] S256x128) (ht : S256x256.Slices ![0, h] S256x128)
    (ho : o + 128 ≤ 512) (hh : h + 128 ≤ 256) (r : Fin 256) (k : Fin 128) :
    extractStridedSlice S256x128 ![0, h] (matmul dot_S256x128_S128x256_S256x256_1_0_0_1_n_n none (extractStridedSlice S256x128 ![0, o] p hs) bd (constant S256x256 .f32 0x00000000#32)) ht (ValueIdx.ix2 r k)
      = ∑ e : Fin 128, p (ValueIdx.ix2 r (⟨o + e.val, by have := e.isLt; omega⟩ : Fin 512)) * bd (ValueIdx.ix2 e (⟨h + k.val, by have := k.isLt; omega⟩ : Fin 256)) := by
  pointwise
  rfl

/-- The same, as a part of the row's transform. -/
theorem group_wave (o h q : Nat) (p : FVec Ideal S256x512 .bf16) (bd : FVec Ideal S128x256 .bf16) (hs : S256x512.Slices ![0, o] S256x128) (ht : S256x256.Slices ![0, h] S256x128)
    (ho : o + 128 ≤ 512) (ho' : o % 128 = 0) (hq : q % 2 * 128 = h) (r : Fin 256) (k : Fin 128) :
    extractStridedSlice S256x128 ![0, h] (matmul dot_S256x128_S128x256_S256x256_1_0_0_1_n_n none (extractStridedSlice S256x128 ![0, o] p hs) bd (constant S256x256 .f32 0x00000000#32)) ht (ValueIdx.ix2 r k)
      = Proj.wave (fun k => p (ValueIdx.ix2 r k)) (fun e k => bd (ValueIdx.ix2 e k)) q ⟨o + k.val, by have := k.isLt; omega⟩ := by
  have hk := k.isLt
  refine (group_apply o h p bd hs ht ho (by omega) r k).trans (Finset.sum_congr rfl fun e _ => ?_)
  refine congrArg₂ (· * ·) (congrArg (fun x => p (ValueIdx.ix2 r x)) (Fin.ext ?_)) (congrArg (fun x => bd (ValueIdx.ix2 e x)) (Fin.ext ?_))
  · show o + e.val = (o + k.val) / 128 * 128 + e.val; omega
  · show h + k.val = q % 2 * 128 + (o + k.val) % 128; omega

/-- What a quarter stores, at an index: the transform of its projected row. -/
theorem packed_apply (p : FVec Ideal S256x2048 .f32) (bd : FVec Ideal S128x256 .bf16) (q : Fin 512) (d : Fin 512) :
    k0_pay42 (k0_pay41 p) bd bd bd bd (ValueIdx.ix3 (0 : Fin 1) q d)
      = Proj.wave (fun k => p (ValueIdx.ix2 (⟨q.val / 2, by have := q.isLt; omega⟩ : Fin 256) (⟨k.val, by have := k.isLt; omega⟩ : Fin 2048))) (fun e k => bd (ValueIdx.ix2 e k)) q.val d := by
  have hp : (fun k : Fin 512 => k0_pay41 p (ValueIdx.ix2 (⟨q.val / 2, by have := q.isLt; omega⟩ : Fin 256) k))
      = fun k => p (ValueIdx.ix2 (⟨q.val / 2, by have := q.isLt; omega⟩ : Fin 256) (⟨k.val, by have := k.isLt; omega⟩ : Fin 2048)) := funext fun k => by
    unfold k0_pay41
    pointwise
    rfl
  rw [← hp]
  unfold k0_pay42
  refine (interleave_apply _ _ q d).trans ?_
  by_cases h : q.val % 2 = 0
  · rw [if_pos h]
    exact beside_apply _ _ _ _ _ _ (group_wave 0 0 q.val _ _ _ _ (by omega) (by omega) (by omega) _) (group_wave 128 0 q.val _ _ _ _ (by omega) (by omega) (by omega) _)
      (group_wave 256 0 q.val _ _ _ _ (by omega) (by omega) (by omega) _) (group_wave 384 0 q.val _ _ _ _ (by omega) (by omega) (by omega) _) d
  · rw [if_neg h]
    exact beside_apply _ _ _ _ _ _ (group_wave 0 128 q.val _ _ _ _ (by omega) (by omega) (by omega) _) (group_wave 128 128 q.val _ _ _ _ (by omega) (by omega) (by omega) _)
      (group_wave 256 128 q.val _ _ _ _ (by omega) (by omega) (by omega) _) (group_wave 384 128 q.val _ _ _ _ (by omega) (by omega) (by omega) _) d

/-- The other three quarters store the same of their rows, in a different order of writing. -/
theorem packed_first (p : FVec Ideal S256x2048 .f32) (bd : FVec Ideal S128x256 .bf16) :
    k0_pay23 (k0_pay19 p bd) (k0_pay20 p bd) (k0_pay21 p bd) (k0_pay22 p) bd (constant S256x256 .f32 0x00000000#32) = k0_pay42 (k0_pay41 p) bd bd bd bd := rfl
theorem packed_second (p : FVec Ideal S256x2048 .f32) (bd : FVec Ideal S128x256 .bf16) :
    k0_pay37 (k0_pay35 p bd bd bd bd) (k0_pay36 p bd bd bd bd) = k0_pay42 (k0_pay41 p) bd bd bd bd := rfl
theorem packed_fourth (p : FVec Ideal S256x2048 .f32) (bd : FVec Ideal S128x256 .bf16) :
    k0_pay54 (k0_pay50 p bd) (k0_pay51 p bd) (k0_pay52 p bd) (k0_pay53 p) bd = k0_pay42 (k0_pay41 p) bd bd bd bd := rfl

end Cert.Kernel3Ideal.Out

end
-- ==== Proof.Proj.OutPairs.lean ====
/- Hand-written: what the kernel's array of packed pairs holds after the run, over the extended reals. -/
module

public import proofs.«01_k».proof.Proof.Proj.Pairs

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-- Column d of the transform of the projected row n, its cosine part at an even q and its sine part at an odd one. -/
def Z (c : Dev nD) (n q : Nat) (d : Fin 512) : EReal :=
  Proj.wave (fun k => P m c (⟨k.val, by have := k.isLt; omega⟩ : Fin 2048) n) (fun e k => A1 m c (ValueIdx.ix2 e k)) q d

/-- It depends on q through its parity. -/
theorem Z_parity (c : Dev nD) {n n' q q' : Nat} {d d' : Fin 512} (hn : n = n') (hq : q % 2 = q' % 2) (hd : d = d') : Z m c n q d = Z m c n' q' d' := by
  subst hn hd
  unfold Z Proj.wave
  refine Finset.sum_congr rfl fun e _ => congrArg₂ (· * ·) rfl (congrArg (fun x => A1 m c (ValueIdx.ix2 e x)) (Fin.ext ?_))
  show q % 2 * 128 + d.val % 128 = q' % 2 * 128 + d.val % 128
  rw [hq]

/-- What the run leaves in the array. -/
def outZ (c : Dev nD) : Vec Ideal S2x32768x512 .bf16 := fun i => Z m c ((i 0).val * 16384 + (i 1).val / 2) (i 1).val (i 2)

theorem at_triple (x : S1x512x512.Idx) : x = ValueIdx.ix3 (0 : Fin 1) (x 1 : Fin 512) (x 2 : Fin 512) := by
  funext a; match a with
  | ⟨0, _⟩ => exact Fin.ext (by have : (x 0).val < 1 := (x 0).isLt; show (x 0).val = 0; omega)
  | ⟨1, _⟩ => rfl
  | ⟨2, _⟩ => rfl

/-- Rows of a quarter, within a block of 2048 rows. -/
theorem pairs_emb (o : Nat) (h : ∀ a, (![0, o, 0] : Fin 3 → Nat) a + S1x512x512.size a ≤ S1x2048x512.size a) (x : S1x512x512.Idx) :
    ((Rect.unit (s := S1x2048x512) ![0, o, 0] S1x512x512.size h).emb x 1).val = o + (x 1).val ∧
      ((Rect.unit (s := S1x2048x512) ![0, o, 0] S1x512x512.size h).emb x 2) = x 2 := by
  constructor
  · show o + 1 * (x 1).val = o + (x 1).val; omega
  · exact Fin.ext (by show 0 + 1 * (x 2).val = (x 2).val; omega)

/-- The value of a block at a row and a column. -/
def blockZ (c : Dev nD) (t : Fin grid0.N) : Vec Ideal S1x2048x512 .bf16 := fun y => Z m c (t.val * 1024 + (y 1).val / 2) (y 1).val (y 2)

theorem quarterZ (c : Dev nD) (t : Fin grid0.N) (o o' : Nat) (ho : o = 2 * o') (h) (p : FVec Ideal S256x2048 .f32)
    (hp : ∀ (r : Fin 256) (k : Fin 2048), p (ValueIdx.ix2 r k) = P m c k (t.val * 1024 + (o' + r.val))) (x : S1x512x512.Idx) :
    k0_pay42 (k0_pay41 p) (View.ld (iblk m c 7 t) r0_11) (View.ld (iblk m c 7 t) r0_11) (View.ld (iblk m c 7 t) r0_11) (View.ld (iblk m c 7 t) r0_11) x
      = blockZ m c t ((Rect.unit (s := S1x2048x512) ![0, o, 0] S1x512x512.size h).emb x) := by
  refine (congrArg _ (at_triple x)).trans ((packed_apply p _ (x 1) (x 2)).trans ?_)
  have hx : (x 1).val < 512 := (x 1).isLt
  have e1 : (fun k : Fin 512 => p (ValueIdx.ix2 (⟨(x 1).val / 2, by omega⟩ : Fin 256) (⟨k.val, by have := k.isLt; omega⟩ : Fin 2048)))
      = fun k => P m c (⟨k.val, by have := k.isLt; omega⟩ : Fin 2048) (t.val * 1024 + (o' + (x 1).val / 2)) := funext fun k => hp _ _
  have e2 : (fun (e : Fin 128) (k : Fin 256) => View.ld (iblk m c 7 t) r0_11 (ValueIdx.ix2 e k)) = fun e k => A1 m c (ValueIdx.ix2 e k) :=
    funext fun e => funext fun k => (congrFun (ld11 _) _).trans (block7_apply m c t e k)
  refine (congrArg₂ (fun f b => Proj.wave f b (x 1).val (x 2)) e1 e2).trans ?_
  refine Z_parity m c (n := t.val * 1024 + (o' + (x 1).val / 2)) ?_ ?_ (pairs_emb o h x).2.symm
  · rw [(pairs_emb o h x).1]; omega
  · rw [(pairs_emb o h x).1]; omega

/-- The block a point leaves. -/
theorem block10_apply (c : Dev nD) (t : Fin grid0.N) (y : S1x2048x512.Idx) : (dats m 0 c).after 10 t y = blockZ m c t y := by
  refine (congrFun (after0_10 m c t) _).trans ?_
  unfold out0_10
  refine View.canon_apply_of_pieces (Val := Elt Ideal) (blockZ m c t) _ ?_ y (cover0_10 _ _ _ _ y)
  intro p hp x
  simp only [List.mem_cons, List.not_mem_nil, or_false] at hp
  rcases hp with rfl | rfl | rfl | rfl
  · exact (congrFun (packed_fourth _ _) x).trans (quarterZ m c t 1536 768 rfl inb_S1x2048x512_S1x512x512_0_1536_0 _ (quarter4 m c t) x)
  · exact quarterZ m c t 1024 512 rfl inb_S1x2048x512_S1x512x512_0_1024_0 _ (quarter3 m c t) x
  · exact (congrFun (packed_second _ _) x).trans (quarterZ m c t 512 256 rfl inb_S1x2048x512_S1x512x512_0_512_0 _ (quarter2 m c t) x)
  · exact (congrFun (packed_first _ _) x).trans (quarterZ m c t 0 0 rfl inb_S1x2048x512_S1x512x512_0_0_0 _
      (fun r k => (quarter1 m c t r k).trans (congrArg (fun n => P m c k (t.val * 1024 + n)) (Nat.zero_add r.val).symm)) x)

/-- Every point writes its block back. -/
theorem flushed10 (t : Fin grid0.N) : (cfg0.win 10).flush t = true := by
  have h : ∀ t : Fin grid0.N, Window.flushOf grid0 true cc0_transform_10 t = true := by decide +kernel
  exact h t

/-- Where the output block of a point lies in the array: the sequence, and the rows within it. -/
def emb10 (t : Fin grid0.N) (y : S1x2048x512.Idx) : S2x32768x512.Idx := ((cfg0.win 10).blk t).view.emb y

theorem emb10_val (t : Fin grid0.N) (y : S1x2048x512.Idx) :
    (emb10 t y 0).val = t.val / 16 ∧ (emb10 t y 1).val = t.val % 16 * 2048 + (y 1).val ∧ emb10 t y 2 = y 2 := by
  have h0 : (y 0).val < 1 := (y 0).isLt
  refine ⟨(Window.rect_emb_val (cfg0.win 10) t y 0).trans ((congrArg (fun n => n * 1 + (y 0).val) (place10 t).1).trans (by show t.val / 16 * 1 + (y 0).val = t.val / 16; omega)),
    (Window.rect_emb_val (cfg0.win 10) t y 1).trans (congrArg (fun n => n * 2048 + (y 1).val) (place10 t).2),
    Fin.ext ((Window.rect_emb_val (cfg0.win 10) t y 2).trans (by show 0 * 512 + (y 2).val = (y 2).val; omega))⟩

/-- The block a point leaves is the array's, where it lies. -/
theorem block10_emb (c : Dev nD) (t : Fin grid0.N) (y : S1x2048x512.Idx) : (dats m 0 c).after 10 t y = outZ m c (emb10 t y) := by
  refine (block10_apply m c t y).trans ?_
  have ht : t.val < 32 := t.isLt
  have hy : (y 1).val < 2048 := (y 1).isLt
  refine Z_parity m c ?_ ?_ (emb10_val t y).2.2.symm
  · rw [(emb10_val t y).1, (emb10_val t y).2.1]; omega
  · rw [(emb10_val t y).2.1]; omega

/-- Every place of the array lies in some point's block. -/
def pointOf' (i : S2x32768x512.Idx) : Fin grid0.N :=
  (⟨(i 0).val * 16 + (i 1).val / 2048, by have : (i 0).val < 2 := (i 0).isLt; have : (i 1).val < 32768 := (i 1).isLt; omega⟩ : Fin 32)
def placeIn' (i : S2x32768x512.Idx) : S1x2048x512.Idx := ValueIdx.ix3 (0 : Fin 1) (⟨(i 1).val % 2048, by omega⟩ : Fin 2048) (i 2 : Fin 512)
theorem cover10 (i : S2x32768x512.Idx) : ∃ (t : Fin grid0.N) (y : S1x2048x512.Idx), emb10 t y = i := by
  have h0 : (i 0).val < 2 := (i 0).isLt
  have h1 : (i 1).val < 32768 := (i 1).isLt
  refine ⟨pointOf' i, placeIn' i, ?_⟩
  funext a
  match a with
  | ⟨0, _⟩ => exact Fin.ext ((emb10_val _ _).1.trans (by show ((i 0).val * 16 + (i 1).val / 2048) / 16 = (i 0).val; omega))
  | ⟨1, _⟩ => exact Fin.ext ((emb10_val _ _).2.1.trans (by show ((i 0).val * 16 + (i 1).val / 2048) % 16 * 2048 + (i 1).val % 2048 = (i 1).val; omega))
  | ⟨2, _⟩ => exact (emb10_val _ _).2.2

/-- The array the run leaves. -/
theorem arr_10 (c : Dev nD) : (dats m 0 c).arrAt 10 cfg0.N = outZ m c :=
  (dats m 0 c).arrAt_eq_of_emb 10 (outZ m c) (fun t _ y => block10_emb m c t y) fun i =>
    let ⟨t, y, e⟩ := cover10 i
    ⟨t, flushed10 t, e ▸ View.emb_mem_set _ y⟩

end Cert.Kernel3Ideal.Out

end
-- ==== Proof.Proj.Ref.lean ====
/- Hand-written: the reference's projection and short convolution, in named stages, and each stage at an index. -/
module

public import proofs.«01_k».proof.Proof.Gen.Reference3Ideal.Run
public import proofs.«01_k».proof.Proof.Proj.Spec
public import Idealize.ShloMosaic.PureOps.Ideal
public import Idealize.ShloMosaic.Lib.Pointwise
public import Idealize.ShloMosaic.Lib.KernelVsHost

@[expose] public section

set_option maxRecDepth 16384

noncomputable section

namespace Cert.Reference3Ideal.Ref

open Cert.Reference3Ideal Cert.Reference3Ideal.Gen
open Idealize.ShloMosaic Idealize.ShloMosaic.TcCoe Idealize.ShloMosaic.Tactic

/-! ## The stages -/

/-- A vector along every row. -/
def alongWide (v : FVec Ideal S1024 .f32) : FVec Ideal S2x16384x1024 .f32 :=
  broadcastInDim S2x16384x1024 ![0, 1, 2] bcast_S1x1x1024_S2x16384x1024_0_1_2 (broadcastInDim S1x1x1024 ![2] bcast_S1024_S1x1x1024_2 v)
def alongAll (v : FVec Ideal S2048 .f32) : FVec Ideal S2x16384x2048 .f32 :=
  broadcastInDim S2x16384x2048 ![0, 1, 2] bcast_S1x1x2048_S2x16384x2048_0_1_2 (broadcastInDim S1x1x2048 ![2] bcast_S2048_S1x1x2048_2 v)
def alongConv (v : FVec Ideal S1536 .f32) : FVec Ideal S2x16384x1536 .f32 :=
  broadcastInDim S2x16384x1536 ![0, 1, 2] bcast_S1x1x1536_S2x16384x1536_0_1_2 (broadcastInDim S1x1x1536 ![2] bcast_S1536_S1x1x1536_2 v)

/-- Each row's mean, and each row less its mean. -/
def mean (x : FVec Ideal S2x16384x1024 .f32) : FVec Ideal S2x16384x1 .f32 :=
  Host.divf (broadcastInDim S2x16384x1 ![0, 1] bcast_S2x16384_S2x16384x1_0_1 (Host.reduceAdd x (constant S_ .f32 0x00000000#32) reducesTo_S2x16384x1024_S2x16384_d2 h_S_))
    (broadcastInDim S2x16384x1 ![] bcast_S_S2x16384x1 (constant S_ .f32 0x44800000#32))
def centred (x : FVec Ideal S2x16384x1024 .f32) : FVec Ideal S2x16384x1024 .f32 :=
  subf x (broadcastInDim S2x16384x1024 ![0, 1, 2] bcast_S2x16384x1_S2x16384x1024_0_1_2 (mean x))

/-- Each row normalised by its mean and variance. -/
def layerNorm (x : FVec Ideal S2x16384x1024 .f32) (g b : FVec Ideal S1024 .f32) : FVec Ideal S2x16384x1024 .f32 :=
  addf (mulf (mulf (centred x) (broadcastInDim S2x16384x1024 ![0, 1, 2] bcast_S2x16384x1_S2x16384x1024_0_1_2
      (Host.rsqrt (addf (mean (mulf (centred x) (centred x))) (broadcastInDim S2x16384x1 ![] bcast_S_S2x16384x1 (constant S_ .f32 0x3727C5AC#32))))))
    (alongWide g)) (alongWide b)

/-- Every row times the matrix, plus the bias. -/
def projected (x : FVec Ideal S2x16384x1024 .f32) (w : FVec Ideal S1024x2048 .f32) (b : FVec Ideal S2048 .f32) : FVec Ideal S2x16384x2048 .f32 :=
  addf (Host.dotGeneral dot_S2x16384x1024_S1024x2048_S2x16384x2048_2_0_01_1_n_n none x w) (alongAll b)

/-- The convolved columns, with a row of zeros before and after each sequence. -/
def padded (p : FVec Ideal S2x16384x2048 .f32) : FVec Ideal S2x16386x1536 .f32 :=
  pad S2x16386x1536 ![0, 1, 0] ![0, 1, 0] ![0, 0, 0] (extractStridedSlice S2x16384x1536 ![0, 0, 512] p slices_S2x16384x2048_S2x16384x1536_0_0_512)
    (sitofp .f32 (constantI S_ 32 0#32)) pads_S2x16384x1536_S2x16386x1536_000_110_000 h_S_

/-- The three filter rows. -/
def row0 (w : FVec Ideal S3x1536 .f32) : FVec Ideal S1536 .f32 := shapeCast _ (extractStridedSlice S1x1536 ![0, 0] w slices_S3x1536_S1x1536_0_0) shapeCasts_S1x1536_S1536
def row1 (w : FVec Ideal S3x1536 .f32) : FVec Ideal S1536 .f32 := shapeCast _ (extractStridedSlice S1x1536 ![1, 0] w slices_S3x1536_S1x1536_1_0) shapeCasts_S1x1536_S1536
def row2 (w : FVec Ideal S3x1536 .f32) : FVec Ideal S1536 .f32 := shapeCast _ (extractStridedSlice S1x1536 ![2, 0] w slices_S3x1536_S1x1536_2_0) shapeCasts_S1x1536_S1536

/-- The convolution of width 3. -/
def convolved (q : FVec Ideal S2x16386x1536 .f32) (w : FVec Ideal S3x1536 .f32) (b : FVec Ideal S1536 .f32) : FVec Ideal S2x16384x1536 .f32 :=
  addf (addf (addf (mulf (extractStridedSlice S2x16384x1536 ![0, 0, 0] q slices_S2x16386x1536_S2x16384x1536_0_0_0) (alongConv (row0 w)))
        (mulf (extractStridedSlice S2x16384x1536 ![0, 1, 0] q slices_S2x16386x1536_S2x16384x1536_0_1_0) (alongConv (row1 w))))
      (mulf (extractStridedSlice S2x16384x1536 ![0, 2, 0] q slices_S2x16386x1536_S2x16384x1536_0_2_0) (alongConv (row2 w))))
    (alongConv b)

/-- The first 512 columns, and the third 512 times the second. -/
def first (u : FVec Ideal S2x16384x1536 .f32) : FVec Ideal S32768x512 .f32 :=
  shapeCast _ (extractStridedSlice S2x16384x512 ![0, 0, 0] u slices_S2x16384x1536_S2x16384x512_0_0_0) shapeCasts_S2x16384x512_S32768x512
def gated (u : FVec Ideal S2x16384x1536 .f32) : FVec Ideal S32768x512 .f32 :=
  shapeCast _ (mulf (extractStridedSlice S2x16384x512 ![0, 0, 1024] u slices_S2x16384x1536_S2x16384x512_0_0_1024)
    (extractStridedSlice S2x16384x512 ![0, 0, 512] u slices_S2x16384x1536_S2x16384x512_0_0_512)) shapeCasts_S2x16384x512_S32768x512

variable (m : (ℓ : Loc nD τ sig) → Buf (Elt Ideal) ℓ) (c : Dev nD)

abbrev A0 : FVec Ideal S2x16384x1024 .f32 := m ((c.tc : Thread nD τ).loc main_arg0)
abbrev A1 : FVec Ideal S128x256 .bf16 := m ((c.tc : Thread nD τ).loc main_arg1)
abbrev A2 : FVec Ideal S1024 .f32 := m ((c.tc : Thread nD τ).loc main_arg2)
abbrev A3 : FVec Ideal S1024 .f32 := m ((c.tc : Thread nD τ).loc main_arg3)
abbrev A4 : FVec Ideal S1024x2048 .f32 := m ((c.tc : Thread nD τ).loc main_arg4)
abbrev A5 : FVec Ideal S2048 .f32 := m ((c.tc : Thread nD τ).loc main_arg5)
abbrev A6 : FVec Ideal S3x1536 .f32 := m ((c.tc : Thread nD τ).loc main_arg6)
abbrev A7 : FVec Ideal S1536 .f32 := m ((c.tc : Thread nD τ).loc main_arg7)

/-- The projection the two results share. -/
def shared : FVec Ideal S2x16384x2048 .f32 := projected (layerNorm (A0 m c) (A2 m c) (A3 m c)) (A4 m c) (A5 m c)

/-- The reference's results are those stages. -/
theorem res_first : Value.res_main_v69 (F := Ideal) m c = first (convolved (padded (shared m c)) (A6 m c) (A7 m c)) := by
  unfold Value.res_main_v69
  rfl
theorem res_gated : Value.res_main_v71 (F := Ideal) m c = gated (convolved (padded (shared m c)) (A6 m c) (A7 m c)) := by
  unfold Value.res_main_v71
  rfl

/-! ## The stages at an index -/

theorem layerNorm_apply (x : FVec Ideal S2x16384x1024 .f32) (g b : FVec Ideal S1024 .f32) (B : Fin 2) (s : Fin 16384) (d : Fin 1024) :
    layerNorm x g b (ValueIdx.ix3 B s d) = Mix.layerNorm (fun e => x (ValueIdx.ix3 B s e)) (fun e => g (ValueIdx.ix1 e)) (fun e => b (ValueIdx.ix1 e)) d := by
  unfold layerNorm centred mean alongWide
  pointwise
  rfl

theorem projected_apply (x : FVec Ideal S2x16384x1024 .f32) (w : FVec Ideal S1024x2048 .f32) (b : FVec Ideal S2048 .f32) (B : Fin 2) (s : Fin 16384) (k : Fin 2048) :
    projected x w b (ValueIdx.ix3 B s k) = ∑ e : Fin 1024, x (ValueIdx.ix3 B s e) * w (ValueIdx.ix2 e k) + b (ValueIdx.ix1 k) := by
  unfold projected alongAll
  pointwise
  rfl

/-- A convolved column among all the projection's. -/
def col (d : Fin 1536) : Fin 2048 := ⟨512 + d.val, by have := d.isLt; omega⟩

theorem cut_apply (p : FVec Ideal S2x16384x2048 .f32) (B : Fin 2) (s : Fin 16384) (d : Fin 1536) :
    extractStridedSlice S2x16384x1536 ![0, 0, 512] p slices_S2x16384x2048_S2x16384x1536_0_0_512 (ValueIdx.ix3 B s d) = p (ValueIdx.ix3 B s (col d)) := by
  pointwise
  rfl

/-- A row within the padding. -/
theorem padded_inside (p : FVec Ideal S2x16384x2048 .f32) (B : Fin 2) (j : Fin 16386) (s : Fin 16384) (h : j.val = 1 + s.val) (d : Fin 1536) :
    padded p (ValueIdx.ix3 B j d) = p (ValueIdx.ix3 B s (col d)) := by
  refine (pad_apply_of_inside _ _ _ _ _ _ _ _ (ValueIdx.ix3 B s d) fun a => ?_).trans (cut_apply p B s d)
  match a with
  | ⟨0, _⟩ => show B.val = 0 + B.val * 1; omega
  | ⟨1, _⟩ => show j.val = 1 + s.val * 1; omega
  | ⟨2, _⟩ => show d.val = 0 + d.val * 1; omega
/-- A row of the padding. -/
theorem padded_outside (p : FVec Ideal S2x16384x2048 .f32) (B : Fin 2) (j : Fin 16386) (h : j.val = 0 ∨ j.val = 16385) (d : Fin 1536) :
    padded p (ValueIdx.ix3 B j d) = 0 := by
  refine (pad_apply_of_not_inside _ _ _ _ _ _ _ _ (1 : Fin 3) fun hh => ?_).trans ?_
  · have h1 : 1 ≤ j.val := hh.1
    have h2 : (j.val - 1) / 1 < 16384 := hh.2.2
    omega
  · show ((((0#32 : BitVec 32).toInt : ℝ)) : EReal) = 0
    simp

theorem convolved_apply (q : FVec Ideal S2x16386x1536 .f32) (w : FVec Ideal S3x1536 .f32) (b : FVec Ideal S1536 .f32) (B : Fin 2) (s : Fin 16384) (d : Fin 1536) :
    convolved q w b (ValueIdx.ix3 B s d)
      = Proj.conv (q (ValueIdx.ix3 B (⟨s.val, by have := s.isLt; omega⟩ : Fin 16386) d)) (q (ValueIdx.ix3 B (⟨1 + s.val, by have := s.isLt; omega⟩ : Fin 16386) d))
          (q (ValueIdx.ix3 B (⟨2 + s.val, by have := s.isLt; omega⟩ : Fin 16386) d)) (w (ValueIdx.ix2 (0 : Fin 3) d)) (w (ValueIdx.ix2 (1 : Fin 3) d))
          (w (ValueIdx.ix2 (2 : Fin 3) d)) (b (ValueIdx.ix1 d)) := by
  unfold convolved alongConv row0 row1 row2
  pointwise
  rfl

theorem first_apply (u : FVec Ideal S2x16384x1536 .f32) (R : Fin 32768) (d : Fin 512) :
    first u (ValueIdx.ix2 R d) = u (ValueIdx.ix3 (⟨R.val / 16384, by have := R.isLt; omega⟩ : Fin 2) (⟨R.val % 16384, by omega⟩ : Fin 16384) (⟨d.val, by have := d.isLt; omega⟩ : Fin 1536)) := by
  unfold first
  pointwise
  rfl
theorem gated_apply (u : FVec Ideal S2x16384x1536 .f32) (R : Fin 32768) (d : Fin 512) :
    gated u (ValueIdx.ix2 R d)
      = u (ValueIdx.ix3 (⟨R.val / 16384, by have := R.isLt; omega⟩ : Fin 2) (⟨R.val % 16384, by omega⟩ : Fin 16384) (⟨1024 + d.val, by have := d.isLt; omega⟩ : Fin 1536))
        * u (ValueIdx.ix3 (⟨R.val / 16384, by have := R.isLt; omega⟩ : Fin 2) (⟨R.val % 16384, by omega⟩ : Fin 16384) (⟨512 + d.val, by have := d.isLt; omega⟩ : Fin 1536)) := by
  unfold gated
  pointwise
  rfl

/-! ## The two results at an index -/

/-- Row n of all the sequences' rows, one sequence after the other, and column k of its projection. -/
def rowOf (n : Nat) (e : Fin 1024) : EReal :=
  A0 m c (ValueIdx.ix3 (⟨n / 16384 % 2, by omega⟩ : Fin 2) (⟨n % 16384, by omega⟩ : Fin 16384) e)
def P (k : Fin 2048) (n : Nat) : EReal :=
  Proj.proj (rowOf m c n) (fun e => A2 m c (ValueIdx.ix1 e)) (fun e => A3 m c (ValueIdx.ix1 e)) (fun e => A4 m c (ValueIdx.ix2 e k)) (A5 m c (ValueIdx.ix1 k))
/-- Column d of the convolved projections, at row n. -/
def U (d : Fin 1536) (n : Nat) : EReal :=
  Proj.column (P m c (col d)) (A6 m c (ValueIdx.ix2 (0 : Fin 3) d)) (A6 m c (ValueIdx.ix2 (1 : Fin 3) d)) (A6 m c (ValueIdx.ix2 (2 : Fin 3) d)) (A7 m c (ValueIdx.ix1 d)) n

theorem shared_apply (B : Fin 2) (s : Fin 16384) (k : Fin 2048) (n : Nat) (hn : n = B.val * 16384 + s.val) :
    shared m c (ValueIdx.ix3 B s k) = P m c k n := by
  unfold shared P Proj.proj
  rw [projected_apply]
  simp only [layerNorm_apply]
  have e : ∀ e, A0 m c (ValueIdx.ix3 B s e) = rowOf m c n e := fun e => by
    unfold rowOf
    refine congrArg (A0 m c) ?_
    have := B.isLt
    have := s.isLt
    rw [show B = (⟨n / 16384 % 2, by omega⟩ : Fin 2) from Fin.ext (by show B.val = n / 16384 % 2; omega),
      show s = (⟨n % 16384, by omega⟩ : Fin 16384) from Fin.ext (by show s.val = n % 16384; omega)]
  rw [funext e]

/-- The convolution, at a row: its neighbours within the sequence, or zero at the ends. -/
theorem column_apply (R : Fin 32768) (d : Fin 1536) :
    convolved (padded (shared m c)) (A6 m c) (A7 m c) (ValueIdx.ix3 (⟨R.val / 16384, by have := R.isLt; omega⟩ : Fin 2) (⟨R.val % 16384, by omega⟩ : Fin 16384) d) = U m c d R.val := by
  have hR := R.isLt
  rw [convolved_apply]
  unfold U Proj.column
  have h1 : padded (shared m c) (ValueIdx.ix3 (⟨R.val / 16384, by omega⟩ : Fin 2) (⟨1 + R.val % 16384, by omega⟩ : Fin 16386) d) = P m c (col d) R.val :=
    (padded_inside _ _ _ ⟨R.val % 16384, by omega⟩ rfl d).trans (shared_apply m c _ _ _ _ (by show R.val = R.val / 16384 * 16384 + R.val % 16384; omega))
  have h0 : padded (shared m c) (ValueIdx.ix3 (⟨R.val / 16384, by omega⟩ : Fin 2) (⟨R.val % 16384, by omega⟩ : Fin 16386) d) = Proj.before (P m c (col d)) R.val := by
    unfold Proj.before
    by_cases h : R.val % 16384 = 0
    · rw [if_pos h]; exact padded_outside _ _ _ (Or.inl h) d
    · rw [if_neg h]
      exact (padded_inside _ _ _ ⟨R.val % 16384 - 1, by omega⟩ (by show R.val % 16384 = 1 + (R.val % 16384 - 1); omega) d).trans
        (shared_apply m c _ _ _ _ (by show R.val - 1 = R.val / 16384 * 16384 + (R.val % 16384 - 1); omega))
  have h2 : padded (shared m c) (ValueIdx.ix3 (⟨R.val / 16384, by omega⟩ : Fin 2) (⟨2 + R.val % 16384, by omega⟩ : Fin 16386) d) = Proj.after (P m c (col d)) R.val := by
    unfold Proj.after
    by_cases h : R.val % 16384 = 16383
    · rw [if_pos h]; exact padded_outside _ _ _ (Or.inr (by show 2 + R.val % 16384 = 16385; omega)) d
    · rw [if_neg h]
      exact (padded_inside _ _ _ ⟨R.val % 16384 + 1, by omega⟩ (by show 2 + R.val % 16384 = 1 + (R.val % 16384 + 1); omega) d).trans
        (shared_apply m c _ _ _ _ (by show R.val + 1 = R.val / 16384 * 16384 + (R.val % 16384 + 1); omega))
  rw [h0, h1, h2]

theorem first_res (R : Fin 32768) (d : Fin 512) :
    Value.res_main_v69 (F := Ideal) m c (ValueIdx.ix2 R d) = U m c (⟨d.val, by have := d.isLt; omega⟩ : Fin 1536) R.val := by
  rw [res_first, first_apply, column_apply]
theorem gated_res (R : Fin 32768) (d : Fin 512) :
    Value.res_main_v71 (F := Ideal) m c (ValueIdx.ix2 R d)
      = U m c (⟨1024 + d.val, by have := d.isLt; omega⟩ : Fin 1536) R.val * U m c (⟨512 + d.val, by have := d.isLt; omega⟩ : Fin 1536) R.val := by
  rw [res_gated, gated_apply, column_apply, column_apply]

end Cert.Reference3Ideal.Ref

end
-- ==== Proof.Proj.RefPairs.lean ====
/- Hand-written: the reference's transform of the Fourier columns, in named stages, and each stage at an index. -/
module

public import proofs.«01_k».proof.Proof.Proj.Ref

@[expose] public section

set_option maxRecDepth 16384

noncomputable section

namespace Cert.Reference3Ideal.Ref

open Cert.Reference3Ideal Cert.Reference3Ideal.Gen
open Idealize.ShloMosaic Idealize.ShloMosaic.TcCoe Idealize.ShloMosaic.Tactic

/-! ## The stages -/

/-- The first 512 columns in four groups of 128. -/
def groups (p : FVec Ideal S2x16384x2048 .f32) : FVec Ideal S2x16384x4x128 .f32 :=
  shapeCast _ (extractStridedSlice S2x16384x512 ![0, 0, 0] p slices_S2x16384x2048_S2x16384x512_0_0_0) shapeCasts_S2x16384x512_S2x16384x4x128

/-- The cosines and the sines. -/
def cosines (bd : FVec Ideal S128x256 .bf16) : FVec Ideal S128x128 .f32 := extf .f32 (extractStridedSlice S128x128 ![0, 0] bd slices_S128x256_S128x128_0_0) bitsLt_bf16_f32
def sines (bd : FVec Ideal S128x256 .bf16) : FVec Ideal S128x128 .f32 := extf .f32 (extractStridedSlice S128x128 ![0, 128] bd slices_S128x256_S128x128_0_128) bitsLt_bf16_f32

/-- Every group times a matrix. -/
def times (g : FVec Ideal S2x16384x4x128 .f32) (w : FVec Ideal S128x128 .f32) : FVec Ideal S2x16384x512 .f32 :=
  shapeCast _ (Host.dotGeneral dot_S2x16384x4x128_S128x128_S2x16384x4x128_3_0_012_1_n_n none g w) shapeCasts_S2x16384x4x128_S2x16384x512

/-- A second row's place beside every row; two families side by side; every pair of rows as two rows. -/
def up (a : FVec Ideal S2x16384x512 .f32) : FVec Ideal S2x16384x1x512 .f32 := broadcastInDim S2x16384x1x512 ![0, 1, 3] bcast_S2x16384x512_S2x16384x1x512_0_1_3 a
def both (a b : FVec Ideal S2x16384x1x512 .f32) : FVec Ideal S2x16384x2x512 .f32 :=
  concatenate S2x16384x2x512 2 [⟨S2x16384x1x512, a⟩, ⟨S2x16384x1x512, b⟩] concatenates_S2x16384x1x512_S2x16384x1x512_S2x16384x2x512_d2
def flat (y : FVec Ideal S2x16384x2x512 .f32) : FVec Ideal S2x32768x512 .bf16 := truncf .bf16 (shapeCast _ y shapeCasts_S2x16384x2x512_S2x32768x512) bitsLt_bf16_f32

/-- Two arrays of rows, row by row. -/
def rowByRow (a b : FVec Ideal S2x16384x512 .f32) : FVec Ideal S2x32768x512 .bf16 := flat (both (up a) (up b))

variable (m : (ℓ : Loc nD τ sig) → Buf (Elt Ideal) ℓ) (c : Dev nD)

/-- The reference's result is those stages. -/
theorem res_pairs : Value.res_main_v40 (F := Ideal) m c
    = rowByRow (times (groups (shared m c)) (cosines (A1 m c))) (times (groups (shared m c)) (sines (A1 m c))) := by
  unfold Value.res_main_v40
  rfl

/-! ## The stages at an index -/

theorem times_apply (p : FVec Ideal S2x16384x2048 .f32) (w : FVec Ideal S128x128 .f32) (B : Fin 2) (s : Fin 16384) (d : Fin 512) :
    times (groups p) w (ValueIdx.ix3 B s d)
      = ∑ e : Fin 128, p (ValueIdx.ix3 B s (⟨d.val / 128 * 128 + e.val, by have := d.isLt; have := e.isLt; omega⟩ : Fin 2048)) * w (ValueIdx.ix2 e (⟨d.val % 128, by omega⟩ : Fin 128)) := by
  unfold times groups
  pointwise
  rfl

theorem cosines_apply (bd : FVec Ideal S128x256 .bf16) (e k : Fin 128) : cosines bd (ValueIdx.ix2 e k) = bd (ValueIdx.ix2 e (⟨0 + k.val, by have := k.isLt; omega⟩ : Fin 256)) := by
  unfold cosines
  pointwise
  rfl
theorem sines_apply (bd : FVec Ideal S128x256 .bf16) (e k : Fin 128) : sines bd (ValueIdx.ix2 e k) = bd (ValueIdx.ix2 e (⟨128 + k.val, by have := k.isLt; omega⟩ : Fin 256)) := by
  unfold sines
  pointwise
  rfl

theorem up_apply (a : FVec Ideal S2x16384x512 .f32) (B : Fin 2) (s : Fin 16384) (h : Fin 1) (d : Fin 512) : up a (ValueIdx.ix4 B s h d) = a (ValueIdx.ix3 B s d) := by
  unfold up
  pointwise
  rfl

theorem both_apply (a b : FVec Ideal S2x16384x1x512 .f32) (B : Fin 2) (s : Fin 16384) (h : Fin 2) (d : Fin 512) :
    both a b (ValueIdx.ix4 B s h d) = if h.val = 0 then a (ValueIdx.ix4 B s (0 : Fin 1) d) else b (ValueIdx.ix4 B s (0 : Fin 1) d) := by
  unfold both
  pointwise
  match h with
  | ⟨0, _⟩ => rfl
  | ⟨1, _⟩ => rfl

theorem flat_apply (y : FVec Ideal S2x16384x2x512 .f32) (B : Fin 2) (q : Fin 32768) (d : Fin 512) :
    flat y (ValueIdx.ix3 B q d) = y (ValueIdx.ix4 B (⟨q.val / 2, by have := q.isLt; omega⟩ : Fin 16384) (⟨q.val % 2, by omega⟩ : Fin 2) d) := by
  unfold flat
  pointwise
  rfl

theorem rowByRow_apply (a b : FVec Ideal S2x16384x512 .f32) (B : Fin 2) (q : Fin 32768) (d : Fin 512) :
    rowByRow a b (ValueIdx.ix3 B q d)
      = if q.val % 2 = 0 then a (ValueIdx.ix3 B (⟨q.val / 2, by have := q.isLt; omega⟩ : Fin 16384) d) else b (ValueIdx.ix3 B (⟨q.val / 2, by have := q.isLt; omega⟩ : Fin 16384) d) := by
  unfold rowByRow
  rw [flat_apply, both_apply, up_apply, up_apply]

/-! ## The result at an index -/

/-- Row q of the pairs over the sequences' row n, at column d. -/
def Z (n q : Nat) (d : Fin 512) : EReal :=
  Proj.wave (fun k : Fin 512 => P m c (⟨k.val, by have := k.isLt; omega⟩ : Fin 2048) n) (fun e k => A1 m c (ValueIdx.ix2 e k)) q d

theorem stages_apply (B : Fin 2) (q : Fin 32768) (d : Fin 512) :
    rowByRow (times (groups (shared m c)) (cosines (A1 m c))) (times (groups (shared m c)) (sines (A1 m c))) (ValueIdx.ix3 B q d)
      = Z m c (B.val * 16384 + q.val / 2) q.val d := by
  refine (rowByRow_apply _ _ B q d).trans ?_
  unfold Z Proj.wave
  by_cases h : q.val % 2 = 0
  · rw [if_pos h, times_apply]
    refine Finset.sum_congr rfl fun e _ => congrArg₂ (· * ·) (shared_apply m c _ _ _ _ rfl) ?_
    refine (cosines_apply _ _ _).trans (congrArg (fun k => A1 m c (ValueIdx.ix2 e k)) (Fin.ext ?_))
    show 0 + d.val % 128 = q.val % 2 * 128 + d.val % 128; omega
  · rw [if_neg h, times_apply]
    refine Finset.sum_congr rfl fun e _ => congrArg₂ (· * ·) (shared_apply m c _ _ _ _ rfl) ?_
    refine (sines_apply _ _ _).trans (congrArg (fun k => A1 m c (ValueIdx.ix2 e k)) (Fin.ext ?_))
    show 128 + d.val % 128 = q.val % 2 * 128 + d.val % 128; omega

theorem pairs_res (B : Fin 2) (q : Fin 32768) (d : Fin 512) :
    Value.res_main_v40 (F := Ideal) m c (ValueIdx.ix3 B q d) = Z m c (B.val * 16384 + q.val / 2) q.val d :=
  (congrFun (res_pairs m c) _).trans (stages_apply m c B q d)

end Cert.Reference3Ideal.Ref

end
-- ==== Proof.Proj.Equal.lean ====
/- Hand-written: from equal arguments, the reference's results are the kernel's output arrays. -/
module

public import proofs.«01_k».proof.Proof.Proj.OutPairs
public import proofs.«01_k».proof.Proof.Proj.RefPairs

@[expose] public section

noncomputable section

namespace Cert.Proof

open Idealize.ShloMosaic Idealize.ShloMosaic.TcCoe

/-- The eight arguments of the two programs, equal. -/
structure SameProj (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD) : Prop where
  h0 : Reference3Ideal.Ref.A0 m' c = Kernel3Ideal.Out.A0 m c
  h1 : Reference3Ideal.Ref.A1 m' c = Kernel3Ideal.Out.A1 m c
  h2 : Reference3Ideal.Ref.A2 m' c = Kernel3Ideal.Out.A2 m c
  h3 : Reference3Ideal.Ref.A3 m' c = Kernel3Ideal.Out.A3 m c
  h4 : Reference3Ideal.Ref.A4 m' c = Kernel3Ideal.Out.A4 m c
  h5 : Reference3Ideal.Ref.A5 m' c = Kernel3Ideal.Out.A5 m c
  h6 : Reference3Ideal.Ref.A6 m' c = Kernel3Ideal.Out.A6 m c
  h7 : Reference3Ideal.Ref.A7 m' c = Kernel3Ideal.Out.A7 m c

variable {m : (ℓ : Loc Kernel3Ideal.nD Kernel3Ideal.τ Kernel3Ideal.sig) → Buf (Elt Ideal) ℓ}
  {m' : (ℓ : Loc Reference3Ideal.nD Reference3Ideal.τ Reference3Ideal.sig) → Buf (Elt Ideal) ℓ} {c : Dev Kernel3Ideal.nD}

/-- The same projection, and the same convolution of it. -/
theorem sameP (h : SameProj m m' c) (k : Fin 2048) (n : Nat) : Reference3Ideal.Ref.P m' c k n = Kernel3Ideal.Out.P m c k n := by
  unfold Reference3Ideal.Ref.P Reference3Ideal.Ref.rowOf Kernel3Ideal.Out.P Kernel3Ideal.Out.rowOf
  rw [h.h0, h.h2, h.h3, h.h4, h.h5]
theorem sameU (h : SameProj m m' c) (d : Fin 1536) (n : Nat) : Reference3Ideal.Ref.U m' c d n = Kernel3Ideal.Out.U m c d n := by
  unfold Reference3Ideal.Ref.U Kernel3Ideal.Out.U
  rw [h.h6, h.h7, funext (sameP h (Reference3Ideal.Ref.col d))]
  rfl

theorem at_row (i : Reference3Ideal.S32768x512.Idx) : i = ValueIdx.ix2 (i 0 : Fin 32768) (i 1 : Fin 512) := by
  funext a; match a with
  | ⟨0, _⟩ => rfl
  | ⟨1, _⟩ => rfl

/-- The two convolved results, equal element by element. -/
theorem equalX (h : SameProj m m' c) :
    (Reference3Ideal.Value.res_main_v69 (F := Ideal) m' c : FVec Ideal Reference3Ideal.S32768x512 .f32) = Kernel3Ideal.Out.outX m c := by
  funext i
  exact (congrArg (Reference3Ideal.Value.res_main_v69 (F := Ideal) m' c) (at_row i)).trans ((Reference3Ideal.Ref.first_res m' c (i 0) (i 1)).trans (sameU h _ _))
theorem equalW (h : SameProj m m' c) :
    (Reference3Ideal.Value.res_main_v71 (F := Ideal) m' c : FVec Ideal Reference3Ideal.S32768x512 .f32) = Kernel3Ideal.Out.outW m c := by
  funext i
  exact (congrArg (Reference3Ideal.Value.res_main_v71 (F := Ideal) m' c) (at_row i)).trans ((Reference3Ideal.Ref.gated_res m' c (i 0) (i 1)).trans
    (congrArg₂ (· * ·) (sameU h _ _) (sameU h _ _)))

theorem at_pair (i : Reference3Ideal.S2x32768x512.Idx) : i = ValueIdx.ix3 (i 0 : Fin 2) (i 1 : Fin 32768) (i 2 : Fin 512) := by
  funext a; match a with
  | ⟨0, _⟩ => rfl
  | ⟨1, _⟩ => rfl
  | ⟨2, _⟩ => rfl

/-- The transformed columns, equal element by element. -/
theorem sameZ (h : SameProj m m' c) (n q : Nat) (d : Fin 512) : Reference3Ideal.Ref.Z m' c n q d = Kernel3Ideal.Out.Z m c n q d := by
  unfold Reference3Ideal.Ref.Z Kernel3Ideal.Out.Z
  rw [h.h1, funext fun k : Fin 512 => sameP h (⟨k.val, by have := k.isLt; omega⟩ : Fin 2048) n]
theorem equalZ (h : SameProj m m' c) :
    (Reference3Ideal.Value.res_main_v40 (F := Ideal) m' c : FVec Ideal Reference3Ideal.S2x32768x512 .bf16) = Kernel3Ideal.Out.outZ m c := by
  funext i
  exact (congrArg (Reference3Ideal.Value.res_main_v40 (F := Ideal) m' c) (at_pair i)).trans ((Reference3Ideal.Ref.pairs_res m' c (i 0) (i 1) (i 2)).trans (sameZ h _ _ _))

end Cert.Proof

end
-- ==== Proof.Wave.Spec.lean ====
/- Hand-written: what the last step of the Fourier mixer computes for one column, as a function of extended reals. -/
module

public import Idealize.ShloMosaic.PureOps.Ideal

@[expose] public section

noncomputable section

namespace Cert.Wave

open Idealize.ShloMosaic

/-- The two numbers a word holds: its low half is the first's upper half, its high half the second's. -/
def lo (w : BitVec 32) : EReal := FloatOps.ofBits (F := Ideal) .f32 (w <<< 16#32)
def hi (w : BitVec 32) : EReal := FloatOps.ofBits (F := Ideal) .f32 (w &&& 4294901760#32)

/-- The cosine and the sine of a sum, from those of its two terms. -/
def cosOf (cb sb cr sr : EReal) : EReal := cb * cr - sb * sr
def sinOf (cb sb cr sr : EReal) : EReal := sb * cr + cb * sr

/-- A column's words times the twiddle factors: 128 real parts, then 128 imaginary parts. -/
def parts (w : Fin 128 → BitVec 32) (cb sb cr sr : Fin 128 → EReal) (n : Fin 256) : EReal :=
  if h : n.val < 128 then
    lo (w ⟨n.val, h⟩) * cosOf (cb ⟨n.val, h⟩) (sb ⟨n.val, h⟩) (cr ⟨n.val, h⟩) (sr ⟨n.val, h⟩)
      + hi (w ⟨n.val, h⟩) * sinOf (cb ⟨n.val, h⟩) (sb ⟨n.val, h⟩) (cr ⟨n.val, h⟩) (sr ⟨n.val, h⟩)
  else
    have h' : n.val - 128 < 128 := by have := n.isLt; omega
    hi (w ⟨n.val - 128, h'⟩) * cosOf (cb ⟨n.val - 128, h'⟩) (sb ⟨n.val - 128, h'⟩) (cr ⟨n.val - 128, h'⟩) (sr ⟨n.val - 128, h'⟩)
      - lo (w ⟨n.val - 128, h'⟩) * sinOf (cb ⟨n.val - 128, h'⟩) (sb ⟨n.val - 128, h'⟩) (cr ⟨n.val - 128, h'⟩) (sr ⟨n.val - 128, h'⟩)

/-- One element of the transform: a row of the matrix times those parts. -/
def wave (f : Fin 256 → EReal) (w : Fin 128 → BitVec 32) (cb sb cr sr : Fin 128 → EReal) : EReal :=
  ∑ n : Fin 256, f n * parts w cb sb cr sr n

end Cert.Wave

end
-- ==== Proof.Wave.Payload.lean ====
/- Hand-written: what the kernel computes for one column, at an index, over the extended reals. -/
module

public import proofs.«01_k».proof.Proof.Gen.Kernel4Ideal.Frame
public import proofs.«01_k».proof.Proof.Wave.Spec
public import Idealize.ShloMosaic.PureOps.Ideal
public import Idealize.ShloMosaic.Lib.Pointwise
public import Idealize.ShloMosaic.Lib.Pipeline.Value
public import Idealize.ShloMosaic.Lib.Pipeline.ValueKit

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic Idealize.SL.Sem
open Idealize.ShloMosaic.WordCmp Idealize.ShloMosaic.Pipeline

/-! ## The column in stages -/

/-- A table without its leading places, and the words without theirs. -/
def table (x : Vec Ideal S1x1x128x128 .f32) : FVec Ideal S128x128 .f32 := shapeCast S128x128 x shapeCasts_S1x1x128x128_S128x128
def words (x : Vec Ideal S1x1x128x512 .i32) : IVec S128x512 32 := shapeCast S128x512 x shapeCasts_S1x1x128x512_S128x512

/-- A table of 128 lanes, four times side by side. -/
def lanes (x : FVec Ideal S128x128 .f32) : FVec Ideal S128x512 .f32 :=
  concatenate S128x512 1 [⟨S128x128, x⟩, ⟨S128x128, x⟩, ⟨S128x128, x⟩, ⟨S128x128, x⟩] concatenates_S128x128_S128x128_S128x128_S128x128_S128x512_d1

/-- The two numbers of each word. -/
def lows (x : IVec S128x512 32) : FVec Ideal S128x512 .f32 := bitcastToFloat .f32 (shli x (broadcast S128x512 16#32))
def highs (x : IVec S128x512 32) : FVec Ideal S128x512 .f32 := bitcastToFloat .f32 (andi x (broadcast S128x512 4294901760#32))

/-- The real parts above the imaginary parts. -/
def stacked (a b : FVec Ideal S128x512 .f32) : FVec Ideal S256x512 .bf16 :=
  truncf .bf16 (concatenate S256x512 0 [⟨S128x512, a⟩, ⟨S128x512, b⟩] concatenates_S128x512_S128x512_S256x512_d0) bitsLt_bf16_f32

/-- The words times the twiddle factors. -/
def turned (cos sin re im : FVec Ideal S128x512 .f32) : FVec Ideal S256x512 .bf16 :=
  stacked (addf (mulf re cos) (mulf im sin)) (subf (mulf im cos) (mulf re sin))

/-- The matrix as the body takes it: a cast that changes no shape. -/
def matrix (wf : Vec Ideal S128x256 .bf16) : FVec Ideal S128x256 .bf16 := shapeCast S128x256 wf shapeCasts_S128x256_S128x256

/-- The matrix times those. -/
def last (wf : FVec Ideal S128x256 .bf16) (p : FVec Ideal S256x512 .bf16) : FVec Ideal S1x128x1x512 .f32 :=
  shapeCast S1x128x1x512 (matmul dot_S128x256_S256x512_S128x512_1_0_0_1_n_n none wf p (constant S128x512 .f32 0x00000000#32)) shapeCasts_S128x512_S1x128x1x512

/-- What the kernel stores for one column. -/
def column (cb sb : FVec Ideal S128x128 .f32) (cr sr : Vec Ideal S1x1x128x128 .f32) (w : Vec Ideal S1x1x128x512 .i32) (wf : Vec Ideal S128x256 .bf16) : FVec Ideal S1x128x1x512 .f32 :=
  last (matrix wf) (turned (lanes (subf (mulf cb (table cr)) (mulf sb (table sr)))) (lanes (addf (mulf sb (table cr)) (mulf cb (table sr)))) (lows (words w)) (highs (words w)))

/-! ## The stages at an index -/

theorem matrix_apply (wf : Vec Ideal S128x256 .bf16) (k : Fin 128) (n : Fin 256) : matrix wf (ValueIdx.ix2 k n) = wf (ValueIdx.ix2 k n) := by
  unfold matrix
  pointwise

theorem table_apply (x : Vec Ideal S1x1x128x128 .f32) (n l : Fin 128) : table x (ValueIdx.ix2 n l) = x (ValueIdx.ix4 (0 : Fin 1) (0 : Fin 1) n l) := by
  unfold table
  pointwise
  rfl
theorem words_apply (x : Vec Ideal S1x1x128x512 .i32) (n : Fin 128) (d : Fin 512) : words x (ValueIdx.ix2 n d) = x (ValueIdx.ix4 (0 : Fin 1) (0 : Fin 1) n d) := by
  unfold words
  pointwise
  rfl

theorem lanes_apply (x : FVec Ideal S128x128 .f32) (n : Fin 128) (d : Fin 512) : lanes x (ValueIdx.ix2 n d) = x (ValueIdx.ix2 n (⟨d.val % 128, by omega⟩ : Fin 128)) := by
  unfold lanes
  pointwise
  have hd := d.isLt
  show (if h : d.val < 128 then x (ValueIdx.ix2 n ⟨d.val, h⟩) else if h' : d.val - 128 < 128 then x (ValueIdx.ix2 n ⟨d.val - 128, h'⟩)
    else if h'' : d.val - 128 - 128 < 128 then x (ValueIdx.ix2 n ⟨d.val - 128 - 128, h''⟩) else x (ValueIdx.ix2 n ⟨d.val - 128 - 128 - 128, by omega⟩)) = x (ValueIdx.ix2 n ⟨d.val % 128, by omega⟩)
  split_ifs with h h' h'' <;> exact congrArg (fun l => x (ValueIdx.ix2 n l)) (Fin.ext (by dsimp only; omega))

theorem lows_apply (x : IVec S128x512 32) (i : S128x512.Idx) : lows x i = Wave.lo (x i) := rfl
theorem highs_apply (x : IVec S128x512 32) (i : S128x512.Idx) : highs x i = Wave.hi (x i) := rfl

theorem stacked_apply (a b : FVec Ideal S128x512 .f32) (n : Fin 256) (d : Fin 512) :
    stacked a b (ValueIdx.ix2 n d) = if h : n.val < 128 then a (ValueIdx.ix2 (⟨n.val, h⟩ : Fin 128) d) else b (ValueIdx.ix2 (⟨n.val - 128, by have := n.isLt; omega⟩ : Fin 128) d) := by
  unfold stacked
  pointwise
  rfl

theorem last_apply (wf : FVec Ideal S128x256 .bf16) (p : FVec Ideal S256x512 .bf16) (k : Fin 128) (d : Fin 512) :
    last wf p (ValueIdx.ix4 (0 : Fin 1) k (0 : Fin 1) d) = ∑ n : Fin 256, wf (ValueIdx.ix2 k n) * p (ValueIdx.ix2 n d) := by
  unfold last
  pointwise
  rfl

theorem turned_apply (cb sb : FVec Ideal S128x128 .f32) (cr sr : Vec Ideal S1x1x128x128 .f32) (w : Vec Ideal S1x1x128x512 .i32) (n : Fin 256) (d : Fin 512) :
    turned (lanes (subf (mulf cb (table cr)) (mulf sb (table sr)))) (lanes (addf (mulf sb (table cr)) (mulf cb (table sr)))) (lows (words w)) (highs (words w)) (ValueIdx.ix2 n d)
      = Wave.parts (fun n => w (ValueIdx.ix4 (0 : Fin 1) (0 : Fin 1) n d))
          (fun n => cb (ValueIdx.ix2 n (⟨d.val % 128, by omega⟩ : Fin 128))) (fun n => sb (ValueIdx.ix2 n (⟨d.val % 128, by omega⟩ : Fin 128)))
          (fun n => cr (ValueIdx.ix4 (0 : Fin 1) (0 : Fin 1) n (⟨d.val % 128, by omega⟩ : Fin 128))) (fun n => sr (ValueIdx.ix4 (0 : Fin 1) (0 : Fin 1) n (⟨d.val % 128, by omega⟩ : Fin 128))) n := by
  have hc : ∀ n : Fin 128, lanes (subf (mulf cb (table cr)) (mulf sb (table sr))) (ValueIdx.ix2 n d)
      = Wave.cosOf (cb (ValueIdx.ix2 n (⟨d.val % 128, by omega⟩ : Fin 128))) (sb (ValueIdx.ix2 n (⟨d.val % 128, by omega⟩ : Fin 128)))
          (cr (ValueIdx.ix4 (0 : Fin 1) (0 : Fin 1) n (⟨d.val % 128, by omega⟩ : Fin 128))) (sr (ValueIdx.ix4 (0 : Fin 1) (0 : Fin 1) n (⟨d.val % 128, by omega⟩ : Fin 128))) := fun n => by
    refine (lanes_apply _ n d).trans ?_
    rw [← table_apply cr, ← table_apply sr]
    rfl
  have hs : ∀ n : Fin 128, lanes (addf (mulf sb (table cr)) (mulf cb (table sr))) (ValueIdx.ix2 n d)
      = Wave.sinOf (cb (ValueIdx.ix2 n (⟨d.val % 128, by omega⟩ : Fin 128))) (sb (ValueIdx.ix2 n (⟨d.val % 128, by omega⟩ : Fin 128)))
          (cr (ValueIdx.ix4 (0 : Fin 1) (0 : Fin 1) n (⟨d.val % 128, by omega⟩ : Fin 128))) (sr (ValueIdx.ix4 (0 : Fin 1) (0 : Fin 1) n (⟨d.val % 128, by omega⟩ : Fin 128))) := fun n => by
    refine (lanes_apply _ n d).trans ?_
    rw [← table_apply cr, ← table_apply sr]
    rfl
  have hl : ∀ n : Fin 128, lows (words w) (ValueIdx.ix2 n d) = Wave.lo (w (ValueIdx.ix4 (0 : Fin 1) (0 : Fin 1) n d)) := fun n =>
    (lows_apply _ _).trans (congrArg Wave.lo (words_apply w n d))
  have hh : ∀ n : Fin 128, highs (words w) (ValueIdx.ix2 n d) = Wave.hi (w (ValueIdx.ix4 (0 : Fin 1) (0 : Fin 1) n d)) := fun n =>
    (highs_apply _ _).trans (congrArg Wave.hi (words_apply w n d))
  refine (stacked_apply _ _ n d).trans ?_
  unfold Wave.parts
  split_ifs with h
  · exact congrArg₂ (· + ·) (congrArg₂ (· * ·) (hl _) (hc _)) (congrArg₂ (· * ·) (hh _) (hs _))
  · exact congrArg₂ (· - ·) (congrArg₂ (· * ·) (hh _) (hc _)) (congrArg₂ (· * ·) (hl _) (hs _))

/-- What the kernel stores for one column, at an index. -/
theorem column_apply (cb sb : FVec Ideal S128x128 .f32) (cr sr : Vec Ideal S1x1x128x128 .f32) (w : Vec Ideal S1x1x128x512 .i32) (wf : Vec Ideal S128x256 .bf16) (k : Fin 128) (d : Fin 512) :
    column cb sb cr sr w wf (ValueIdx.ix4 (0 : Fin 1) k (0 : Fin 1) d)
      = Wave.wave (fun n => wf (ValueIdx.ix2 k n)) (fun n => w (ValueIdx.ix4 (0 : Fin 1) (0 : Fin 1) n d))
          (fun n => cb (ValueIdx.ix2 n (⟨d.val % 128, by omega⟩ : Fin 128))) (fun n => sb (ValueIdx.ix2 n (⟨d.val % 128, by omega⟩ : Fin 128)))
          (fun n => cr (ValueIdx.ix4 (0 : Fin 1) (0 : Fin 1) n (⟨d.val % 128, by omega⟩ : Fin 128))) (fun n => sr (ValueIdx.ix4 (0 : Fin 1) (0 : Fin 1) n (⟨d.val % 128, by omega⟩ : Fin 128))) :=
  (last_apply (matrix wf) _ k d).trans (Finset.sum_congr rfl fun n _ => congrArg₂ (· * ·) (matrix_apply wf k n) (turned_apply cb sb cr sr w n d))

/-! ## The body spells that column out in pieces of several shapes -/

section
variable (b0 b1 cr sr : Vec Ideal S1x1x128x128 .f32) (cb sb : FVec Ideal S128x128 .f32) (w : Vec Ideal S1x1x128x512 .i32) (wf : Vec Ideal S128x256 .bf16)

theorem column0 : k0_pay6 (k0_pay4 wf) (k0_pay5 b0 b1 cr sr w) = column (k0_pay2 b0) (k0_pay3 b1) cr sr w wf := rfl
theorem column1 : k0_pay8 (k0_pay7 cb sb cr sr w wf) = column cb sb cr sr w wf := rfl
theorem column2 : k0_pay10 (k0_pay9 cb sb cr sr w wf) = column cb sb cr sr w wf := rfl
theorem column3 : k0_pay11 cb sb cr sr w wf = column cb sb cr sr w wf := rfl
theorem column4 : k0_pay12 cb sb cr sr w wf = column cb sb cr sr w wf := rfl
theorem column5 : k0_pay14 cb sb (k0_pay13 cr) sr w wf = column cb sb cr sr w wf := rfl
theorem column6 : k0_pay16 cb sb (k0_pay15 cr) sr w wf = column cb sb cr sr w wf := rfl
theorem column7 : k0_pay21 cb sb (k0_pay17 cr) (k0_pay18 sr) (k0_pay19 cb cr) (k0_pay20 sb sr) w wf = column cb sb cr sr w wf := rfl
theorem column8 : k0_pay27 (k0_pay24 cb sb cr sr) (k0_pay25 sb cr) (k0_pay26 cb sr) w wf = column cb sb cr sr w wf := rfl
theorem column9 : k0_pay32 (k0_pay30 cb sb cr sr) (k0_pay31 cb sb cr sr) w wf = column cb sb cr sr w wf := rfl
theorem column10 : k0_pay38 (k0_pay35 cb sb cr sr) (k0_pay36 cb sb cr sr) (k0_pay37 w) wf = column cb sb cr sr w wf := rfl
theorem column11 : k0_pay45 (k0_pay41 cb sb cr sr) (k0_pay42 cb sb cr sr) (k0_pay43 w) (k0_pay44 wf) = column cb sb cr sr w wf := rfl
theorem column12 : k0_pay53 (k0_pay48 cb sb cr sr) (k0_pay49 cb sb cr sr) (k0_pay50 w) (k0_pay51 wf) (k0_pay52 w) = column cb sb cr sr w wf := rfl
theorem column13 : k0_pay62 (k0_pay56 cb sb cr sr) (k0_pay57 cb sb cr sr) (k0_pay59 wf) (k0_pay60 w) (k0_pay61 w) = column cb sb cr sr w wf := rfl
theorem column14 : k0_pay73 (k0_pay66 cb sb cr sr) (k0_pay68 wf) (k0_pay69 w) (k0_pay71 cb sb cr sr w) (k0_pay72 cb sb cr sr w) = column cb sb cr sr w wf := rfl
theorem column15 : k0_pay1 (k0_pay74 wf) (k0_pay75 cb sb cr sr w) = column cb sb cr sr w wf := rfl
end

end Cert.Kernel4Ideal.Out

end
-- ==== Proof.Wave.Out.lean ====
/- Hand-written: each window's block at a point, and what the kernel's output array holds after the run, over the extended reals. -/
module

public import proofs.«01_k».proof.Proof.Wave.Payload
public import Idealize.ShloMosaic.Lib.StableHlo.RunRead
public import Idealize.ShloMosaic.Lib.IdealHost

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic Idealize.SL.Sem
open Idealize.ShloMosaic.WordCmp Idealize.ShloMosaic.Pipeline

variable (m : (ℓ : Loc nD τ sig) → Buf (Elt Ideal) ℓ)

/-! ## The argument and the constants -/

abbrev A0 (c : Dev nD) : Vec Ideal S2x128x128x512 .i32 := m ((c.tc : Thread nD τ).loc main_arg0)

/-- The constants the host code computes: the blocks' table, the columns' table and the matrix. -/
def T1 : Vec Ideal S2x8x128 .f32 := fun i => FloatOps.ofBits (F := Ideal) .f32 (lit1 (S2x8x128.rowMajor i))
def T2 : Vec Ideal S2x16x128 .f32 := fun i => FloatOps.ofBits (F := Ideal) .f32 (lit2 (S2x16x128.rowMajor i))
def T3 : FVec Ideal S128x256 .f32 := fun i => FloatOps.ofBits (F := Ideal) .f32 (lit0 (S128x256.rowMajor i))

/-- Element (k, q) of the transform of sequence B, at channel d. -/
def Y (c : Dev nD) (B : Fin 2) (k q : Fin 128) (d : Fin 512) : EReal :=
  Wave.wave (fun n => T3 (ValueIdx.ix2 k n)) (fun n => A0 m c (ValueIdx.ix4 B q n d))
    (fun n => T1 (ValueIdx.ix3 (0 : Fin 2) (⟨q.val / 16, by have := q.isLt; omega⟩ : Fin 8) n)) (fun n => T1 (ValueIdx.ix3 (1 : Fin 2) (⟨q.val / 16, by have := q.isLt; omega⟩ : Fin 8) n))
    (fun n => T2 (ValueIdx.ix3 (0 : Fin 2) (⟨q.val % 16, by omega⟩ : Fin 16) n)) (fun n => T2 (ValueIdx.ix3 (1 : Fin 2) (⟨q.val % 16, by omega⟩ : Fin 16) n))

/-- What the run leaves in the array. -/
def outA (c : Dev nD) : Vec Ideal S2x128x128x512 .f32 := fun i => Y m c (i 0) (i 1) (i 2) (i 3)

/-! ## What the host prepares: each table's lanes -/

theorem lanes8_apply (x : Vec Ideal S2x8x128 .f32) (p : Fin 2) (j : Fin 8) (n l : Fin 128) :
    (broadcastInDim S2x8x128x128 ![0, 1, 2, 3] bcast_S2x8x128x1_S2x8x128x128_0_1_2_3 (broadcastInDim S2x8x128x1 ![0, 1, 2] bcast_S2x8x128_S2x8x128x1_0_1_2 x) : Vec Ideal S2x8x128x128 .f32)
      (ValueIdx.ix4 p j n l) = x (ValueIdx.ix3 p j n) := by
  pointwise
  rfl
theorem lanes16_apply (x : Vec Ideal S2x16x128 .f32) (p : Fin 2) (j : Fin 16) (n l : Fin 128) :
    (broadcastInDim S2x16x128x128 ![0, 1, 2, 3] bcast_S2x16x128x1_S2x16x128x128_0_1_2_3 (broadcastInDim S2x16x128x1 ![0, 1, 2] bcast_S2x16x128_S2x16x128x1_0_1_2 x) : Vec Ideal S2x16x128x128 .f32)
      (ValueIdx.ix4 p j n l) = x (ValueIdx.ix3 p j n) := by
  pointwise
  rfl

theorem V_v2 (c : Dev nD) : V m c main_v2
    = broadcastInDim S2x8x128x128 ![0, 1, 2, 3] bcast_S2x8x128x1_S2x8x128x128_0_1_2_3 (broadcastInDim S2x8x128x1 ![0, 1, 2] bcast_S2x8x128_S2x8x128x1_0_1_2 T1) := by
  unfold V; after_reads_simp; rfl
theorem V_v4 (c : Dev nD) : V m c main_v4
    = broadcastInDim S2x16x128x128 ![0, 1, 2, 3] bcast_S2x16x128x1_S2x16x128x128_0_1_2_3 (broadcastInDim S2x16x128x1 ![0, 1, 2] bcast_S2x16x128_S2x16x128x1_0_1_2 T2) := by
  unfold V; after_reads_simp; rfl
theorem V_v0 (c : Dev nD) : V m c main_v0 = truncf .bf16 T3 bitsLt_bf16_f32 := by
  unfold V; after_reads_simp; rfl

/-! ## The blocks' places -/

theorem place0 : ∀ t : Fin grid0.N, cc0_transform_0 (grid0.coords t) 0 = t.val % 2 ∧ cc0_transform_0 (grid0.coords t) 1 = t.val / 2 := by decide +kernel
theorem place1 : ∀ t : Fin grid0.N, cc0_transform_1 (grid0.coords t) 1 = t.val / 2 := by decide +kernel
theorem place4 : ∀ t : Fin grid0.N, cc0_transform_4 (grid0.coords t) 0 = t.val % 2 ∧ cc0_transform_4 (grid0.coords t) 2 = t.val / 2 := by decide +kernel

/-- The sequence of a point, and the numbers of its sixteen columns. -/
def seqOf (t : Fin grid0.N) : Fin 2 := ⟨t.val % 2, by omega⟩
def octOf (t : Fin grid0.N) : Fin 8 := ⟨t.val / 2, by have : t.val < 16 := t.isLt; omega⟩
def colOf (t : Fin grid0.N) (j : Fin 16) : Fin 128 := ⟨t.val / 2 * 16 + j.val, by have : t.val < 16 := t.isLt; have := j.isLt; omega⟩

/-! ## The blocks -/

theorem block0_apply (c : Dev nD) (t : Fin grid0.N) (j : Fin 16) (n : Fin 128) (d : Fin 512) :
    iblk m c 0 t (ValueIdx.ix4 (0 : Fin 1) j n d) = A0 m c (ValueIdx.ix4 (seqOf t) (colOf t j) n d) := by
  refine Eq.trans ?_ (congrFun (V_main_arg0 m c) _)
  refine congrArg (V m c main_arg0) (funext fun a => Fin.ext ?_)
  refine (Window.rect_emb_val (cfg0.win 0) t (ValueIdx.ix4 (0 : Fin 1) j n d) a).trans ?_
  match a with
  | ⟨0, _⟩ => exact (congrArg (fun n => n * 1 + 0) (place0 t).1).trans (by show t.val % 2 * 1 + 0 = t.val % 2; omega)
  | ⟨1, _⟩ => exact congrArg (fun n => n * 16 + j.val) (place0 t).2
  | ⟨2, _⟩ => show 0 * 128 + n.val = n.val; omega
  | ⟨3, _⟩ => show 0 * 512 + d.val = d.val; omega
theorem block1_apply (c : Dev nD) (t : Fin grid0.N) (p : Fin 2) (n l : Fin 128) :
    iblk m c 1 t (ValueIdx.ix4 p (0 : Fin 1) n l) = T1 (ValueIdx.ix3 p (octOf t) n) := by
  refine Eq.trans ?_ ((congrFun (V_v2 m c) _).trans (lanes8_apply _ p (octOf t) n l))
  refine congrArg (V m c main_v2) (funext fun a => Fin.ext ?_)
  refine (Window.rect_emb_val (cfg0.win 1) t (ValueIdx.ix4 p (0 : Fin 1) n l) a).trans ?_
  match a with
  | ⟨0, _⟩ => show 0 * 2 + p.val = p.val; omega
  | ⟨1, _⟩ => exact (congrArg (fun n => n * 1 + 0) (place1 t)).trans (by show t.val / 2 * 1 + 0 = t.val / 2; omega)
  | ⟨2, _⟩ => show 0 * 128 + n.val = n.val; omega
  | ⟨3, _⟩ => show 0 * 128 + l.val = l.val; omega
theorem block2_apply (c : Dev nD) (t : Fin grid0.N) (p : Fin 2) (j : Fin 16) (n l : Fin 128) :
    iblk m c 2 t (ValueIdx.ix4 p j n l) = T2 (ValueIdx.ix3 p j n) := by
  refine Eq.trans ?_ ((congrFun (V_v4 m c) _).trans (lanes16_apply _ p j n l))
  refine congrArg (V m c main_v4) (funext fun a => Fin.ext ?_)
  refine (Window.rect_emb_val (cfg0.win 2) t (ValueIdx.ix4 p j n l) a).trans ?_
  match a with
  | ⟨0, _⟩ => show 0 * 2 + p.val = p.val; omega
  | ⟨1, _⟩ => show 0 * 16 + j.val = j.val; omega
  | ⟨2, _⟩ => show 0 * 128 + n.val = n.val; omega
  | ⟨3, _⟩ => show 0 * 128 + l.val = l.val; omega
theorem block3_apply (c : Dev nD) (t : Fin grid0.N) (k : Fin 128) (n : Fin 256) : iblk m c 3 t (ValueIdx.ix2 k n) = T3 (ValueIdx.ix2 k n) := by
  refine Eq.trans ?_ ((congrFun (V_v0 m c) _).trans rfl)
  refine congrArg (V m c main_v0) (funext fun a => Fin.ext ?_)
  refine (Window.rect_emb_val (cfg0.win 3) t (ValueIdx.ix2 k n) a).trans ?_
  match a with
  | ⟨0, _⟩ => show 0 * 128 + k.val = k.val; omega
  | ⟨1, _⟩ => show 0 * 256 + n.val = n.val; omega

/-! ## The parts of the blocks the body reads -/

theorem ldWords (x : Vec Ideal S1x16x128x512 .i32) (j : Fin 16) (h : ∀ a, (![0, j.val, 0, 0] : Fin 4 → Nat) a + S1x1x128x512.size a ≤ S1x16x128x512.size a) (n : Fin 128) (d : Fin 512) :
    View.ld x (Rect.unit (s := S1x16x128x512) ![0, j.val, 0, 0] S1x1x128x512.size h) (ValueIdx.ix4 (0 : Fin 1) (0 : Fin 1) n d) = x (ValueIdx.ix4 (0 : Fin 1) j n d) :=
  View.ld_unit_apply_of x _ _ _ _ _ fun a => by
    match a with
    | ⟨0, _⟩ => rfl
    | ⟨1, _⟩ => rfl
    | ⟨2, _⟩ => show n.val = 0 + n.val; omega
    | ⟨3, _⟩ => show d.val = 0 + d.val; omega
theorem ldBase (x : Vec Ideal S2x1x128x128 .f32) (p : Fin 2) (h : ∀ a, (![p.val, 0, 0, 0] : Fin 4 → Nat) a + S1x1x128x128.size a ≤ S2x1x128x128.size a) (n l : Fin 128) :
    View.ld x (Rect.unit (s := S2x1x128x128) ![p.val, 0, 0, 0] S1x1x128x128.size h) (ValueIdx.ix4 (0 : Fin 1) (0 : Fin 1) n l) = x (ValueIdx.ix4 p (0 : Fin 1) n l) :=
  View.ld_unit_apply_of x _ _ _ _ _ fun a => by
    match a with
    | ⟨0, _⟩ => rfl
    | ⟨1, _⟩ => rfl
    | ⟨2, _⟩ => show n.val = 0 + n.val; omega
    | ⟨3, _⟩ => show l.val = 0 + l.val; omega
theorem ldStep (x : Vec Ideal S2x16x128x128 .f32) (p : Fin 2) (j : Fin 16) (h : ∀ a, (![p.val, j.val, 0, 0] : Fin 4 → Nat) a + S1x1x128x128.size a ≤ S2x16x128x128.size a) (n l : Fin 128) :
    View.ld x (Rect.unit (s := S2x16x128x128) ![p.val, j.val, 0, 0] S1x1x128x128.size h) (ValueIdx.ix4 (0 : Fin 1) (0 : Fin 1) n l) = x (ValueIdx.ix4 p j n l) :=
  View.ld_unit_apply_of x _ _ _ _ _ fun a => by
    match a with
    | ⟨0, _⟩ => rfl
    | ⟨1, _⟩ => rfl
    | ⟨2, _⟩ => show n.val = 0 + n.val; omega
    | ⟨3, _⟩ => show l.val = 0 + l.val; omega

theorem zeros : (![0, 0] : Fin 2 → Nat) = fun _ => 0 := by
  funext a; match a with
  | ⟨0, _⟩ => rfl
  | ⟨1, _⟩ => rfl
theorem ldMatrix (x : Vec Ideal S128x256 .bf16) : View.ld x r0_5 = x := View.ld_unit_zero (S := S128x256) zeros _ x

/-! ## What the body stores -/

theorem at_quad (x : S1x128x1x512.Idx) : x = ValueIdx.ix4 (0 : Fin 1) (x 1 : Fin 128) (0 : Fin 1) (x 3 : Fin 512) := by
  funext a; match a with
  | ⟨0, _⟩ => exact Fin.ext (by have : (x 0).val < 1 := (x 0).isLt; show (x 0).val = 0; omega)
  | ⟨1, _⟩ => rfl
  | ⟨2, _⟩ => exact Fin.ext (by have : (x 2).val < 1 := (x 2).isLt; show (x 2).val = 0; omega)
  | ⟨3, _⟩ => rfl

/-- The transform from equal parts. -/
theorem wave_congr {f f' : Fin 256 → EReal} {w w' : Fin 128 → BitVec 32} {a a' b b' p p' q q' : Fin 128 → EReal} (hf : ∀ n, f n = f' n) (hw : ∀ n, w n = w' n)
    (ha : ∀ n, a n = a' n) (hb : ∀ n, b n = b' n) (hp : ∀ n, p n = p' n) (hq : ∀ n, q n = q' n) : Wave.wave f w a b p q = Wave.wave f' w' a' b' p' q' := by
  rw [funext hf, funext hw, funext ha, funext hb, funext hp, funext hq]

/-- The value of a block at a row, a column and a channel. -/
def blockY (c : Dev nD) (t : Fin grid0.N) : Vec Ideal S1x128x16x512 .f32 := fun y => Y m c (seqOf t) (y 1) (colOf t (y 2)) (y 3)

theorem Y_col (c : Dev nD) (t : Fin grid0.N) (j : Fin 16) (k : Fin 128) (d : Fin 512) :
    Y m c (seqOf t) k (colOf t j) d
      = Wave.wave (fun n => T3 (ValueIdx.ix2 k n)) (fun n => A0 m c (ValueIdx.ix4 (seqOf t) (colOf t j) n d))
          (fun n => T1 (ValueIdx.ix3 (0 : Fin 2) (octOf t) n)) (fun n => T1 (ValueIdx.ix3 (1 : Fin 2) (octOf t) n))
          (fun n => T2 (ValueIdx.ix3 (0 : Fin 2) j n)) (fun n => T2 (ValueIdx.ix3 (1 : Fin 2) j n)) := by
  have hj := j.isLt
  have e1 : (⟨(colOf t j).val / 16, by have := (colOf t j).isLt; omega⟩ : Fin 8) = octOf t := Fin.ext (by show (t.val / 2 * 16 + j.val) / 16 = t.val / 2; omega)
  have e2 : (⟨(colOf t j).val % 16, by omega⟩ : Fin 16) = j := Fin.ext (by show (t.val / 2 * 16 + j.val) % 16 = j.val; omega)
  unfold Y
  rw [e1, e2]

/-- Column j of a point's sixteen, as the body stores it. -/
theorem columnY (c : Dev nD) (t : Fin grid0.N) (j : Fin 16) (hw) (h0) (h1) (h) (x : S1x128x1x512.Idx) :
    column (k0_pay76 (iblk m c 0 t) (iblk m c 1 t) (iblk m c 2 t) (iblk m c 3 t)) (k0_pay77 (iblk m c 0 t) (iblk m c 1 t) (iblk m c 2 t) (iblk m c 3 t))
        (View.ld (iblk m c 2 t) (Rect.unit (s := S2x16x128x128) ![(0 : Fin 2).val, j.val, 0, 0] S1x1x128x128.size h0))
        (View.ld (iblk m c 2 t) (Rect.unit (s := S2x16x128x128) ![(1 : Fin 2).val, j.val, 0, 0] S1x1x128x128.size h1))
        (View.ld (iblk m c 0 t) (Rect.unit (s := S1x16x128x512) ![0, j.val, 0, 0] S1x1x128x512.size hw)) (View.ld (iblk m c 3 t) r0_5) x
      = blockY m c t ((Rect.unit (s := S1x128x16x512) ![0, 0, j.val, 0] S1x128x1x512.size h).emb x) := by
  have e1 : (Rect.unit (s := S1x128x16x512) ![0, 0, j.val, 0] S1x128x1x512.size h).emb x 1 = x 1 := Fin.ext (by show 0 + 1 * (x 1).val = (x 1).val; omega)
  have e2 : (Rect.unit (s := S1x128x16x512) ![0, 0, j.val, 0] S1x128x1x512.size h).emb x 2 = j :=
    Fin.ext (by have : (x 2).val < 1 := (x 2).isLt; show j.val + 1 * (x 2).val = j.val; omega)
  have e3 : (Rect.unit (s := S1x128x16x512) ![0, 0, j.val, 0] S1x128x1x512.size h).emb x 3 = x 3 := Fin.ext (by show 0 + 1 * (x 3).val = (x 3).val; omega)
  have e : blockY m c t ((Rect.unit (s := S1x128x16x512) ![0, 0, j.val, 0] S1x128x1x512.size h).emb x) = Y m c (seqOf t) (x 1) (colOf t j) (x 3) :=
    (congrArg₂ (fun k q => Y m c (seqOf t) k (colOf t q) _) e1 e2).trans (congrArg (fun d => Y m c (seqOf t) (x 1) (colOf t j) d) e3)
  refine (congrArg _ (at_quad x)).trans ((column_apply _ _ _ _ _ _ (x 1) (x 3)).trans (Eq.trans ?_ (e.trans (Y_col m c t j _ _)).symm))
  exact wave_congr (fun n => (congrFun (ldMatrix _) _).trans (block3_apply m c t _ n)) (fun n => (ldWords _ j hw n _).trans (block0_apply m c t j n _))
    (fun n => (table_apply _ n _).trans ((ldBase _ 0 _ n _).trans (block1_apply m c t 0 n _)))
    (fun n => (table_apply _ n _).trans ((ldBase _ 1 _ n _).trans (block1_apply m c t 1 n _)))
    (fun n => (ldStep _ 0 j h0 n _).trans (block2_apply m c t 0 j n _)) (fun n => (ldStep _ 1 j h1 n _).trans (block2_apply m c t 1 j n _))

/-- The block a point leaves. -/
theorem block4_apply (c : Dev nD) (t : Fin grid0.N) (y : S1x128x16x512.Idx) : (dats m 0 c).after 4 t y = blockY m c t y := by
  refine (congrFun (after0_4 m c t) _).trans ?_
  unfold out0_4
  refine View.canon_apply_of_pieces (Val := Elt Ideal) (blockY m c t) _ ?_ y (cover0_4 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact (congrFun (column15 _ _ _ _ _ _) x).trans (columnY m c t 15 _ _ _ inb_S1x128x16x512_S1x128x1x512_0_0_15_0 x)
  · exact (congrFun (column14 _ _ _ _ _ _) x).trans (columnY m c t 14 _ _ _ inb_S1x128x16x512_S1x128x1x512_0_0_14_0 x)
  · exact (congrFun (column13 _ _ _ _ _ _) x).trans (columnY m c t 13 _ _ _ inb_S1x128x16x512_S1x128x1x512_0_0_13_0 x)
  · exact (congrFun (column12 _ _ _ _ _ _) x).trans (columnY m c t 12 _ _ _ inb_S1x128x16x512_S1x128x1x512_0_0_12_0 x)
  · exact (congrFun (column11 _ _ _ _ _ _) x).trans (columnY m c t 11 _ _ _ inb_S1x128x16x512_S1x128x1x512_0_0_11_0 x)
  · exact (congrFun (column10 _ _ _ _ _ _) x).trans (columnY m c t 10 _ _ _ inb_S1x128x16x512_S1x128x1x512_0_0_10_0 x)
  · exact (congrFun (column9 _ _ _ _ _ _) x).trans (columnY m c t 9 _ _ _ inb_S1x128x16x512_S1x128x1x512_0_0_9_0 x)
  · exact (congrFun (column8 _ _ _ _ _ _) x).trans (columnY m c t 8 _ _ _ inb_S1x128x16x512_S1x128x1x512_0_0_8_0 x)
  · exact (congrFun (column7 _ _ _ _ _ _) x).trans (columnY m c t 7 _ _ _ inb_S1x128x16x512_S1x128x1x512_0_0_7_0 x)
  · exact (congrFun (column6 _ _ _ _ _ _) x).trans (columnY m c t 6 _ _ _ inb_S1x128x16x512_S1x128x1x512_0_0_6_0 x)
  · exact (congrFun (column5 _ _ _ _ _ _) x).trans (columnY m c t 5 _ _ _ inb_S1x128x16x512_S1x128x1x512_0_0_5_0 x)
  · exact (congrFun (column4 _ _ _ _ _ _) x).trans (columnY m c t 4 _ _ _ inb_S1x128x16x512_S1x128x1x512_0_0_4_0 x)
  · exact (congrFun (column3 _ _ _ _ _ _) x).trans (columnY m c t 3 _ _ _ inb_S1x128x16x512_S1x128x1x512_0_0_3_0 x)
  · exact (congrFun (column2 _ _ _ _ _ _) x).trans (columnY m c t 2 _ _ _ inb_S1x128x16x512_S1x128x1x512_0_0_2_0 x)
  · exact (congrFun (column1 _ _ _ _ _ _) x).trans (columnY m c t 1 _ _ _ inb_S1x128x16x512_S1x128x1x512_0_0_1_0 x)
  · exact (congrFun (column0 _ _ _ _ _ _) x).trans (columnY m c t 0 _ _ _ inb_S1x128x16x512_S1x128x1x512_0_0_0_0 x)

/-- Every point writes its block back. -/
theorem flushed4 (t : Fin grid0.N) : (cfg0.win 4).flush t = true := flush0_4 t

/-- Where the output block of a point lies in the array. -/
def emb4 (t : Fin grid0.N) (y : S1x128x16x512.Idx) : S2x128x128x512.Idx := ((cfg0.win 4).blk t).view.emb y

theorem emb4_val (t : Fin grid0.N) (y : S1x128x16x512.Idx) :
    emb4 t y 0 = seqOf t ∧ emb4 t y 1 = y 1 ∧ emb4 t y 2 = colOf t (y 2) ∧ emb4 t y 3 = y 3 := by
  have h0 : (y 0).val < 1 := (y 0).isLt
  exact ⟨Fin.ext ((Window.rect_emb_val (cfg0.win 4) t y 0).trans ((congrArg (fun n => n * 1 + (y 0).val) (place4 t).1).trans (by show t.val % 2 * 1 + (y 0).val = t.val % 2; omega))),
    Fin.ext ((Window.rect_emb_val (cfg0.win 4) t y 1).trans (by show 0 * 128 + (y 1).val = (y 1).val; omega)),
    Fin.ext ((Window.rect_emb_val (cfg0.win 4) t y 2).trans (congrArg (fun n => n * 16 + (y 2).val) (place4 t).2)),
    Fin.ext ((Window.rect_emb_val (cfg0.win 4) t y 3).trans (by show 0 * 512 + (y 3).val = (y 3).val; omega))⟩

/-- The block a point leaves is the array's, where it lies. -/
theorem block4_emb (c : Dev nD) (t : Fin grid0.N) (y : S1x128x16x512.Idx) : (dats m 0 c).after 4 t y = outA m c (emb4 t y) := by
  obtain ⟨e0, e1, e2, e3⟩ := emb4_val t y
  refine (block4_apply m c t y).trans ?_
  exact (congrArg₂ (fun B k => Y m c B k (colOf t (y 2)) (y 3)) e0.symm e1.symm).trans (congrArg₂ (fun q d => Y m c (emb4 t y 0) (emb4 t y 1) q d) e2.symm e3.symm)

/-- Every place of the array lies in some point's block. -/
def pointOf (i : S2x128x128x512.Idx) : Fin grid0.N :=
  (⟨(i 2).val / 16 * 2 + (i 0).val, by have : (i 0).val < 2 := (i 0).isLt; have : (i 2).val < 128 := (i 2).isLt; omega⟩ : Fin 16)
def placeIn (i : S2x128x128x512.Idx) : S1x128x16x512.Idx := ValueIdx.ix4 (0 : Fin 1) (i 1 : Fin 128) (⟨(i 2).val % 16, by omega⟩ : Fin 16) (i 3 : Fin 512)
theorem cover4 (i : S2x128x128x512.Idx) : ∃ (t : Fin grid0.N) (y : S1x128x16x512.Idx), emb4 t y = i := by
  have h0 : (i 0).val < 2 := (i 0).isLt
  have h2 : (i 2).val < 128 := (i 2).isLt
  obtain ⟨e0, e1, e2, e3⟩ := emb4_val (pointOf i) (placeIn i)
  refine ⟨pointOf i, placeIn i, ?_⟩
  funext a
  match a with
  | ⟨0, _⟩ => exact e0.trans (Fin.ext (by show ((i 2).val / 16 * 2 + (i 0).val) % 2 = (i 0).val; omega))
  | ⟨1, _⟩ => exact e1
  | ⟨2, _⟩ => exact e2.trans (Fin.ext (by show ((i 2).val / 16 * 2 + (i 0).val) / 2 * 16 + (i 2).val % 16 = (i 2).val; omega))
  | ⟨3, _⟩ => exact e3

/-- The array the run leaves. -/
theorem arr_4 (c : Dev nD) : (dats m 0 c).arrAt 4 cfg0.N = outA m c :=
  (dats m 0 c).arrAt_eq_of_emb 4 (outA m c) (fun t _ y => block4_emb m c t y) fun i =>
    let ⟨t, y, e⟩ := cover4 i
    ⟨t, flushed4 t, e ▸ View.emb_mem_set _ y⟩

end Cert.Kernel4Ideal.Out

end
-- ==== Proof.Wave.Ref.lean ====
/- Hand-written: the reference of the Fourier mixer's last step, in named stages, and its result at an index. -/
module

public import proofs.«01_k».proof.Proof.Gen.Reference4Ideal.Run
public import proofs.«01_k».proof.Proof.Wave.Spec
public import Idealize.ShloMosaic.PureOps.Ideal
public import Idealize.ShloMosaic.Lib.Pointwise
public import Idealize.ShloMosaic.Lib.IdealHost

@[expose] public section

set_option maxRecDepth 16384

noncomputable section

namespace Cert.Reference4Ideal.Ref

open Cert.Reference4Ideal Cert.Reference4Ideal.Gen
open Idealize.ShloMosaic Idealize.ShloMosaic.TcCoe Idealize.ShloMosaic.Tactic

/-! ## The stages -/

/-- The two numbers of each word. -/
def lows (x : IVec S2x128x128x512 32) : FVec Ideal S2x128x128x512 .f32 :=
  bitcastToFloat (F := Ideal) .f32 (Host.shli x (broadcastInDim S2x128x128x512 ![] bcast_S_S2x128x128x512 (constantI S_ 32 16#32)))
def highs (x : IVec S2x128x128x512 32) : FVec Ideal S2x128x128x512 .f32 :=
  bitcastToFloat (F := Ideal) .f32 (andi x (broadcastInDim S2x128x128x512 ![] bcast_S_S2x128x128x512 (constantI S_ 32 4294901760#32)))

/-- A table of the blocks' angles for every column, and one of the columns' angles within a block. -/
def block (x : FVec Ideal S1x8x128 .f32) : FVec Ideal S8x16x128 .f32 :=
  broadcastInDim S8x16x128 ![0, 1, 2] bcast_S8x1x128_S8x16x128_0_1_2 (broadcastInDim S8x1x128 ![0, 2] bcast_S8x128_S8x1x128_0_2 (shapeCast _ x shapeCasts_S1x8x128_S8x128))
def rem (x : FVec Ideal S1x16x128 .f32) : FVec Ideal S8x16x128 .f32 :=
  broadcastInDim S8x16x128 ![0, 1, 2] bcast_S1x16x128_S8x16x128_0_1_2 (broadcastInDim S1x16x128 ![1, 2] bcast_S16x128_S1x16x128_1_2 (shapeCast _ x shapeCasts_S1x16x128_S16x128))

/-- The cosines' and the sines' halves of those two tables. -/
def cosBlock (x : FVec Ideal S2x8x128 .f32) : FVec Ideal S8x16x128 .f32 := block (extractStridedSlice S1x8x128 ![0, 0, 0] x slices_S2x8x128_S1x8x128_0_0_0)
def sinBlock (x : FVec Ideal S2x8x128 .f32) : FVec Ideal S8x16x128 .f32 := block (extractStridedSlice S1x8x128 ![1, 0, 0] x slices_S2x8x128_S1x8x128_1_0_0)
def cosRem (x : FVec Ideal S2x16x128 .f32) : FVec Ideal S8x16x128 .f32 := rem (extractStridedSlice S1x16x128 ![0, 0, 0] x slices_S2x16x128_S1x16x128_0_0_0)
def sinRem (x : FVec Ideal S2x16x128 .f32) : FVec Ideal S8x16x128 .f32 := rem (extractStridedSlice S1x16x128 ![1, 0, 0] x slices_S2x16x128_S1x16x128_1_0_0)

/-- A table for every sequence and channel. -/
def wide (x : FVec Ideal S8x16x128 .f32) : FVec Ideal S2x128x128x512 .f32 :=
  broadcastInDim S2x128x128x512 ![0, 1, 2, 3] bcast_S1x128x128x1_S2x128x128x512_0_1_2_3 (shapeCast _ x shapeCasts_S8x16x128_S1x128x128x1)

/-- The real parts beside the imaginary parts. -/
def beside (a b : FVec Ideal S2x128x128x512 .f32) : FVec Ideal S2x128x256x512 .f32 :=
  concatenate S2x128x256x512 2 [⟨S2x128x128x512, a⟩, ⟨S2x128x128x512, b⟩] concatenates_S2x128x128x512_S2x128x128x512_S2x128x256x512_d2

/-- The words times the twiddle factors. -/
def turned (cos sin re im : FVec Ideal S2x128x128x512 .f32) : FVec Ideal S2x128x256x512 .f32 :=
  beside (addf (mulf re cos) (mulf im sin)) (subf (mulf im cos) (mulf re sin))

/-- The matrix times those. -/
def last (p : FVec Ideal S2x128x256x512 .f32) (wf : FVec Ideal S128x256 .f32) : FVec Ideal S2x128x128x512 .f32 :=
  transpose S2x128x128x512 [0, 3, 1, 2] (Host.dotGeneral dot_S2x128x256x512_S128x256_S2x128x512x128_2_1_013_0_n_n none p wf)
    transposes_S2x128x512x128_S2x128x128x512_0_3_1_2

/-- The cosines and the sines of all the columns. -/
def cosines (a : FVec Ideal S2x8x128 .f32) (b : FVec Ideal S2x16x128 .f32) : FVec Ideal S8x16x128 .f32 := subf (mulf (cosBlock a) (cosRem b)) (mulf (sinBlock a) (sinRem b))
def sines (a : FVec Ideal S2x8x128 .f32) (b : FVec Ideal S2x16x128 .f32) : FVec Ideal S8x16x128 .f32 := addf (mulf (sinBlock a) (cosRem b)) (mulf (cosBlock a) (sinRem b))

/-! ## The stages at an index -/

theorem lows_apply (x : IVec S2x128x128x512 32) (i : S2x128x128x512.Idx) : lows x i = Wave.lo (x i) := rfl
theorem highs_apply (x : IVec S2x128x128x512 32) (i : S2x128x128x512.Idx) : highs x i = Wave.hi (x i) := rfl

theorem block_apply (x : FVec Ideal S1x8x128 .f32) (a : Fin 8) (b : Fin 16) (n : Fin 128) : block x (ValueIdx.ix3 a b n) = x (ValueIdx.ix3 (0 : Fin 1) a n) := by
  unfold block
  pointwise
  rfl
theorem rem_apply (x : FVec Ideal S1x16x128 .f32) (a : Fin 8) (b : Fin 16) (n : Fin 128) : rem x (ValueIdx.ix3 a b n) = x (ValueIdx.ix3 (0 : Fin 1) b n) := by
  unfold rem
  pointwise
  rfl

theorem cosBlock_apply (x : FVec Ideal S2x8x128 .f32) (a : Fin 8) (b : Fin 16) (n : Fin 128) : cosBlock x (ValueIdx.ix3 a b n) = x (ValueIdx.ix3 (0 : Fin 2) a n) := by
  unfold cosBlock
  refine (block_apply _ a b n).trans ?_
  pointwise
  rfl
theorem sinBlock_apply (x : FVec Ideal S2x8x128 .f32) (a : Fin 8) (b : Fin 16) (n : Fin 128) : sinBlock x (ValueIdx.ix3 a b n) = x (ValueIdx.ix3 (1 : Fin 2) a n) := by
  unfold sinBlock
  refine (block_apply _ a b n).trans ?_
  pointwise
  rfl
theorem cosRem_apply (x : FVec Ideal S2x16x128 .f32) (a : Fin 8) (b : Fin 16) (n : Fin 128) : cosRem x (ValueIdx.ix3 a b n) = x (ValueIdx.ix3 (0 : Fin 2) b n) := by
  unfold cosRem
  refine (rem_apply _ a b n).trans ?_
  pointwise
  rfl
theorem sinRem_apply (x : FVec Ideal S2x16x128 .f32) (a : Fin 8) (b : Fin 16) (n : Fin 128) : sinRem x (ValueIdx.ix3 a b n) = x (ValueIdx.ix3 (1 : Fin 2) b n) := by
  unfold sinRem
  refine (rem_apply _ a b n).trans ?_
  pointwise
  rfl

theorem wide_apply (x : FVec Ideal S8x16x128 .f32) (B : Fin 2) (q n : Fin 128) (d : Fin 512) :
    wide x (ValueIdx.ix4 B q n d) = x (ValueIdx.ix3 (⟨q.val / 16, by have := q.isLt; omega⟩ : Fin 8) (⟨q.val % 16, by omega⟩ : Fin 16) n) := by
  unfold wide
  pointwise
  rfl

theorem beside_apply (a b : FVec Ideal S2x128x128x512 .f32) (B : Fin 2) (q : Fin 128) (n : Fin 256) (d : Fin 512) :
    beside a b (ValueIdx.ix4 B q n d)
      = if h : n.val < 128 then a (ValueIdx.ix4 B q (⟨n.val, h⟩ : Fin 128) d) else b (ValueIdx.ix4 B q (⟨n.val - 128, by have := n.isLt; omega⟩ : Fin 128) d) := by
  unfold beside
  pointwise
  rfl

theorem last_apply (p : FVec Ideal S2x128x256x512 .f32) (wf : FVec Ideal S128x256 .f32) (B : Fin 2) (k q : Fin 128) (d : Fin 512) :
    last p wf (ValueIdx.ix4 B k q d) = ∑ n : Fin 256, p (ValueIdx.ix4 B q n d) * wf (ValueIdx.ix2 k n) := by
  unfold last
  pointwise
  rfl

/-! ## The result -/

theorem cosines_apply (a : FVec Ideal S2x8x128 .f32) (b : FVec Ideal S2x16x128 .f32) (j : Fin 8) (r : Fin 16) (n : Fin 128) :
    cosines a b (ValueIdx.ix3 j r n)
      = Wave.cosOf (a (ValueIdx.ix3 (0 : Fin 2) j n)) (a (ValueIdx.ix3 (1 : Fin 2) j n)) (b (ValueIdx.ix3 (0 : Fin 2) r n)) (b (ValueIdx.ix3 (1 : Fin 2) r n)) :=
  congrArg₂ (fun x y : EReal => x - y) (congrArg₂ (fun x y : EReal => x * y) (cosBlock_apply a j r n) (cosRem_apply b j r n)) (congrArg₂ (fun x y : EReal => x * y) (sinBlock_apply a j r n) (sinRem_apply b j r n))
theorem sines_apply (a : FVec Ideal S2x8x128 .f32) (b : FVec Ideal S2x16x128 .f32) (j : Fin 8) (r : Fin 16) (n : Fin 128) :
    sines a b (ValueIdx.ix3 j r n)
      = Wave.sinOf (a (ValueIdx.ix3 (0 : Fin 2) j n)) (a (ValueIdx.ix3 (1 : Fin 2) j n)) (b (ValueIdx.ix3 (0 : Fin 2) r n)) (b (ValueIdx.ix3 (1 : Fin 2) r n)) :=
  congrArg₂ (fun x y : EReal => x + y) (congrArg₂ (fun x y : EReal => x * y) (sinBlock_apply a j r n) (cosRem_apply b j r n)) (congrArg₂ (fun x y : EReal => x * y) (cosBlock_apply a j r n) (sinRem_apply b j r n))

variable (m : (ℓ : Loc nD τ sig) → Buf (Elt Ideal) ℓ) (c : Dev nD)

abbrev A0 : Vec Ideal S2x128x128x512 .i32 := m ((c.tc : Thread nD τ).loc main_arg0)

/-- The constants: the blocks' table, the columns' table and the matrix. -/
def T1 : Vec Ideal S2x8x128 .f32 := fun i => FloatOps.ofBits (F := Ideal) .f32 (lit0 (S2x8x128.rowMajor i))
def T2 : Vec Ideal S2x16x128 .f32 := fun i => FloatOps.ofBits (F := Ideal) .f32 (lit1 (S2x16x128.rowMajor i))
def T3 : Vec Ideal S128x256 .f32 := fun i => FloatOps.ofBits (F := Ideal) .f32 (lit2 (S128x256.rowMajor i))

/-- Element (k, q) of the transform of sequence B, at channel d. -/
def Y (B : Fin 2) (k q : Fin 128) (d : Fin 512) : EReal :=
  Wave.wave (fun n => T3 (ValueIdx.ix2 k n)) (fun n => A0 m c (ValueIdx.ix4 B q n d))
    (fun n => T1 (ValueIdx.ix3 (0 : Fin 2) (⟨q.val / 16, by have := q.isLt; omega⟩ : Fin 8) n)) (fun n => T1 (ValueIdx.ix3 (1 : Fin 2) (⟨q.val / 16, by have := q.isLt; omega⟩ : Fin 8) n))
    (fun n => T2 (ValueIdx.ix3 (0 : Fin 2) (⟨q.val % 16, by omega⟩ : Fin 16) n)) (fun n => T2 (ValueIdx.ix3 (1 : Fin 2) (⟨q.val % 16, by omega⟩ : Fin 16) n))

/-- The reference's result is those stages. -/
theorem res_stages : Value.res_main_v46 (F := Ideal) m c
    = last (turned (wide (cosines T1 T2)) (wide (sines T1 T2)) (lows (A0 m c)) (highs (A0 m c))) T3 := by
  unfold Value.res_main_v46
  rfl

theorem stages_apply (B : Fin 2) (k q : Fin 128) (d : Fin 512) :
    last (turned (wide (cosines T1 T2)) (wide (sines T1 T2)) (lows (A0 m c)) (highs (A0 m c))) T3 (ValueIdx.ix4 B k q d) = Y m c B k q d := by
  have hc := fun n : Fin 128 => (wide_apply (cosines T1 T2) B q n d).trans (cosines_apply _ _ _ _ n)
  have hs := fun n : Fin 128 => (wide_apply (sines T1 T2) B q n d).trans (sines_apply _ _ _ _ n)
  refine (last_apply _ _ B k q d).trans (Finset.sum_congr rfl fun n _ => (mul_comm _ _).trans (congrArg (fun x => T3 (ValueIdx.ix2 k n) * x) ?_))
  refine (beside_apply _ _ B q n d).trans ?_
  unfold Wave.parts
  split_ifs with h
  · exact congrArg₂ (fun x y : EReal => x + y) (congrArg (fun x : EReal => Wave.lo _ * x) (hc _)) (congrArg (fun x : EReal => Wave.hi _ * x) (hs _))
  · exact congrArg₂ (fun x y : EReal => x - y) (congrArg (fun x : EReal => Wave.hi _ * x) (hc _)) (congrArg (fun x : EReal => Wave.lo _ * x) (hs _))

/-- The reference's result at an index. -/
theorem res_apply (B : Fin 2) (k q : Fin 128) (d : Fin 512) : Value.res_main_v46 (F := Ideal) m c (ValueIdx.ix4 B k q d) = Y m c B k q d :=
  (congrFun (res_stages m c) _).trans (stages_apply m c B k q d)

end Cert.Reference4Ideal.Ref

end
-- ==== Proof.Wave.Equal.lean ====
/- Hand-written: from equal arguments, the reference's transform is the kernel's output array. -/
module

public import proofs.«01_k».proof.Proof.Wave.Out
public import proofs.«01_k».proof.Proof.Wave.Ref

@[expose] public section

noncomputable section

namespace Cert.Proof

open Idealize.ShloMosaic Idealize.ShloMosaic.TcCoe

/-- The two programs' constants, word by word the same. -/
theorem sameT1 : Reference4Ideal.Ref.T1 = Kernel4Ideal.Out.T1 := rfl
theorem sameT2 : Reference4Ideal.Ref.T2 = Kernel4Ideal.Out.T2 := rfl
set_option maxHeartbeats 8000000 in
theorem sameT3 : Reference4Ideal.Ref.T3 = Kernel4Ideal.Out.T3 := rfl

/-- The two programs' argument, equal. -/
structure SameWave (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD) : Prop where
  h0 : Reference4Ideal.Ref.A0 m' c = Kernel4Ideal.Out.A0 m c

variable {m : (ℓ : Loc Kernel4Ideal.nD Kernel4Ideal.τ Kernel4Ideal.sig) → Buf (Elt Ideal) ℓ}
  {m' : (ℓ : Loc Reference4Ideal.nD Reference4Ideal.τ Reference4Ideal.sig) → Buf (Elt Ideal) ℓ} {c : Dev Kernel4Ideal.nD}

theorem at_four (i : Reference4Ideal.S2x128x128x512.Idx) : i = ValueIdx.ix4 (i 0 : Fin 2) (i 1 : Fin 128) (i 2 : Fin 128) (i 3 : Fin 512) := by
  funext a; match a with
  | ⟨0, _⟩ => rfl
  | ⟨1, _⟩ => rfl
  | ⟨2, _⟩ => rfl
  | ⟨3, _⟩ => rfl

/-- The same element of the transform. -/
theorem sameY (h : SameWave m m' c) (B : Fin 2) (k q : Fin 128) (d : Fin 512) : Reference4Ideal.Ref.Y m' c B k q d = Kernel4Ideal.Out.Y m c B k q d := by
  unfold Reference4Ideal.Ref.Y Kernel4Ideal.Out.Y
  rw [h.h0, sameT1, sameT2, sameT3]

/-- The two transforms, equal element by element. -/
theorem equalY (h : SameWave m m' c) :
    (Reference4Ideal.Value.res_main_v46 (F := Ideal) m' c : FVec Ideal Reference4Ideal.S2x128x128x512 .f32) = Kernel4Ideal.Out.outA m c := by
  funext i
  exact (congrArg (Reference4Ideal.Value.res_main_v46 (F := Ideal) m' c) (at_four i)).trans ((Reference4Ideal.Ref.res_apply m' c (i 0) (i 1) (i 2) (i 3)).trans (sameY h _ _ _ _))

end Cert.Proof

end
-- ==== Proof.lean ====
/- Hand-written: the claims. Of the experts' call: from the kernel's run (Proof/Kern), the reference's run (generated) and the
   equality of their results (Proof/Equal.lean). Of the call after the mixers, of the input projection's call and of
   the Fourier mixer's last step: from both programs' runs (generated) and the equality of their results (Proof/Mix, Proof/Proj, Proof/Wave). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_rows_fit
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.On_tokens
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Equal
public import proofs.«01_k».proof.Proof.Same
public import proofs.«01_k».proof.Proof.Mix.Given
public import proofs.«01_k».proof.Proof.Mix.Equal
public import proofs.«01_k».proof.Proof.Proj.Equal
public import proofs.«01_k».proof.Proof.Wave.Equal
public import Idealize.ShloMosaic.Lib.Bf16Pair
public import Idealize.ShloMosaic.Adequacy
public import Idealize.ShloMosaic.Init

@[expose] public section

noncomputable section

namespace Cert.Proof

open Idealize.ShloMosaic Idealize.ShloMosaic.TcCoe Idealize.SL.Sem Cert.Plan

/-- The precondition makes the counts a plan that fits. -/
theorem fits (m : (ℓ : Loc KernelIdeal.nD KernelIdeal.τ KernelIdeal.sig) → Buf (Elt Ideal) ℓ) (h : Cert.Pre_KernelIdeal m) :
    Fits (KernelIdeal.Kern.counts m 0) := fits_of_pre _ _ _ _ _ _ (h 0)

theorem fits_bits (m : (ℓ : Loc KernelIdeal.nD KernelIdeal.τ KernelIdeal.sig) → Buf (Elt Bits) ℓ) (h : Cert.Pre_Kernel m) :
    Fits (KernelIdeal.Kern.counts m 0) := fits_of_pre _ _ _ _ _ _ (h 0)

/-- The kernel as printed runs, leaves its arguments as they were and every counter at zero. -/
theorem frame_kernel : Cert.quiescent_Kernel := fun m ρ h => same_run m ρ _
  ((θ_run Cert.KernelIdeal.defs _ _).mono (fun _ hr => ⟨fun c => (hr.1 c).2, hr.2⟩)
    (KernelIdeal.Kern.run_args (F := Bits) m ρ (KernelIdeal.Kern.ok_of_fits m (fits_bits m h))))

/-- So does the kernel over the extended reals. -/
theorem frame_kernelIdeal : Cert.quiescent_KernelIdeal := fun m ρ h =>
  (θ_run Cert.KernelIdeal.defs _ _).mono (fun _ hr => ⟨fun c => (hr.1 c).2, hr.2⟩)
    (KernelIdeal.Kern.run_args (F := Ideal) m ρ (KernelIdeal.Kern.ok_of_fits m (fits m h)))

/-- And the reference, from any arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The kernel and the reference, from equal arguments, end with equal results. -/
theorem algebraic : Cert.algebraic_KernelIdeal_ReferenceIdeal := fun m ρ m' ρ' h he => by
  have hf := fits m h
  have hO := KernelIdeal.Kern.ok_of_fits m hf
  refine ⟨fun c => KernelIdeal.Kern.outA m c, ?_, ?_⟩
  · exact (θ_run Cert.KernelIdeal.defs _ _).mono (fun _ hr c => ⟨(hr.1 c).1.trans (KernelIdeal.Kern.arr_5 m hf hO c), (hr.1 c).2⟩)
      (KernelIdeal.Kern.run_args (F := Ideal) m ρ hO)
  · exact (θ_run Cert.ReferenceIdeal.defs _ _).mono
      (fun _ hr c => ⟨(hr c).1.trans (equal m m' hf c (he c).1 (he c).2.1 (he c).2.2.1 (he c).2.2.2.1 (he c).2.2.2.2.1 (he c).2.2.2.2.2), (hr c).2⟩)
      (Cert.ReferenceIdeal.Value.run m' ρ')

/-! ## The call after the mixers -/

/-- It runs, leaves its arguments as they were and every counter at zero: as printed, and over the extended reals. -/
theorem frame_kernel2 : Cert.quiescent_Kernel2 := fun m ρ _ => Kernel2.Gen.frame m ρ
theorem frame_kernel2Ideal : Cert.quiescent_Kernel2Ideal := fun m ρ _ => Kernel2Ideal.Gen.frame m ρ

/-- So does its reference. -/
theorem frame_reference2 : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run m ρ)

/-- A word that is zero is not one. -/
theorem off {P : Prop} {b : BitVec 1} (h0 : b = 0#1) (h1 : b = 1#1) : P := absurd (h0.symm.trans h1) (by decide)

/-- The kernel and the reference, from equal arguments with no norm zero, end with equal tokens. -/
theorem algebraic2 : Cert.algebraic_Kernel2Ideal_Reference2Ideal_on_tokens_pre_norms_nonzero := fun m ρ m' ρ' h he => by
  have hn : ∀ c, Kernel2Ideal.Out.Nonzero m c := fun c e => Given.nonzero _ _ _ _ _ _ _ _ _ _ _ _ _ _ _ _ _ (h c) e
  refine ⟨fun c => Kernel2Ideal.Out.outA m c, fun _ _ => 0#32, fun _ _ => (0 : EReal), fun _ _ => 0#32, ?_, ?_⟩
  · refine (θ_run Cert.Kernel2Ideal.defs _ _).mono (fun r hr c => ⟨fun i _ => ?_, fun i => off rfl, fun i => off rfl, fun i => off rfl, hr.2 c⟩)
      (θ_run_and (Kernel2Ideal.Gen.run_main m ρ) (Kernel2Ideal.Gen.unchanged m ρ))
    exact congrFun (((hr.1 c).1 17).trans (Kernel2Ideal.Out.arr_17 m c (hn c))) i
  · refine (θ_run Cert.Reference2Ideal.defs _ _).mono (fun r hr c => ⟨fun i _ => ?_, fun i => off rfl, fun i => off rfl, fun i => off rfl, (hr c).2.2.2.2⟩)
      (Cert.Reference2Ideal.Value.run m' ρ')
    exact congrFun ((hr c).1.trans (equalMix m m' c ((he c).1) ((he c).2.1) ((he c).2.2.1) ((he c).2.2.2.1) ((he c).2.2.2.2.1) ((he c).2.2.2.2.2.1) ((he c).2.2.2.2.2.2.1) ((he c).2.2.2.2.2.2.2.1) ((he c).2.2.2.2.2.2.2.2.1) ((he c).2.2.2.2.2.2.2.2.2.1) ((he c).2.2.2.2.2.2.2.2.2.2.1) ((he c).2.2.2.2.2.2.2.2.2.2.2.1) ((he c).2.2.2.2.2.2.2.2.2.2.2.2.1) ((he c).2.2.2.2.2.2.2.2.2.2.2.2.2.1) ((he c).2.2.2.2.2.2.2.2.2.2.2.2.2.2.1))) i

/-! ## The input projection's call -/

/-- It runs, leaves its arguments as they were and every counter at zero: as printed, and over the extended reals. -/
theorem frame_kernel3 : Cert.quiescent_Kernel3 := fun m ρ _ => Kernel3.Gen.frame m ρ
theorem frame_kernel3Ideal : Cert.quiescent_Kernel3Ideal := fun m ρ _ => Kernel3Ideal.Gen.frame m ρ

/-- So does its reference. -/
theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run m ρ)

/-- The pairs of sixteen-bit floats it packs into words are those pairs. -/
theorem preserves3 : Cert.preserves_Kernel3_Kernel3Ideal := ⟨IdealRules.bf16_pair.packStatement _, IdealRules.bf16_pair.statement _ _⟩

/-- The kernel and the reference, from equal arguments, end with equal results: the transformed columns and the convolved ones. -/
theorem algebraic3 : Cert.algebraic_Kernel3Ideal_Reference3Ideal := fun m ρ m' ρ' _ he => by
  have hs : ∀ c, SameProj m m' c := fun c => ⟨(he c).1, (he c).2.1, (he c).2.2.1, (he c).2.2.2.1, (he c).2.2.2.2.1, (he c).2.2.2.2.2.1, (he c).2.2.2.2.2.2.1, (he c).2.2.2.2.2.2.2⟩
  refine ⟨fun c => Kernel3Ideal.Out.outZ m c, fun c => Kernel3Ideal.Out.outX m c, fun c => Kernel3Ideal.Out.outW m c, ?_, ?_⟩
  · exact (θ_run Cert.Kernel3Ideal.defs _ _).mono (fun r hr c => ⟨((hr.1 c).1 10).trans (Kernel3Ideal.Out.arr_10 m c), ((hr.1 c).1 11).trans (Kernel3Ideal.Out.arr_11 m c),
        ((hr.1 c).1 12).trans (Kernel3Ideal.Out.arr_12 m c), hr.2 c⟩)
      (θ_run_and (Kernel3Ideal.Gen.run_main m ρ) (Kernel3Ideal.Gen.unchanged m ρ))
  · exact (θ_run Cert.Reference3Ideal.defs _ _).mono (fun r hr c => ⟨(hr c).1.trans (equalZ (hs c)), (hr c).2.1.trans (equalX (hs c)),
        (hr c).2.2.1.trans (equalW (hs c)), (hr c).2.2.2⟩)
      (Cert.Reference3Ideal.Value.run m' ρ')

/-! ## The Fourier mixer's last step -/

/-- It runs, leaves its arguments as they were and every counter at zero: as printed, and over the extended reals. -/
theorem frame_kernel4 : Cert.quiescent_Kernel4 := fun m ρ _ => Kernel4.Gen.frame m ρ
theorem frame_kernel4Ideal : Cert.quiescent_Kernel4Ideal := fun m ρ _ => Kernel4Ideal.Gen.frame m ρ

/-- So does its reference. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

/-- The kernel and the reference, from equal arguments, end with equal transforms. -/
theorem algebraic4 : Cert.algebraic_Kernel4Ideal_Reference4Ideal := fun m ρ m' ρ' _ he => by
  have hs : ∀ c, SameWave m m' c := fun c => ⟨he c⟩
  refine ⟨fun c => Kernel4Ideal.Out.outA m c, ?_, ?_⟩
  · exact (θ_run Cert.Kernel4Ideal.defs _ _).mono (fun r hr c => ⟨((hr.1 c).1 4).trans (Kernel4Ideal.Out.arr_4 m c), hr.2 c⟩)
      (θ_run_and (Kernel4Ideal.Gen.run_main m ρ) (Kernel4Ideal.Gen.unchanged m ρ))
  · exact (θ_run Cert.Reference4Ideal.defs _ _).mono (fun r hr c => ⟨(hr c).1.trans (equalY (hs c)), (hr c).2⟩)
      (Cert.Reference4Ideal.Value.run m' ρ')

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_rows_fit.Gen.facts, Cert.Given.facts, Cert.On_tokens.Gen.facts,
  frame_kernel, frame_kernelIdeal, frame_reference, fun m ρ _ => frame_reference m ρ trivial,
  frame_kernel2, frame_kernel2Ideal, fun m ρ _ => frame_kernel2Ideal m ρ trivial, frame_reference2, fun m ρ _ => frame_reference2 m ρ trivial,
  frame_kernel3, frame_kernel3Ideal, frame_reference3, frame_kernel4, frame_kernel4Ideal, frame_reference4,
  trivial, algebraic, trivial, algebraic2, preserves3, algebraic3, trivial, algebraic4⟩

end Cert.Proof

end
